-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "log_decay0" .f32 0xBD020AEC#32 ((Real.log (31 / 32) : ℝ) : EReal)
  ∧ IdealRules.named_const.Statement Cert.KernelIdeal.κ "chunk_decay0" .f32 0x3EB95F50#32 ((529144398052420314716929933900838757437386767361 / 1461501637330902918203684832716283019655932542976 : ℝ) : EReal)
  ∧ IdealRules.named_const.Statement Cert.KernelIdeal.κ "log_decay1" .f32 0xBC8102B3#32 ((Real.log (63 / 64) : ℝ) : EReal)
  ∧ IdealRules.named_const.Statement Cert.KernelIdeal.κ "chunk_decay1" .f32 0x3F1AA8FF#32 ((3792255435734639939700427436560372449070499280862066964481 / 6277101735386680763835789423207666416102355444464034512896 : ℝ) : EReal)
  ∧ IdealRules.named_const.Statement Cert.KernelIdeal.κ "log_decay2" .f32 0xBC0080AC#32 ((Real.log (127 / 128) : ℝ) : EReal)
  ∧ IdealRules.named_const.Statement Cert.KernelIdeal.κ "chunk_decay2" .f32 0x3F472D69#32 ((20975825942850835435487946371038619427046538071435595461971578449921 / 26959946667150639794667015087019630673637144422540572481103610249216 : ℝ) : EReal)
  ∧ IdealRules.named_const.Statement Cert.KernelIdeal.κ "log_decay3" .f32 0xBB80402B#32 ((Real.log (255 / 256) : ℝ) : EReal)
  ∧ IdealRules.named_const.Statement Cert.KernelIdeal.κ "chunk_decay3" .f32 0x3F61DD29#32 ((102161150204658159326162171757797299165741800222807601117528975009918212890625 / 115792089237316195423570985008687907853269984665640564039457584007913129639936 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)) (v4 : (c : Dev Cert.KernelIdeal.nD) → Buf (Elt Ideal) ((c.tc : Thread Cert.KernelIdeal.nD Cert.KernelIdeal.τ).loc Cert.KernelIdeal.main_v32_4)) (v5 : (c : Dev Cert.KernelIdeal.nD) → Buf (Elt Ideal) ((c.tc : Thread Cert.KernelIdeal.nD Cert.KernelIdeal.τ).loc Cert.KernelIdeal.main_v32_5)) (v6 : (c : Dev Cert.KernelIdeal.nD) → Buf (Elt Ideal) ((c.tc : Thread Cert.KernelIdeal.nD Cert.KernelIdeal.τ).loc Cert.KernelIdeal.main_v32_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_v32_4) = v4 c
          ∧ r.2.mem ((c.tc : Thread Cert.KernelIdeal.nD Cert.KernelIdeal.τ).loc Cert.KernelIdeal.main_v32_5) = v5 c
          ∧ r.2.mem ((c.tc : Thread Cert.KernelIdeal.nD Cert.KernelIdeal.τ).loc Cert.KernelIdeal.main_v32_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v341) = v0 c
          ∧ r.2.mem ((c.tc : Thread Cert.ReferenceIdeal.nD Cert.ReferenceIdeal.τ).loc Cert.ReferenceIdeal.main_v342) = v1 c
          ∧ r.2.mem ((c.tc : Thread Cert.ReferenceIdeal.nD Cert.ReferenceIdeal.τ).loc Cert.ReferenceIdeal.main_v219) = v2 c
          ∧ r.2.mem ((c.tc : Thread Cert.ReferenceIdeal.nD Cert.ReferenceIdeal.τ).loc Cert.ReferenceIdeal.main_v282) = v3 c
          ∧ r.2.mem ((c.tc : Thread Cert.ReferenceIdeal.nD Cert.ReferenceIdeal.τ).loc Cert.ReferenceIdeal.main_v287) = v4 c
          ∧ r.2.mem ((c.tc : Thread Cert.ReferenceIdeal.nD Cert.ReferenceIdeal.τ).loc Cert.ReferenceIdeal.main_v337) = v5 c
          ∧ r.2.mem ((c.tc : Thread Cert.ReferenceIdeal.nD Cert.ReferenceIdeal.τ).loc Cert.ReferenceIdeal.main_v340) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x32x2048 : Shape := ⟨3, ![16, 32, 2048]⟩
abbrev S16x32x1536 : Shape := ⟨3, ![16, 32, 1536]⟩
abbrev S16x32x128 : Shape := ⟨3, ![16, 32, 128]⟩
abbrev S16x4x128x128 : Shape := ⟨4, ![16, 4, 128, 128]⟩
abbrev S16x4x128 : Shape := ⟨3, ![16, 4, 128]⟩
abbrev S16x4 : Shape := ⟨2, ![16, 4]⟩
abbrev S16x3x512 : Shape := ⟨3, ![16, 3, 512]⟩
abbrev S512 : Shape := ⟨1, ![512]⟩
abbrev S4x128x128 : Shape := ⟨3, ![4, 128, 128]⟩
abbrev S4x512 : Shape := ⟨2, ![4, 512]⟩
abbrev S4 : Shape := ⟨1, ![4]⟩
abbrev S32 : Shape := ⟨1, ![32]⟩
abbrev S_ : Shape := ⟨0, ![]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S16x4x1 : Shape := ⟨3, ![16, 4, 1]⟩
abbrev S16x8x512 : Shape := ⟨3, ![16, 8, 512]⟩
abbrev S8 : Shape := ⟨1, ![8]⟩
abbrev S128 : Shape := ⟨1, ![128]⟩
abbrev S1x128 : Shape := ⟨2, ![1, 128]⟩
abbrev S1x512 : Shape := ⟨2, ![1, 512]⟩
abbrev S16x32x512 : Shape := ⟨3, ![16, 32, 512]⟩
abbrev S4x32x2048 : Shape := ⟨3, ![4, 32, 2048]⟩
abbrev S4x32x1536 : Shape := ⟨3, ![4, 32, 1536]⟩
abbrev S4x32x128 : Shape := ⟨3, ![4, 32, 128]⟩
abbrev S4x4x128x128 : Shape := ⟨4, ![4, 4, 128, 128]⟩
abbrev S4x4x128 : Shape := ⟨3, ![4, 4, 128]⟩
abbrev S4x8x512 : Shape := ⟨3, ![4, 8, 512]⟩
abbrev S4x32x512 : Shape := ⟨3, ![4, 32, 512]⟩
abbrev S32x32 : Shape := ⟨2, ![32, 32]⟩
abbrev S1x32x2048 : Shape := ⟨3, ![1, 32, 2048]⟩
abbrev S32x2048 : Shape := ⟨2, ![32, 2048]⟩
abbrev S1x1x128x128 : Shape := ⟨4, ![1, 1, 128, 128]⟩
abbrev S128x128 : Shape := ⟨2, ![128, 128]⟩
abbrev S96x128 : Shape := ⟨2, ![96, 128]⟩
abbrev S32x512 : Shape := ⟨2, ![32, 512]⟩
abbrev S1x32x512 : Shape := ⟨3, ![1, 32, 512]⟩
abbrev S1x32x1536 : Shape := ⟨3, ![1, 32, 1536]⟩
abbrev S32x1536 : Shape := ⟨2, ![32, 1536]⟩
abbrev S1x8x512 : Shape := ⟨3, ![1, 8, 512]⟩
abbrev S8x512 : Shape := ⟨2, ![8, 512]⟩
abbrev S40x512 : Shape := ⟨2, ![40, 512]⟩
abbrev S1x32x128 : Shape := ⟨3, ![1, 32, 128]⟩
abbrev S1x128x128 : Shape := ⟨3, ![1, 128, 128]⟩
abbrev S1x32 : Shape := ⟨2, ![1, 32]⟩
abbrev S1x1x1 : Shape := ⟨3, ![1, 1, 1]⟩
abbrev S1x1 : Shape := ⟨2, ![1, 1]⟩
abbrev S1x1x128 : Shape := ⟨3, ![1, 1, 128]⟩

abbrev nBuf : Space → Nat
  | .hbm => 63
  | .vmem => 45
  | .smem => 0
  | _ => 0

abbrev bufTy : (tb : Table) → Fin (tcTables nBuf tb) → BufTy
  | .hbm, ⟨0, _⟩ => ⟨S16x32x2048, .f32⟩
  | .hbm, ⟨1, _⟩ => ⟨S16x32x1536, .f32⟩
  | .hbm, ⟨2, _⟩ => ⟨S16x32x128, .f32⟩
  | .hbm, ⟨3, _⟩ => ⟨S16x4x128x128, .f32⟩
  | .hbm, ⟨4, _⟩ => ⟨S16x4x128x128, .f32⟩
  | .hbm, ⟨5, _⟩ => ⟨S16x4x128, .f32⟩
  | .hbm, ⟨6, _⟩ => ⟨S16x4, .f32⟩
  | .hbm, ⟨7, _⟩ => ⟨S16x3x512, .f32⟩
  | .hbm, ⟨8, _⟩ => ⟨S512, .f32⟩
  | .hbm, ⟨9, _⟩ => ⟨S4x128x128, .f32⟩
  | .hbm, ⟨10, _⟩ => ⟨S4x128x128, .f32⟩
  | .hbm, ⟨11, _⟩ => ⟨S4x512, .f32⟩
  | .hbm, ⟨12, _⟩ => ⟨S512, .f32⟩
  | .hbm, ⟨13, _⟩ => ⟨S4, .f32⟩
  | .hbm, ⟨14, _⟩ => ⟨S4, .f32⟩
  | .hbm, ⟨15, _⟩ => ⟨S512, .f32⟩
  | .hbm, ⟨16, _⟩ => ⟨S512, .f32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S32, .f32⟩
  | .hbm, ⟨30, _⟩ => ⟨S32x1, .f32⟩
  | .hbm, ⟨31, _⟩ => ⟨S1x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64, .f32⟩
  | .hbm, ⟨37, _⟩ => ⟨S32x128, .f32⟩
  | .hbm, ⟨38, _⟩ => ⟨S32x64, .f32⟩
  | .hbm, ⟨39, _⟩ => ⟨S32x128, .f32⟩
  | .hbm, ⟨40, _⟩ => ⟨S16x4x1, .f32⟩
  | .hbm, ⟨41, _⟩ => ⟨S16x4x128, .f32⟩
  | .hbm, ⟨42, _⟩ => ⟨S_, .i32⟩
  | .hbm, ⟨43, _⟩ => ⟨S_, .f32⟩
  | .hbm, ⟨44, _⟩ => ⟨S16x8x512, .f32⟩
  | .hbm, ⟨45, _⟩ => ⟨S8, .f32⟩
  | .hbm, ⟨46, _⟩ => ⟨S_, .i32⟩
  | .hbm, ⟨47, _⟩ => ⟨S_, .f32⟩
  | .hbm, ⟨48, _⟩ => ⟨S128, .f32⟩
  | .hbm, ⟨49, _⟩ => ⟨S1x128, .f32⟩
  | .hbm, ⟨50, _⟩ => ⟨S1x512, .f32⟩
  | .hbm, ⟨51, _⟩ => ⟨S4x128x128, .bf16⟩
  | .hbm, ⟨52, _⟩ => ⟨S4x128x128, .bf16⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S16x32x512, .bf16⟩
  | .hbm, ⟨57, _⟩ => ⟨S16x32x512, .bf16⟩
  | .hbm, ⟨58, _⟩ => ⟨S16x4x128x128, .f32⟩
  | .hbm, ⟨59, _⟩ => ⟨S16x4x128x128, .f32⟩
  | .hbm, ⟨60, _⟩ => ⟨S16x4x128, .f32⟩
  | .hbm, ⟨61, _⟩ => ⟨S16x4x128, .f32⟩
  | .hbm, ⟨62, _⟩ => ⟨S16x8x512, .f32⟩
  | .local _ .vmem, ⟨0, _⟩ => ⟨S4x32x2048, .f32⟩
  | .local _ .vmem, ⟨1, _⟩ => ⟨S4x32x2048, .f32⟩
  | .local _ .vmem, ⟨2, _⟩ => ⟨S4x32x1536, .f32⟩
  | .local _ .vmem, ⟨3, _⟩ => ⟨S4x32x1536, .f32⟩
  | .local _ .vmem, ⟨4, _⟩ => ⟨S4x32x128, .f32⟩
  | .local _ .vmem, ⟨5, _⟩ => ⟨S4x32x128, .f32⟩
  | .local _ .vmem, ⟨6, _⟩ => ⟨S32x128, .f32⟩
  | .local _ .vmem, ⟨7, _⟩ => ⟨S32x128, .f32⟩
  | .local _ .vmem, ⟨8, _⟩ => ⟨S4x4x128x128, .f32⟩
  | .local _ .vmem, ⟨9, _⟩ => ⟨S4x4x128x128, .f32⟩
  | .local _ .vmem, ⟨10, _⟩ => ⟨S4x4x128x128, .f32⟩
  | .local _ .vmem, ⟨11, _⟩ => ⟨S4x4x128x128, .f32⟩
  | .local _ .vmem, ⟨12, _⟩ => ⟨S4x4x128, .f32⟩
  | .local _ .vmem, ⟨13, _⟩ => ⟨S4x4x128, .f32⟩
  | .local _ .vmem, ⟨14, _⟩ => ⟨S4x4x128, .f32⟩
  | .local _ .vmem, ⟨15, _⟩ => ⟨S4x4x128, .f32⟩
  | .local _ .vmem, ⟨16, _⟩ => ⟨S4x8x512, .f32⟩
  | .local _ .vmem, ⟨17, _⟩ => ⟨S4x8x512, .f32⟩
  | .local _ .vmem, ⟨18, _⟩ => ⟨S1x512, .f32⟩
  | .local _ .vmem, ⟨19, _⟩ => ⟨S4x128x128, .bf16⟩
  | .local _ .vmem, ⟨20, _⟩ => ⟨S4x128x128, .bf16⟩
  | .local _ .vmem, ⟨21, _⟩ => ⟨S4x512, .f32⟩
  | .local _ .vmem, ⟨22, _⟩ => ⟨S1x512, .f32⟩
  | .local _ .vmem, ⟨23, _⟩ => ⟨S1x128, .f32⟩
  | .local _ .vmem, ⟨24, _⟩ => ⟨S1x512, .f32⟩
  | .local _ .vmem, ⟨25, _⟩ => ⟨S1x512, .f32⟩
  | .local _ .vmem, ⟨26, _⟩ => ⟨S4x32x512, .bf16⟩
  | .local _ .vmem, ⟨27, _⟩ => ⟨S4x32x512, .bf16⟩
  | .local _ .vmem, ⟨28, _⟩ => ⟨S4x32x512, .bf16⟩
  | .local _ .vmem, ⟨29, _⟩ => ⟨S4x32x512, .bf16⟩
  | .local _ .vmem, ⟨30, _⟩ => ⟨S4x4x128x128, .f32⟩
  | .local _ .vmem, ⟨31, _⟩ => ⟨S4x4x128x128, .f32⟩
  | .local _ .vmem, ⟨32, _⟩ => ⟨S4x4x128x128, .f32⟩
  | .local _ .vmem, ⟨33, _⟩ => ⟨S4x4x128x128, .f32⟩
  | .local _ .vmem, ⟨34, _⟩ => ⟨S4x4x128, .f32⟩
  | .local _ .vmem, ⟨35, _⟩ => ⟨S4x4x128, .f32⟩
  | .local _ .vmem, ⟨36, _⟩ => ⟨S4x4x128, .f32⟩
  | .local _ .vmem, ⟨37, _⟩ => ⟨S4x4x128, .f32⟩
  | .local _ .vmem, ⟨38, _⟩ => ⟨S4x8x512, .f32⟩
  | .local _ .vmem, ⟨39, _⟩ => ⟨S4x8x512, .f32⟩
  | .local _ .vmem, ⟨40, _⟩ => ⟨S4x4x128x128, .f32⟩
  | .local _ .vmem, ⟨41, _⟩ => ⟨S4x4x128x128, .f32⟩
  | .local _ .vmem, ⟨42, _⟩ => ⟨S4x4x128, .f32⟩
  | .local _ .vmem, ⟨43, _⟩ => ⟨S4x4x128, .f32⟩
  | .local _ .vmem, ⟨44, _⟩ => ⟨S4x8x512, .f32⟩
  | _, _ => ⟨S16x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_call0_v0 : Ref sig .tc := ⟨.hbm, 43, rfl⟩
abbrev main_v22 : Ref sig .tc := ⟨.hbm, 44, rfl⟩
abbrev main_v23 : Ref sig .tc := ⟨.hbm, 45, rfl⟩
abbrev main_c_2 : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32_0 : Ref sig .tc := ⟨.hbm, 56, rfl⟩
abbrev main_v32_1 : Ref sig .tc := ⟨.hbm, 57, rfl⟩
abbrev main_v32_2 : Ref sig .tc := ⟨.hbm, 58, rfl⟩
abbrev main_v32_3 : Ref sig .tc := ⟨.hbm, 59, rfl⟩
abbrev main_v32_4 : Ref sig .tc := ⟨.hbm, 60, rfl⟩
abbrev main_v32_5 : Ref sig .tc := ⟨.hbm, 61, rfl⟩
abbrev main_v32_6 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_1406 : BitVec 32 := 0#32
  let v3657 : BitVec 1 := Scalar.cmpi .eq arg1 c0_i32_1406
  let v3658 : BitVec 32 := Scalar.extui v3657
  let c0_i32_1407 : BitVec 32 := 0#32
  let v3659 : BitVec 1 := Scalar.cmpi .ne v3658 c0_i32_1407
  v3659

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x32x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S4x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S4x32x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S4x32x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S4x4x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S4x4x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S4x4x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S4x4x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]

abbrev stage0_24 : Fin 2 → Memref sig .tc .vmem S4x8x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]
-- ==== KernelIdeal.lean ====
variable {F : FTy → Type} [FloatOps F] [Named F]
def κ : String → Option EReal := fun
  | "chunk_decay0" => some ((529144398052420314716929933900838757437386767361 / 1461501637330902918203684832716283019655932542976 : ℝ) : EReal)
  | "chunk_decay1" => some ((3792255435734639939700427436560372449070499280862066964481 / 6277101735386680763835789423207666416102355444464034512896 : ℝ) : EReal)
  | "chunk_decay2" => some ((20975825942850835435487946371038619427046538071435595461971578449921 / 26959946667150639794667015087019630673637144422540572481103610249216 : ℝ) : EReal)
  | "chunk_decay3" => some ((102161150204658159326162171757797299165741800222807601117528975009918212890625 / 115792089237316195423570985008687907853269984665640564039457584007913129639936 : ℝ) : EReal)
  | "log_decay0" => some ((Real.log (31 / 32) : ℝ) : EReal)
  | "log_decay1" => some ((Real.log (63 / 64) : ℝ) : EReal)
  | "log_decay2" => some ((Real.log (127 / 128) : ℝ) : EReal)
  | "log_decay3" => some ((Real.log (255 / 256) : ℝ) : EReal)
  | _ => none
-- ==== ReferenceIdeal.lean ====
abbrev S16x32x2048 : Shape := ⟨3, ![16, 32, 2048]⟩
abbrev S16x32x1536 : Shape := ⟨3, ![16, 32, 1536]⟩
abbrev S16x32x128 : Shape := ⟨3, ![16, 32, 128]⟩
abbrev S16x4x128x128 : Shape := ⟨4, ![16, 4, 128, 128]⟩
abbrev S16x4x128 : Shape := ⟨3, ![16, 4, 128]⟩
abbrev S16x4 : Shape := ⟨2, ![16, 4]⟩
abbrev S16x3x512 : Shape := ⟨3, ![16, 3, 512]⟩
abbrev S512 : Shape := ⟨1, ![512]⟩
abbrev S4x128x128 : Shape := ⟨3, ![4, 128, 128]⟩
abbrev S4x512 : Shape := ⟨2, ![4, 512]⟩
abbrev S4 : Shape := ⟨1, ![4]⟩
abbrev S32 : Shape := ⟨1, ![32]⟩
abbrev S_ : Shape := ⟨0, ![]⟩
abbrev S16x32x512 : Shape := ⟨3, ![16, 32, 512]⟩
abbrev S16x32x4 : Shape := ⟨3, ![16, 32, 4]⟩
abbrev S16x32x4x128 : Shape := ⟨4, ![16, 32, 4, 128]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S1x32x1x64 : Shape := ⟨4, ![1, 32, 1, 64]⟩
abbrev S16x32x4x64 : Shape := ⟨4, ![16, 32, 4, 64]⟩
abbrev S16x35x512 : Shape := ⟨3, ![16, 35, 512]⟩
abbrev S1x512 : Shape := ⟨2, ![1, 512]⟩
abbrev S1x1x512 : Shape := ⟨3, ![1, 1, 512]⟩
abbrev S4x128x16x32 : Shape := ⟨4, ![4, 128, 16, 32]⟩
abbrev S1x1x4 : Shape := ⟨3, ![1, 1, 4]⟩
abbrev S1x32 : Shape := ⟨2, ![1, 32]⟩
abbrev S32x32 : Shape := ⟨2, ![32, 32]⟩
abbrev S4x1x1 : Shape := ⟨3, ![4, 1, 1]⟩
abbrev S1x32x32 : Shape := ⟨3, ![1, 32, 32]⟩
abbrev S4x32x32 : Shape := ⟨3, ![4, 32, 32]⟩
abbrev S4x1 : Shape := ⟨2, ![4, 1]⟩
abbrev S4x32 : Shape := ⟨2, ![4, 32]⟩
abbrev S1x4x1x1 : Shape := ⟨4, ![1, 4, 1, 1]⟩
abbrev S16x1x32x4x128 : Shape := ⟨5, ![16, 1, 32, 4, 128]⟩
abbrev S1x16x4x32x128 : Shape := ⟨5, ![1, 16, 4, 32, 128]⟩
abbrev S16x1x32x4 : Shape := ⟨4, ![16, 1, 32, 4]⟩
abbrev S1x16x4x32 : Shape := ⟨4, ![1, 16, 4, 32]⟩
abbrev S16x4x32x128 : Shape := ⟨4, ![16, 4, 32, 128]⟩
abbrev S16x4x32 : Shape := ⟨3, ![16, 4, 32]⟩
abbrev S16x4x32x32 : Shape := ⟨4, ![16, 4, 32, 32]⟩
abbrev S1x4x32x32 : Shape := ⟨4, ![1, 4, 32, 32]⟩
abbrev S1x4x32x1 : Shape := ⟨4, ![1, 4, 32, 1]⟩
abbrev S16x4x1x32 : Shape := ⟨4, ![16, 4, 1, 32]⟩
abbrev S16x4x32x1 : Shape := ⟨4, ![16, 4, 32, 1]⟩
abbrev S16x4x1 : Shape := ⟨3, ![16, 4, 1]⟩
abbrev S16x4x1x1 : Shape := ⟨4, ![16, 4, 1, 1]⟩
abbrev S4x1x128 : Shape := ⟨3, ![4, 1, 128]⟩
abbrev S1x4x1x128 : Shape := ⟨4, ![1, 4, 1, 128]⟩
abbrev S16x8x512 : Shape := ⟨3, ![16, 8, 512]⟩

abbrev nBuf : Space → Nat
  | .hbm => 424
  | .vmem => 0
  | .smem => 0
  | _ => 0

abbrev hbmTy0_0 (i : Nat) : BufTy := match i % 128 with
  | 0 => ⟨S16x32x2048, .f32⟩
  | 1 => ⟨S16x32x1536, .f32⟩
  | 2 => ⟨S16x32x128, .f32⟩
  | 3 => ⟨S16x4x128x128, .f32⟩
  | 4 => ⟨S16x4x128x128, .f32⟩
  | 5 => ⟨S16x4x128, .f32⟩
  | 6 => ⟨S16x4, .f32⟩
  | 7 => ⟨S16x3x512, .f32⟩
  | 8 => ⟨S512, .f32⟩
  | 9 => ⟨S4x128x128, .f32⟩
  | 10 => ⟨S4x128x128, .f32⟩
  | 11 => ⟨S4x512, .f32⟩
  | 12 => ⟨S512, .f32⟩
  | 13 => ⟨S4, .f32⟩
  | 14 => ⟨S4, .f32⟩
  | 15 => ⟨S512, .f32⟩
  | 16 => ⟨S512, .f32⟩
  | 17 => ⟨S32, .i32⟩
  | 18 => ⟨S_, .i32⟩
  | 19 => ⟨S32, .i32⟩
  | 20 => ⟨S32, .i32⟩
  | 21 => ⟨S16x32x512, .f32⟩
  | 22 => ⟨S16x32x512, .f32⟩
  | 23 => ⟨S16x32x512, .f32⟩
  | 24 => ⟨S16x32x512, .f32⟩
  | 25 => ⟨S16x32x512, .f32⟩
  | 26 => ⟨S16x32x512, .f32⟩
  | 27 => ⟨S16x32x512, .f32⟩
  | 28 => ⟨S16x32x4, .f32⟩
  | 29 => ⟨S16x32x4, .f32⟩
  | 30 => ⟨S16x32x4x128, .f32⟩
  | 31 => ⟨S64, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S32, .f32⟩
  | 40 => ⟨S32x1, .f32⟩
  | 41 => ⟨S1x64, .f32⟩
  | 42 => ⟨S32x64, .f32⟩
  | 43 => ⟨S32x64, .f32⟩
  | 44 => ⟨S32x64, .f32⟩
  | 45 => ⟨S32x64, .f32⟩
  | 46 => ⟨S1x32x1x64, .f32⟩
  | 47 => ⟨S32x64, .f32⟩
  | 48 => ⟨S1x32x1x64, .f32⟩
  | 49 => ⟨S16x32x4x64, .f32⟩
  | 50 => ⟨S16x32x4x64, .f32⟩
  | 51 => ⟨S16x32x4x64, .f32⟩
  | 52 => ⟨S16x32x4x64, .f32⟩
  | 53 => ⟨S16x32x4x64, .f32⟩
  | 54 => ⟨S16x32x4x64, .f32⟩
  | 55 => ⟨S16x32x4x64, .f32⟩
  | 56 => ⟨S16x32x4x64, .f32⟩
  | 57 => ⟨S16x32x4x64, .f32⟩
  | 58 => ⟨S16x32x4x64, .f32⟩
  | 59 => ⟨S16x32x4x64, .f32⟩
  | 60 => ⟨S16x32x4x64, .f32⟩
  | 61 => ⟨S16x32x4x128, .f32⟩
  | 62 => ⟨S16x32x4x128, .f32⟩
  | 63 => ⟨S64, .f32⟩
  | 64 => ⟨S64, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S32, .f32⟩
  | 72 => ⟨S32x1, .f32⟩
  | 73 => ⟨S1x64, .f32⟩
  | 74 => ⟨S32x64, .f32⟩
  | 75 => ⟨S32x64, .f32⟩
  | 76 => ⟨S32x64, .f32⟩
  | 77 => ⟨S32x64, .f32⟩
  | 78 => ⟨S1x32x1x64, .f32⟩
  | 79 => ⟨S32x64, .f32⟩
  | 80 => ⟨S1x32x1x64, .f32⟩
  | 81 => ⟨S16x32x4x64, .f32⟩
  | 82 => ⟨S16x32x4x64, .f32⟩
  | 83 => ⟨S16x32x4x64, .f32⟩
  | 84 => ⟨S16x32x4x64, .f32⟩
  | 85 => ⟨S16x32x4x64, .f32⟩
  | 86 => ⟨S16x32x4x64, .f32⟩
  | 87 => ⟨S16x32x4x64, .f32⟩
  | 88 => ⟨S16x32x4x64, .f32⟩
  | 89 => ⟨S16x32x4x64, .f32⟩
  | 90 => ⟨S16x32x4x64, .f32⟩
  | 91 => ⟨S16x32x4x64, .f32⟩
  | 92 => ⟨S16x32x4x64, .f32⟩
  | 93 => ⟨S16x32x4x128, .f32⟩
  | 94 => ⟨S_, .f32⟩
  | 95 => ⟨S16x32x4x128, .f32⟩
  | 96 => ⟨S16x32x4x128, .f32⟩
  | 97 => ⟨S16x35x512, .f32⟩
  | 98 => ⟨S16x32x512, .f32⟩
  | 99 => ⟨S1x512, .f32⟩
  | 100 => ⟨S512, .f32⟩
  | 101 => ⟨S1x1x512, .f32⟩
  | 102 => ⟨S16x32x512, .f32⟩
  | 103 => ⟨S16x32x512, .f32⟩
  | 104 => ⟨S1x1x512, .f32⟩
  | 105 => ⟨S16x32x512, .f32⟩
  | 106 => ⟨S16x32x512, .f32⟩
  | 107 => ⟨S16x32x512, .f32⟩
  | 108 => ⟨S1x512, .f32⟩
  | 109 => ⟨S512, .f32⟩
  | 110 => ⟨S1x1x512, .f32⟩
  | 111 => ⟨S16x32x512, .f32⟩
  | 112 => ⟨S16x32x512, .f32⟩
  | 113 => ⟨S16x32x512, .f32⟩
  | 114 => ⟨S16x32x512, .f32⟩
  | 115 => ⟨S1x512, .f32⟩
  | 116 => ⟨S512, .f32⟩
  | 117 => ⟨S1x1x512, .f32⟩
  | 118 => ⟨S16x32x512, .f32⟩
  | 119 => ⟨S16x32x512, .f32⟩
  | 120 => ⟨S16x32x512, .f32⟩
  | 121 => ⟨S16x32x512, .f32⟩
  | 122 => ⟨S1x512, .f32⟩
  | 123 => ⟨S512, .f32⟩
  | 124 => ⟨S1x1x512, .f32⟩
  | 125 => ⟨S16x32x512, .f32⟩
  | 126 => ⟨S16x32x512, .f32⟩
  | 127 => ⟨S16x32x512, .f32⟩
  | _ => ⟨S16x32x2048, .f32⟩

abbrev hbmTy0_1 (i : Nat) : BufTy := match i % 128 with
  | 0 => ⟨S16x32x512, .f32⟩
  | 1 => ⟨S16x32x512, .f32⟩
  | 2 => ⟨S_, .f32⟩
  | 3 => ⟨S16x32x512, .f32⟩
  | 4 => ⟨S16x32x512, .f32⟩
  | 5 => ⟨S_, .f32⟩
  | 6 => ⟨S16x32x512, .f32⟩
  | 7 => ⟨S16x32x512, .f32⟩
  | 8 => ⟨S16x32x512, .f32⟩
  | 9 => ⟨S16x32x4x128, .f32⟩
  | 10 => ⟨S4x128x16x32, .f32⟩
  | 11 => ⟨S16x32x4x128, .f32⟩
  | 12 => ⟨S4x128x16x32, .f32⟩
  | 13 => ⟨S16x32x4x128, .f32⟩
  | 14 => ⟨S_, .f32⟩
  | 15 => ⟨S16x32x4x128, .f32⟩
  | 16 => ⟨S16x32x4x128, .f32⟩
  | 17 => ⟨S1x1x4, .f32⟩
  | 18 => ⟨S16x32x4, .f32⟩
  | 19 => ⟨S16x32x4, .f32⟩
  | 20 => ⟨S1x1x4, .f32⟩
  | 21 => ⟨S16x32x4, .f32⟩
  | 22 => ⟨S16x32x4, .f32⟩
  | 23 => ⟨S16x32x4x128, .f32⟩
  | 24 => ⟨S16x32x4x128, .f32⟩
  | 25 => ⟨S16x32x4x128, .f32⟩
  | 26 => ⟨S16x32x4x128, .f32⟩
  | 27 => ⟨S4, .f32⟩
  | 28 => ⟨S_, .f32⟩
  | 29 => ⟨S4, .f32⟩
  | 30 => ⟨S4, .f32⟩
  | 31 => ⟨S_, .f32⟩
  | 32 => ⟨S4, .f32⟩
  | 33 => ⟨S4, .f32⟩
  | 34 => ⟨S4, .f32⟩
  | 35 => ⟨S4, .f32⟩
  | 36 => ⟨S32, .f32⟩
  | 37 => ⟨S32x1, .f32⟩
  | 38 => ⟨S1x32, .f32⟩
  | 39 => ⟨S32x32, .f32⟩
  | 40 => ⟨S32x32, .f32⟩
  | 41 => ⟨S32x32, .f32⟩
  | 42 => ⟨S_, .f32⟩
  | 43 => ⟨S32x32, .f32⟩
  | 44 => ⟨S32x32, .i1⟩
  | 45 => ⟨S4x1x1, .f32⟩
  | 46 => ⟨S_, .f32⟩
  | 47 => ⟨S32x32, .f32⟩
  | 48 => ⟨S32x32, .f32⟩
  | 49 => ⟨S1x32x32, .f32⟩
  | 50 => ⟨S4x32x32, .f32⟩
  | 51 => ⟨S4x32x32, .f32⟩
  | 52 => ⟨S4x32x32, .f32⟩
  | 53 => ⟨S4x32x32, .f32⟩
  | 54 => ⟨S_, .f32⟩
  | 55 => ⟨S_, .f32⟩
  | 56 => ⟨S4x32x32, .i1⟩
  | 57 => ⟨S4x32x32, .f32⟩
  | 58 => ⟨S4x32x32, .f32⟩
  | 59 => ⟨S4x1, .f32⟩
  | 60 => ⟨S_, .f32⟩
  | 61 => ⟨S32, .f32⟩
  | 62 => ⟨S32, .f32⟩
  | 63 => ⟨S1x32, .f32⟩
  | 64 => ⟨S4x32, .f32⟩
  | 65 => ⟨S4x32, .f32⟩
  | 66 => ⟨S4x32, .f32⟩
  | 67 => ⟨S4x32, .f32⟩
  | 68 => ⟨S4x1, .f32⟩
  | 69 => ⟨S_, .f32⟩
  | 70 => ⟨S32, .f32⟩
  | 71 => ⟨S32, .f32⟩
  | 72 => ⟨S1x32, .f32⟩
  | 73 => ⟨S4x32, .f32⟩
  | 74 => ⟨S4x32, .f32⟩
  | 75 => ⟨S4x32, .f32⟩
  | 76 => ⟨S4x32, .f32⟩
  | 77 => ⟨S_, .f32⟩
  | 78 => ⟨S4, .f32⟩
  | 79 => ⟨S4, .f32⟩
  | 80 => ⟨S4, .f32⟩
  | 81 => ⟨S1x4x1x1, .f32⟩
  | 82 => ⟨S16x1x32x4x128, .f32⟩
  | 83 => ⟨S1x16x4x32x128, .f32⟩
  | 84 => ⟨S16x1x32x4x128, .f32⟩
  | 85 => ⟨S1x16x4x32x128, .f32⟩
  | 86 => ⟨S16x1x32x4x128, .f32⟩
  | 87 => ⟨S1x16x4x32x128, .f32⟩
  | 88 => ⟨S16x1x32x4x128, .f32⟩
  | 89 => ⟨S1x16x4x32x128, .f32⟩
  | 90 => ⟨S16x1x32x4x128, .f32⟩
  | 91 => ⟨S1x16x4x32x128, .f32⟩
  | 92 => ⟨S16x1x32x4x128, .f32⟩
  | 93 => ⟨S1x16x4x32x128, .f32⟩
  | 94 => ⟨S16x1x32x4x128, .f32⟩
  | 95 => ⟨S1x16x4x32x128, .f32⟩
  | 96 => ⟨S16x1x32x4x128, .f32⟩
  | 97 => ⟨S1x16x4x32x128, .f32⟩
  | 98 => ⟨S16x1x32x4x128, .f32⟩
  | 99 => ⟨S1x16x4x32x128, .f32⟩
  | 100 => ⟨S16x1x32x4, .f32⟩
  | 101 => ⟨S1x16x4x32, .f32⟩
  | 102 => ⟨S16x32x4, .f32⟩
  | 103 => ⟨S_, .f32⟩
  | 104 => ⟨S16x32x4, .f32⟩
  | 105 => ⟨S16x32x4, .f32⟩
  | 106 => ⟨S16x32x4, .f32⟩
  | 107 => ⟨S16x32x4, .f32⟩
  | 108 => ⟨S16x32x4, .i1⟩
  | 109 => ⟨S16x32x4, .f32⟩
  | 110 => ⟨S16x32x4, .f32⟩
  | 111 => ⟨S16x32x4, .f32⟩
  | 112 => ⟨S16x32x4, .f32⟩
  | 113 => ⟨S16x32x4, .f32⟩
  | 114 => ⟨S16x32x4, .f32⟩
  | 115 => ⟨S16x32x4, .f32⟩
  | 116 => ⟨S16x32x4, .f32⟩
  | 117 => ⟨S16x32x4, .f32⟩
  | 118 => ⟨S16x1x32x4, .f32⟩
  | 119 => ⟨S1x16x4x32, .f32⟩
  | 120 => ⟨S16x4x32x128, .f32⟩
  | 121 => ⟨S16x4x32x128, .f32⟩
  | 122 => ⟨S16x4x32x128, .f32⟩
  | 123 => ⟨S16x4x32x128, .f32⟩
  | 124 => ⟨S16x4x32x128, .f32⟩
  | 125 => ⟨S16x4x32x128, .f32⟩
  | 126 => ⟨S16x4x32x128, .f32⟩
  | 127 => ⟨S16x4x32x128, .f32⟩
  | _ => ⟨S16x32x2048, .f32⟩

abbrev hbmTy0_2 (i : Nat) : BufTy := match i % 128 with
  | 0 => ⟨S16x4x32x128, .f32⟩
  | 1 => ⟨S16x4x32, .f32⟩
  | 2 => ⟨S16x4x32, .f32⟩
  | 3 => ⟨S16x4x32x32, .f32⟩
  | 4 => ⟨S1x4x32x32, .f32⟩
  | 5 => ⟨S16x4x32x32, .f32⟩
  | 6 => ⟨S16x4x32x32, .f32⟩
  | 7 => ⟨S16x4x32x128, .f32⟩
  | 8 => ⟨S1x4x32x1, .f32⟩
  | 9 => ⟨S16x4x32x128, .f32⟩
  | 10 => ⟨S16x4x32x128, .f32⟩
  | 11 => ⟨S16x4x128x128, .f32⟩
  | 12 => ⟨S1x4x32x1, .f32⟩
  | 13 => ⟨S16x4x32x128, .f32⟩
  | 14 => ⟨S16x4x32x128, .f32⟩
  | 15 => ⟨S16x4x32x128, .f32⟩
  | 16 => ⟨S16x4x32x128, .f32⟩
  | 17 => ⟨S16x4x128x128, .f32⟩
  | 18 => ⟨S16x4x128x128, .f32⟩
  | 19 => ⟨S16x4x128x128, .f32⟩
  | 20 => ⟨S_, .f32⟩
  | 21 => ⟨S_, .f32⟩
  | 22 => ⟨S16x4x32, .f32⟩
  | 23 => ⟨S16x4x1x32, .f32⟩
  | 24 => ⟨S16x4x32x1, .f32⟩
  | 25 => ⟨S16x4x32x32, .f32⟩
  | 26 => ⟨S16x4x32x32, .f32⟩
  | 27 => ⟨S16x4x32x32, .f32⟩
  | 28 => ⟨S16x4x1x32, .f32⟩
  | 29 => ⟨S16x4x32x32, .f32⟩
  | 30 => ⟨S16x4x32x32, .f32⟩
  | 31 => ⟨S_, .f32⟩
  | 32 => ⟨S_, .f32⟩
  | 33 => ⟨S16x4x32x32, .i1⟩
  | 34 => ⟨S16x4x32x32, .f32⟩
  | 35 => ⟨S16x4x32x32, .f32⟩
  | 36 => ⟨S16x4x1, .f32⟩
  | 37 => ⟨S16x4x32, .f32⟩
  | 38 => ⟨S16x4x32, .f32⟩
  | 39 => ⟨S_, .f32⟩
  | 40 => ⟨S16x4x32, .f32⟩
  | 41 => ⟨S16x4x32, .f32⟩
  | 42 => ⟨S16x4x32x1, .f32⟩
  | 43 => ⟨S16x4x32x32, .f32⟩
  | 44 => ⟨S16x4x32x32, .f32⟩
  | 45 => ⟨S16x4x32x32, .f32⟩
  | 46 => ⟨S16x4x32, .f32⟩
  | 47 => ⟨S16x4x32, .f32⟩
  | 48 => ⟨S16x4x32x32, .f32⟩
  | 49 => ⟨S16x4x32x32, .f32⟩
  | 50 => ⟨S16x4x32x128, .f32⟩
  | 51 => ⟨S16x4x32x1, .f32⟩
  | 52 => ⟨S16x4x32x128, .f32⟩
  | 53 => ⟨S16x4x32x128, .f32⟩
  | 54 => ⟨S16x4x32x128, .f32⟩
  | 55 => ⟨S16x4x32x128, .f32⟩
  | 56 => ⟨S_, .f32⟩
  | 57 => ⟨S16x4x32, .f32⟩
  | 58 => ⟨S16x4x32, .f32⟩
  | 59 => ⟨S16x4x32, .f32⟩
  | 60 => ⟨S16x4x32, .f32⟩
  | 61 => ⟨S16x4x32, .f32⟩
  | 62 => ⟨S16x4x32, .f32⟩
  | 63 => ⟨S16x4x32, .f32⟩
  | 64 => ⟨S16x4x32, .f32⟩
  | 65 => ⟨S16x4x32x1, .f32⟩
  | 66 => ⟨S16x4x32x128, .f32⟩
  | 67 => ⟨S16x4x32x128, .f32⟩
  | 68 => ⟨S16x4x1, .f32⟩
  | 69 => ⟨S16x4, .f32⟩
  | 70 => ⟨S16x4x1, .f32⟩
  | 71 => ⟨S16x4x32, .f32⟩
  | 72 => ⟨S16x4x32, .f32⟩
  | 73 => ⟨S16x4x32, .f32⟩
  | 74 => ⟨S16x4x1, .f32⟩
  | 75 => ⟨S16x4x32, .f32⟩
  | 76 => ⟨S16x4x32, .f32⟩
  | 77 => ⟨S16x4x32, .f32⟩
  | 78 => ⟨S16x4x1, .f32⟩
  | 79 => ⟨S16x4, .f32⟩
  | 80 => ⟨S16x4, .f32⟩
  | 81 => ⟨S16x4, .f32⟩
  | 82 => ⟨S16x4, .f32⟩
  | 83 => ⟨S16x4x32x1, .f32⟩
  | 84 => ⟨S16x4x32x128, .f32⟩
  | 85 => ⟨S16x4x32x128, .f32⟩
  | 86 => ⟨S16x4x1x1, .f32⟩
  | 87 => ⟨S16x4x128x128, .f32⟩
  | 88 => ⟨S16x4x128x128, .f32⟩
  | 89 => ⟨S16x4x128x128, .f32⟩
  | 90 => ⟨S16x4x128x128, .f32⟩
  | 91 => ⟨S16x4x1, .f32⟩
  | 92 => ⟨S16x4x128, .f32⟩
  | 93 => ⟨S16x4x128, .f32⟩
  | 94 => ⟨S_, .f32⟩
  | 95 => ⟨S16x4x128, .f32⟩
  | 96 => ⟨S16x4x128, .f32⟩
  | 97 => ⟨S16x4x32x128, .f32⟩
  | 98 => ⟨S16x4x32x128, .f32⟩
  | 99 => ⟨S_, .f32⟩
  | 100 => ⟨S16x4x32x128, .f32⟩
  | 101 => ⟨S16x4x32x128, .f32⟩
  | 102 => ⟨S_, .f32⟩
  | 103 => ⟨S16x4x32x128, .f32⟩
  | 104 => ⟨S16x4x32x128, .f32⟩
  | 105 => ⟨S16x4x32x128, .f32⟩
  | 106 => ⟨S16x4x32x128, .f32⟩
  | 107 => ⟨S_, .f32⟩
  | 108 => ⟨S16x4x32, .f32⟩
  | 109 => ⟨S16x4x32x1, .f32⟩
  | 110 => ⟨S_, .f32⟩
  | 111 => ⟨S16x4x32x1, .f32⟩
  | 112 => ⟨S16x4x32x1, .f32⟩
  | 113 => ⟨S_, .f32⟩
  | 114 => ⟨S16x4x32x1, .f32⟩
  | 115 => ⟨S16x4x32x1, .f32⟩
  | 116 => ⟨S16x4x32x1, .f32⟩
  | 117 => ⟨S16x4x32x128, .f32⟩
  | 118 => ⟨S16x4x32x128, .f32⟩
  | 119 => ⟨S4x1x128, .f32⟩
  | 120 => ⟨S1x4x1x128, .f32⟩
  | 121 => ⟨S16x4x32x128, .f32⟩
  | 122 => ⟨S16x4x32x128, .f32⟩
  | 123 => ⟨S16x4x32x128, .f32⟩
  | 124 => ⟨S16x4x32x128, .f32⟩
  | 125 => ⟨S16x4x32x128, .f32⟩
  | 126 => ⟨S_, .f32⟩
  | 127 => ⟨S16x4x32x128, .f32⟩
  | _ => ⟨S16x32x2048, .f32⟩

abbrev hbmTy0_3 (i : Nat) : BufTy := match i % 128 with
  | 0 => ⟨S16x4x32x128, .f32⟩
  | 1 => ⟨S_, .f32⟩
  | 2 => ⟨S16x4x32x128, .f32⟩
  | 3 => ⟨S16x4x32x128, .f32⟩
  | 4 => ⟨S16x4x32x128, .f32⟩
  | 5 => ⟨S_, .f32⟩
  | 6 => ⟨S16x4x32, .f32⟩
  | 7 => ⟨S16x4x32x1, .f32⟩
  | 8 => ⟨S_, .f32⟩
  | 9 => ⟨S16x4x32x1, .f32⟩
  | 10 => ⟨S16x4x32x1, .f32⟩
  | 11 => ⟨S_, .f32⟩
  | 12 => ⟨S16x4x32x1, .f32⟩
  | 13 => ⟨S16x4x32x1, .f32⟩
  | 14 => ⟨S16x4x32x1, .f32⟩
  | 15 => ⟨S16x4x32x128, .f32⟩
  | 16 => ⟨S16x4x32x128, .f32⟩
  | 17 => ⟨S4x1x128, .f32⟩
  | 18 => ⟨S1x4x1x128, .f32⟩
  | 19 => ⟨S16x4x32x128, .f32⟩
  | 20 => ⟨S16x4x32x128, .f32⟩
  | 21 => ⟨S4x1x128, .f32⟩
  | 22 => ⟨S1x4x1x128, .f32⟩
  | 23 => ⟨S16x4x32x128, .f32⟩
  | 24 => ⟨S16x4x32x128, .f32⟩
  | 25 => ⟨S16x4x32x128, .f32⟩
  | 26 => ⟨S16x4x32x128, .f32⟩
  | 27 => ⟨S1x16x4x32x128, .f32⟩
  | 28 => ⟨S1x16x4x32x128, .f32⟩
  | 29 => ⟨S16x1x32x4x128, .f32⟩
  | 30 => ⟨S16x32x512, .f32⟩
  | 31 => ⟨S16x1x32x4x128, .f32⟩
  | 32 => ⟨S16x32x512, .f32⟩
  | 33 => ⟨S16x4x1, .f32⟩
  | 34 => ⟨S16x4x128, .f32⟩
  | 35 => ⟨S16x32x512, .f32⟩
  | 36 => ⟨S16x35x512, .f32⟩
  | 37 => ⟨S16x8x512, .f32⟩
  | 38 => ⟨S16x32x512, .bf16⟩
  | 39 => ⟨S16x32x512, .bf16⟩
  | _ => ⟨S16x32x2048, .f32⟩

abbrev hbmTy (i : Nat) : BufTy := match i / 128 with
  | 0 => hbmTy0_0 i
  | 1 => hbmTy0_1 i
  | 2 => hbmTy0_2 i
  | 3 => hbmTy0_3 i
  | _ => ⟨S16x32x2048, .f32⟩

abbrev bufTy : (tb : Table) → Fin (tcTables nBuf tb) → BufTy
  | .hbm, ⟨i, _⟩ => hbmTy i
  | _, _ => ⟨S16x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_1 : Ref sig .tc := ⟨.hbm, 65, rfl⟩
abbrev main_v45 : Ref sig .tc := ⟨.hbm, 66, rfl⟩
abbrev main_v46 : Ref sig .tc := ⟨.hbm, 67, rfl⟩
abbrev main_cst_2 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_3 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_call0_v0 : Ref sig .tc := ⟨.hbm, 128, rfl⟩
abbrev main_call0_v1 : Ref sig .tc := ⟨.hbm, 129, rfl⟩
abbrev main_call0_cst : Ref sig .tc := ⟨.hbm, 130, rfl⟩
abbrev main_call0_v2 : Ref sig .tc := ⟨.hbm, 131, rfl⟩
abbrev main_call0_v3 : Ref sig .tc := ⟨.hbm, 132, rfl⟩
abbrev main_call0_cst_0 : Ref sig .tc := ⟨.hbm, 133, rfl⟩
abbrev main_call0_v4 : Ref sig .tc := ⟨.hbm, 134, rfl⟩
abbrev main_call0_v5 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_4 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_5 : Ref sig .tc := ⟨.hbm, 156, rfl⟩
abbrev main_v124 : Ref sig .tc := ⟨.hbm, 157, rfl⟩
abbrev main_v125 : Ref sig .tc := ⟨.hbm, 158, rfl⟩
abbrev main_cst_6 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_7 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_8 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_9 : Ref sig .tc := ⟨.hbm, 182, rfl⟩
abbrev main_call1_v0 : Ref sig .tc := ⟨.hbm, 183, rfl⟩
abbrev main_call1_v1 : Ref sig .tc := ⟨.hbm, 184, rfl⟩
abbrev main_call1_v2 : Ref sig .tc := ⟨.hbm, 185, rfl⟩
abbrev main_v146 : Ref sig .tc := ⟨.hbm, 186, rfl⟩
abbrev main_v147 : Ref sig .tc := ⟨.hbm, 187, rfl⟩
abbrev main_cst_10 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_11 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_12 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_call2_cst : Ref sig .tc := ⟨.hbm, 231, rfl⟩
abbrev main_call2_v0 : Ref sig .tc := ⟨.hbm, 232, rfl⟩
abbrev main_call2_v1 : Ref sig .tc := ⟨.hbm, 233, rfl⟩
abbrev main_call2_v2 : Ref sig .tc := ⟨.hbm, 234, rfl⟩
abbrev main_call2_v3 : Ref sig .tc := ⟨.hbm, 235, rfl⟩
abbrev main_call2_v4 : Ref sig .tc := ⟨.hbm, 236, rfl⟩
abbrev main_call2_v5 : Ref sig .tc := ⟨.hbm, 237, rfl⟩
abbrev main_call2_v6 : Ref sig .tc := ⟨.hbm, 238, rfl⟩
abbrev main_call2_v7 : Ref sig .tc := ⟨.hbm, 239, rfl⟩
abbrev main_call2_v8 : Ref sig .tc := ⟨.hbm, 240, rfl⟩
abbrev main_call2_v9 : Ref sig .tc := ⟨.hbm, 241, rfl⟩
abbrev main_call2_v10 : Ref sig .tc := ⟨.hbm, 242, rfl⟩
abbrev main_call2_v11 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_call3_call0_cst : Ref sig .tc := ⟨.hbm, 276, rfl⟩
abbrev main_call3_call0_v0 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_cst_13 : Ref sig .tc := ⟨.hbm, 287, rfl⟩
abbrev main_call4_v0 : Ref sig .tc := ⟨.hbm, 288, rfl⟩
abbrev main_call4_v1 : Ref sig .tc := ⟨.hbm, 289, rfl⟩
abbrev main_call4_v2 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_cst_14 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_cst_15 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_cst_16 : Ref sig .tc := ⟨.hbm, 350, rfl⟩
abbrev main_v286 : Ref sig .tc := ⟨.hbm, 351, rfl⟩
abbrev main_v287 : Ref sig .tc := ⟨.hbm, 352, rfl⟩
abbrev main_call5_v0 : Ref sig .tc := ⟨.hbm, 353, rfl⟩
abbrev main_call5_v1 : Ref sig .tc := ⟨.hbm, 354, rfl⟩
abbrev main_call5_cst : Ref sig .tc := ⟨.hbm, 355, rfl⟩
abbrev main_call5_v2 : Ref sig .tc := ⟨.hbm, 356, rfl⟩
abbrev main_call5_v3 : Ref sig .tc := ⟨.hbm, 357, rfl⟩
abbrev main_call5_cst_0 : Ref sig .tc := ⟨.hbm, 358, rfl⟩
abbrev main_call5_v4 : Ref sig .tc := ⟨.hbm, 359, rfl⟩
abbrev main_call5_v5 : Ref sig .tc := ⟨.hbm, 360, rfl⟩
abbrev main_v288 : Ref sig .tc := ⟨.hbm, 361, rfl⟩
abbrev main_v289 : Ref sig .tc := ⟨.hbm, 362, rfl⟩
abbrev main_cst_17 : Ref sig .tc := ⟨.hbm, 363, rfl⟩
abbrev main_v290 : Ref sig .tc := ⟨.hbm, 364, rfl⟩
abbrev main_v291 : Ref sig .tc := ⟨.hbm, 365, rfl⟩
abbrev main_cst_18 : Ref sig .tc := ⟨.hbm, 366, rfl⟩
abbrev main_v292 : Ref sig .tc := ⟨.hbm, 367, rfl⟩
abbrev main_v293 : Ref sig .tc := ⟨.hbm, 368, rfl⟩
abbrev main_cst_19 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_cst_20 : Ref sig .tc := ⟨.hbm, 382, rfl⟩
abbrev main_v306 : Ref sig .tc := ⟨.hbm, 383, rfl⟩
abbrev main_v307 : Ref sig .tc := ⟨.hbm, 384, rfl⟩
abbrev main_cst_21 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_cst_22 : Ref sig .tc := ⟨.hbm, 389, rfl⟩
abbrev main_v311 : Ref sig .tc := ⟨.hbm, 390, rfl⟩
abbrev main_v312 : Ref sig .tc := ⟨.hbm, 391, rfl⟩
abbrev main_cst_23 : Ref sig .tc := ⟨.hbm, 392, rfl⟩
abbrev main_v313 : Ref sig .tc := ⟨.hbm, 393, rfl⟩
abbrev main_v314 : Ref sig .tc := ⟨.hbm, 394, rfl⟩
abbrev main_cst_24 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x5640 : Shape := ⟨2, ![1024, 5640]⟩
abbrev S32768x1024 : Shape := ⟨2, ![32768, 1024]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S1024x2048 : Shape := ⟨2, ![1024, 2048]⟩
abbrev S1024x1536 : Shape := ⟨2, ![1024, 1536]⟩
abbrev S32768x2048 : Shape := ⟨2, ![32768, 2048]⟩
abbrev S32768x1536 : Shape := ⟨2, ![32768, 1536]⟩
abbrev S32768x128 : Shape := ⟨2, ![32768, 128]⟩
abbrev S256x1024 : Shape := ⟨2, ![256, 1024]⟩
abbrev S256x2048 : Shape := ⟨2, ![256, 2048]⟩
abbrev S256x1536 : Shape := ⟨2, ![256, 1536]⟩
abbrev S256x128 : Shape := ⟨2, ![256, 128]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5640, .f32⟩
  | .hbm, ⟨3, _⟩ => ⟨S32768x1024, .f32⟩
  | .hbm, ⟨4, _⟩ => ⟨S1024x5640, .bf16⟩
  | .hbm, ⟨5, _⟩ => ⟨S1024x8, .bf16⟩
  | .hbm, ⟨6, _⟩ => ⟨S_, .i32⟩
  | .hbm, ⟨7, _⟩ => ⟨S_, .bf16⟩
  | .hbm, ⟨8, _⟩ => ⟨S1024x128, .bf16⟩
  | .hbm, ⟨9, _⟩ => ⟨S1x1024, .f32⟩
  | .hbm, ⟨10, _⟩ => ⟨S1024x2048, .bf16⟩
  | .hbm, ⟨11, _⟩ => ⟨S1024x1536, .bf16⟩
  | .hbm, ⟨12, _⟩ => ⟨S1024x2048, .bf16⟩
  | .hbm, ⟨13, _⟩ => ⟨S32768x2048, .f32⟩
  | .hbm, ⟨14, _⟩ => ⟨S32768x1536, .f32⟩
  | .hbm, ⟨15, _⟩ => ⟨S32768x128, .f32⟩
  | .hbm, ⟨16, _⟩ => ⟨S32768x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1536, .bf16⟩
  | .local _ .vmem, ⟨5, _⟩ => ⟨S1024x128, .bf16⟩
  | .local _ .vmem, ⟨6, _⟩ => ⟨S1024x2048, .bf16⟩
  | .local _ .vmem, ⟨7, _⟩ => ⟨S256x2048, .f32⟩
  | .local _ .vmem, ⟨8, _⟩ => ⟨S256x2048, .f32⟩
  | .local _ .vmem, ⟨9, _⟩ => ⟨S256x1536, .f32⟩
  | .local _ .vmem, ⟨10, _⟩ => ⟨S256x1536, .f32⟩
  | .local _ .vmem, ⟨11, _⟩ => ⟨S256x128, .f32⟩
  | .local _ .vmem, ⟨12, _⟩ => ⟨S256x128, .f32⟩
  | .local _ .vmem, ⟨13, _⟩ => ⟨S256x2048, .f32⟩
  | .local _ .vmem, ⟨14, _⟩ => ⟨S256x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x8192x1024 : Shape := ⟨3, ![4, 8192, 1024]⟩
abbrev S1024 : Shape := ⟨1, ![1024]⟩
abbrev S1024x5640 : Shape := ⟨2, ![1024, 5640]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5640 : Shape := ⟨3, ![4, 8192, 5640]⟩
abbrev S32768x5640 : Shape := ⟨2, ![32768, 5640]⟩
abbrev S32768x8 : Shape := ⟨2, ![32768, 8]⟩
abbrev S32768x128 : Shape := ⟨2, ![32768, 128]⟩
abbrev S32768x2048 : Shape := ⟨2, ![32768, 2048]⟩
abbrev S32768x1536 : Shape := ⟨2, ![32768, 1536]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5640, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x5640, .f32⟩
  | .hbm, ⟨20, _⟩ => ⟨S32768x5640, .f32⟩
  | .hbm, ⟨21, _⟩ => ⟨S32768x8, .f32⟩
  | .hbm, ⟨22, _⟩ => ⟨S_, .i32⟩
  | .hbm, ⟨23, _⟩ => ⟨S_, .f32⟩
  | .hbm, ⟨24, _⟩ => ⟨S32768x128, .f32⟩
  | .hbm, ⟨25, _⟩ => ⟨S32768x2048, .f32⟩
  | .hbm, ⟨26, _⟩ => ⟨S32768x1536, .f32⟩
  | .hbm, ⟨27, _⟩ => ⟨S32768x2048, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S32768x2048 : Shape := ⟨2, ![32768, 2048]⟩
abbrev S512x1024 : Shape := ⟨2, ![512, 1024]⟩
abbrev S1024x1024 : Shape := ⟨2, ![1024, 1024]⟩
abbrev S32768x1024 : Shape := ⟨2, ![32768, 1024]⟩
abbrev S32768x512 : Shape := ⟨2, ![32768, 512]⟩
abbrev S256x1024 : Shape := ⟨2, ![256, 1024]⟩
abbrev S256x512 : Shape := ⟨2, ![256, 512]⟩
abbrev S256x2048 : Shape := ⟨2, ![256, 2048]⟩

abbrev nBuf : Space → Nat
  | .hbm => 14
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S32768x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S32768x1024, .f32⟩
  | .hbm, ⟨8, _⟩ => ⟨S32768x512, .bf16⟩
  | .hbm, ⟨9, _⟩ => ⟨S32768x512, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x8192x1024 : Shape := ⟨3, ![4, 8192, 1024]⟩
abbrev S4x8192x512 : Shape := ⟨3, ![4, 8192, 512]⟩
abbrev S32768x2048 : Shape := ⟨2, ![32768, 2048]⟩
abbrev S512x1024 : Shape := ⟨2, ![512, 1024]⟩
abbrev S1024x1024 : Shape := ⟨2, ![1024, 1024]⟩
abbrev S32768x1024 : Shape := ⟨2, ![32768, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S32768x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S32768x1024, .f32⟩
  | .hbm, ⟨8, _⟩ => ⟨S4x8192x1024, .f32⟩
  | .hbm, ⟨9, _⟩ => ⟨S32768x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192x1024, .f32⟩
  | .hbm, ⟨18, _⟩ => ⟨S4x8192x1024, .f32⟩
  | .hbm, ⟨19, _⟩ => ⟨S4x8192x512, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192x1024, .f32⟩
  | .hbm, ⟨29, _⟩ => ⟨S4x8192x1024, .f32⟩
  | .hbm, ⟨30, _⟩ => ⟨S4x8192x512, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel4.lean ====
abbrev S32768x1024 : Shape := ⟨2, ![32768, 1024]⟩
abbrev S512x1024 : Shape := ⟨2, ![512, 1024]⟩
abbrev S33280x1024 : Shape := ⟨2, ![33280, 1024]⟩
abbrev S4x8192x256 : Shape := ⟨3, ![4, 8192, 256]⟩
abbrev S16x32x256 : Shape := ⟨3, ![16, 32, 256]⟩
abbrev S1024 : Shape := ⟨1, ![1024]⟩
abbrev S1024x1024 : Shape := ⟨2, ![1024, 1024]⟩
abbrev S256x1024 : Shape := ⟨2, ![256, 1024]⟩
abbrev S32768x256 : Shape := ⟨2, ![32768, 256]⟩
abbrev S512x256 : Shape := ⟨2, ![512, 256]⟩
abbrev S33280x256 : Shape := ⟨2, ![33280, 256]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 18
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S512x1024, .f32⟩
  | .hbm, ⟨2, _⟩ => ⟨S33280x1024, .f32⟩
  | .hbm, ⟨3, _⟩ => ⟨S4x8192x256, .f32⟩
  | .hbm, ⟨4, _⟩ => ⟨S16x32x256, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024, .f32⟩
  | .hbm, ⟨9, _⟩ => ⟨S33280x1024, .f32⟩
  | .hbm, ⟨10, _⟩ => ⟨S32768x256, .f32⟩
  | .hbm, ⟨11, _⟩ => ⟨S512x256, .f32⟩
  | .hbm, ⟨12, _⟩ => ⟨S33280x256, .f32⟩
  | .hbm, ⟨13, _⟩ => ⟨S1x1024, .f32⟩
  | .hbm, ⟨14, _⟩ => ⟨S1024x1024, .bf16⟩
  | .hbm, ⟨15, _⟩ => ⟨S256x1024, .bf16⟩
  | .hbm, ⟨16, _⟩ => ⟨S1x1024, .f32⟩
  | .hbm, ⟨17, _⟩ => ⟨S33280x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x1024 : Shape := ⟨2, ![32768, 1024]⟩
abbrev S512x1024 : Shape := ⟨2, ![512, 1024]⟩
abbrev S33280x1024 : Shape := ⟨2, ![33280, 1024]⟩
abbrev S4x8192x256 : Shape := ⟨3, ![4, 8192, 256]⟩
abbrev S16x32x256 : Shape := ⟨3, ![16, 32, 256]⟩
abbrev S1024 : Shape := ⟨1, ![1024]⟩
abbrev S1024x1024 : Shape := ⟨2, ![1024, 1024]⟩
abbrev S256x1024 : Shape := ⟨2, ![256, 1024]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S512x256 : Shape := ⟨2, ![512, 256]⟩
abbrev S512 : Shape := ⟨1, ![512]⟩
abbrev S512x1 : Shape := ⟨2, ![512, 1]⟩

abbrev nBuf : Space → Nat
  | .hbm => 104
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S512x1024, .f32⟩
  | .hbm, ⟨2, _⟩ => ⟨S33280x1024, .f32⟩
  | .hbm, ⟨3, _⟩ => ⟨S4x8192x256, .f32⟩
  | .hbm, ⟨4, _⟩ => ⟨S16x32x256, .f32⟩
  | .hbm, ⟨5, _⟩ => ⟨S1024, .f32⟩
  | .hbm, ⟨6, _⟩ => ⟨S1024x1024, .f32⟩
  | .hbm, ⟨7, _⟩ => ⟨S256x1024, .f32⟩
  | .hbm, ⟨8, _⟩ => ⟨S1024, .f32⟩
  | .hbm, ⟨9, _⟩ => ⟨S32768x1024, .f32⟩
  | .hbm, ⟨10, _⟩ => ⟨S32768x256, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S512x1024, .f32⟩
  | .hbm, ⟨57, _⟩ => ⟨S512x256, .f32⟩
  | .hbm, ⟨58, _⟩ => ⟨S512x1024, .f32⟩
  | .hbm, ⟨59, _⟩ => ⟨S512x1024, .f32⟩
  | .hbm, ⟨60, _⟩ => ⟨S512x1024, .f32⟩
  | .hbm, ⟨61, _⟩ => ⟨S_, .f32⟩
  | .hbm, ⟨62, _⟩ => ⟨S512, .f32⟩
  | .hbm, ⟨63, _⟩ => ⟨S512x1, .f32⟩
  | .hbm, ⟨64, _⟩ => ⟨S_, .f32⟩
  | .hbm, ⟨65, _⟩ => ⟨S512x1, .f32⟩
  | .hbm, ⟨66, _⟩ => ⟨S512x1, .f32⟩
  | .hbm, ⟨67, _⟩ => ⟨S_, .f32⟩
  | .hbm, ⟨68, _⟩ => ⟨S512x1, .f32⟩
  | .hbm, ⟨69, _⟩ => ⟨S512x1, .f32⟩
  | .hbm, ⟨70, _⟩ => ⟨S512x1, .f32⟩
  | .hbm, ⟨71, _⟩ => ⟨S512x1024, .f32⟩
  | .hbm, ⟨72, _⟩ => ⟨S512x1024, .f32⟩
  | .hbm, ⟨73, _⟩ => ⟨S1x1024, .f32⟩
  | .hbm, ⟨74, _⟩ => ⟨S512x1024, .f32⟩
  | .hbm, ⟨75, _⟩ => ⟨S512x1024, .f32⟩
  | .hbm, ⟨76, _⟩ => ⟨S512x1024, .f32⟩
  | .hbm, ⟨77, _⟩ => ⟨S512x1024, .f32⟩
  | .hbm, ⟨78, _⟩ => ⟨S512x1024, .f32⟩
  | .hbm, ⟨79, _⟩ => ⟨S_, .f32⟩
  | .hbm, ⟨80, _⟩ => ⟨S512x1024, .f32⟩
  | .hbm, ⟨81, _⟩ => ⟨S512x1024, .f32⟩
  | .hbm, ⟨82, _⟩ => ⟨S_, .f32⟩
  | .hbm, ⟨83, _⟩ => ⟨S512x1024, .f32⟩
  | .hbm, ⟨84, _⟩ => ⟨S512x1024, .f32⟩
  | .hbm, ⟨85, _⟩ => ⟨S512x1024, .f32⟩
  | .hbm, ⟨86, _⟩ => ⟨S512x1024, .f32⟩
  | .hbm, ⟨87, _⟩ => ⟨S512x1024, .f32⟩
  | .hbm, ⟨88, _⟩ => ⟨S_, .f32⟩
  | .hbm, ⟨89, _⟩ => ⟨S512, .f32⟩
  | .hbm, ⟨90, _⟩ => ⟨S512x1, .f32⟩
  | .hbm, ⟨91, _⟩ => ⟨S_, .f32⟩
  | .hbm, ⟨92, _⟩ => ⟨S512x1, .f32⟩
  | .hbm, ⟨93, _⟩ => ⟨S512x1, .f32⟩
  | .hbm, ⟨94, _⟩ => ⟨S_, .f32⟩
  | .hbm, ⟨95, _⟩ => ⟨S512x1, .f32⟩
  | .hbm, ⟨96, _⟩ => ⟨S512x1, .f32⟩
  | .hbm, ⟨97, _⟩ => ⟨S512x1, .f32⟩
  | .hbm, ⟨98, _⟩ => ⟨S512x1024, .f32⟩
  | .hbm, ⟨99, _⟩ => ⟨S512x1024, .f32⟩
  | .hbm, ⟨100, _⟩ => ⟨S1x1024, .f32⟩
  | .hbm, ⟨101, _⟩ => ⟨S512x1024, .f32⟩
  | .hbm, ⟨102, _⟩ => ⟨S512x1024, .f32⟩
  | .hbm, ⟨103, _⟩ => ⟨S33280x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Proof.MixersFrame.lean ====
/- The token mixers' launch: what its outputs hold point by point, the body's obligation, the run and the frame. -/
module

public import proofs.«01_k».proof.Proof.Gen.KernelIdeal.Frame.RunA
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 18 tile its block, so they cover it. -/
theorem cover0_A_18 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) (y : S4x32x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).1 S1x32x512.size (by sl_kernel_rfl) y

/-- What the run leaves in output 18's staging buffer: its pieces read back over junk. -/
def out0_A_18 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) : Vec F S4x32x512 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).1)

/-- The run's pieces for output 19 tile its block, so they cover it. -/
theorem cover0_A_19 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) (y : S4x32x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.1 S1x32x512.size (by sl_kernel_rfl) y

/-- What the run leaves in output 19's staging buffer: its pieces read back over junk. -/
def out0_A_19 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) : Vec F S4x32x512 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.1)

/-- The run's pieces for output 20 tile its block, so they cover it. -/
theorem cover0_A_20 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) (y : S4x4x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.1 S4x4x128x128.size (by sl_kernel_rfl) y

/-- What the run leaves in output 20's staging buffer: its pieces read back over junk. -/
def out0_A_20 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) : Vec F S4x4x128x128 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.1)

/-- The run's pieces for output 21 tile its block, so they cover it. -/
theorem cover0_A_21 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) (y : S4x4x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.1 S4x4x128x128.size (by sl_kernel_rfl) y

/-- What the run leaves in output 21's staging buffer: its pieces read back over junk. -/
def out0_A_21 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) : Vec F S4x4x128x128 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.1)

/-- The run's pieces for output 22 tile its block, so they cover it. -/
theorem cover0_A_22 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) (y : S4x4x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.2.1 S4x4x128.size (by sl_kernel_rfl) y

/-- What the run leaves in output 22's staging buffer: its pieces read back over junk. -/
def out0_A_22 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) : Vec F S4x4x128 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.2.1)

/-- The run's pieces for output 23 tile its block, so they cover it. -/
theorem cover0_A_23 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) (y : S4x4x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.2.2.1 S4x4x128.size (by sl_kernel_rfl) y

/-- What the run leaves in output 23's staging buffer: its pieces read back over junk. -/
def out0_A_23 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) : Vec F S4x4x128 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.2.2.1)

/-- The run's pieces for output 24 tile its block, so they cover it. -/
theorem cover0_A_24 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) (y : S4x8x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.2.2.2.1 S4x8x512.size (by sl_kernel_rfl) y

/-- What the run leaves in output 24's staging buffer: its pieces read back over junk. -/
def out0_A_24 (c : Dev nD) (i : grid0.Coords) (arg2 : Memref sig .tc .vmem S4x32x2048 .f32) (harg2 : arg2.IsWhole) (arg3 : Memref sig .tc .vmem S4x32x1536 .f32) (harg3 : arg3.IsWhole) (arg4 : Memref sig .tc .vmem S4x32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S4x4x128x128 .f32) (harg7 : arg7.IsWhole) (arg8 : Memref sig .tc .vmem S4x4x128x128 .f32) (harg8 : arg8.IsWhole) (arg9 : Memref sig .tc .vmem S4x4x128 .f32) (harg9 : arg9.IsWhole) (arg10 : Memref sig .tc .vmem S4x4x128 .f32) (harg10 : arg10.IsWhole) (arg11 : Memref sig .tc .vmem S4x8x512 .f32) (harg11 : arg11.IsWhole) (arg12 : Memref sig .tc .vmem S1x512 .f32) (harg12 : arg12.IsWhole) (arg13 : Memref sig .tc .vmem S4x128x128 .bf16) (harg13 : arg13.IsWhole) (arg14 : Memref sig .tc .vmem S4x128x128 .bf16) (harg14 : arg14.IsWhole) (arg15 : Memref sig .tc .vmem S4x512 .f32) (harg15 : arg15.IsWhole) (arg16 : Memref sig .tc .vmem S1x512 .f32) (harg16 : arg16.IsWhole) (arg17 : Memref sig .tc .vmem S1x128 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S4x32x512 .bf16) (harg20 : arg20.IsWhole) (arg21 : Memref sig .tc .vmem S4x32x512 .bf16) (harg21 : arg21.IsWhole) (arg22 : Memref sig .tc .vmem S4x4x128x128 .f32) (harg22 : arg22.IsWhole) (arg23 : Memref sig .tc .vmem S4x4x128x128 .f32) (harg23 : arg23.IsWhole) (arg24 : Memref sig .tc .vmem S4x4x128 .f32) (harg24 : arg24.IsWhole) (arg25 : Memref sig .tc .vmem S4x4x128 .f32) (harg25 : arg25.IsWhole) (arg26 : Memref sig .tc .vmem S4x8x512 .f32) (harg26 : arg26.IsWhole) (arg27 : Memref sig .tc .vmem S4x4x128x128 .f32) (harg27 : arg27.IsWhole) (arg28 : Memref sig .tc .vmem S4x4x128x128 .f32) (harg28 : arg28.IsWhole) (arg29 : Memref sig .tc .vmem S4x4x128 .f32) (harg29 : arg29.IsWhole) (arg30 : Memref sig .tc .vmem S4x4x128 .f32) (harg30 : arg30.IsWhole) (arg31 : Memref sig .tc .vmem S4x8x512 .f32) (harg31 : arg31.IsWhole) (hc0 : cond0_0 i) (hc1 : cond0_1 i)
    (x0 : Vec F S4x32x2048 .f32) (x1 : Vec F S4x32x1536 .f32) (x2 : Vec F S4x32x128 .f32) (x3 : Vec F S32x128 .f32) (x4 : Vec F S32x128 .f32) (x5 : Vec F S4x4x128x128 .f32) (x6 : Vec F S4x4x128x128 .f32) (x7 : Vec F S4x4x128 .f32) (x8 : Vec F S4x4x128 .f32) (x9 : Vec F S4x8x512 .f32) (x10 : Vec F S1x512 .f32) (x11 : Vec F S4x128x128 .bf16) (x12 : Vec F S4x128x128 .bf16) (x13 : Vec F S4x512 .f32) (x14 : Vec F S1x512 .f32) (x15 : Vec F S1x128 .f32) (x16 : Vec F S1x512 .f32) (x17 : Vec F S1x512 .f32) : Vec F S4x8x512 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 x0 x1 x2 x3 x4 x5 x6 x7 x8 x9 x10 x11 x12 x13 x14 x15 x16 x17).2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S4x32x512 .bf16 × Vec F S4x32x512 .bf16 × Vec F S4x4x128x128 .f32 × Vec F S4x4x128x128 .f32 × Vec F S4x4x128 .f32 × Vec F S4x4x128 .f32 × Vec F S4x8x512 .f32 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2.1
    | ⟨21, _⟩ => (outsAt0 m c t).2.2.2.1
    | ⟨22, _⟩ => (outsAt0 m c t).2.2.2.2.1
    | ⟨23, _⟩ => (outsAt0 m c t).2.2.2.2.2.1
    | ⟨24, _⟩ => (outsAt0 m c t).2.2.2.2.2.2
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2.1 := by dsimp only [dats]
theorem after0_20 (c : Dev nD) (t : Fin cfg0.N) : (dats m 0 c).after 20 t = (outsAt0 m c t).2.2.1 := by dsimp only [dats]
theorem after0_21 (c : Dev nD) (t : Fin cfg0.N) : (dats m 0 c).after 21 t = (outsAt0 m c t).2.2.2.1 := by dsimp only [dats]
theorem after0_22 (c : Dev nD) (t : Fin cfg0.N) : (dats m 0 c).after 22 t = (outsAt0 m c t).2.2.2.2.1 := by dsimp only [dats]
theorem after0_23 (c : Dev nD) (t : Fin cfg0.N) : (dats m 0 c).after 23 t = (outsAt0 m c t).2.2.2.2.2.1 := by dsimp only [dats]
theorem after0_24 (c : Dev nD) (t : Fin cfg0.N) : (dats m 0 c).after 24 t = (outsAt0 m c t).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  rw [show (dats m 0 c).leavesExact 14 t = owns (c : Thread nD τ) (ms0_14 t) fullShare ((dats m 0 c).after 14 t) from by
      unfold Dat.leavesExact; rw [liveAt0_14 t], after0_14]
  rw [show (dats m 0 c).leavesExact 15 t = owns (c : Thread nD τ) (ms0_15 t) fullShare ((dats m 0 c).after 15 t) from by
      unfold Dat.leavesExact; rw [liveAt0_15 t], after0_15]
  rw [show (dats m 0 c).leavesExact 16 t = owns (c : Thread nD τ) (ms0_16 t) fullShare ((dats m 0 c).after 16 t) from by
      unfold Dat.leavesExact; rw [liveAt0_16 t], after0_16]
  rw [show (dats m 0 c).leavesExact 17 t = owns (c : Thread nD τ) (ms0_17 t) fullShare ((dats m 0 c).after 17 t) from by
      unfold Dat.leavesExact; rw [liveAt0_17 t], after0_17]
  rw [show (dats m 0 c).leavesExact 18 t = owns (c : Thread nD τ) (ms0_18 t) fullShare ((dats m 0 c).after 18 t) from by
      unfold Dat.leavesExact; rw [liveAt0_18 t], after0_18]
  rw [show (dats m 0 c).leavesExact 19 t = owns (c : Thread nD τ) (ms0_19 t) fullShare ((dats m 0 c).after 19 t) from by
      unfold Dat.leavesExact; rw [liveAt0_19 t], after0_19]
  rw [show (dats m 0 c).leavesExact 20 t = owns (c : Thread nD τ) (ms0_20 t) fullShare ((dats m 0 c).after 20 t) from by
      unfold Dat.leavesExact; rw [liveAt0_20_A t (hcond0_0 t) (hcond0_1 t)], after0_20]
  rw [show (dats m 0 c).leavesExact 21 t = owns (c : Thread nD τ) (ms0_21 t) fullShare ((dats m 0 c).after 21 t) from by
      unfold Dat.leavesExact; rw [liveAt0_21_A t (hcond0_0 t) (hcond0_1 t)], after0_21]
  rw [show (dats m 0 c).leavesExact 22 t = owns (c : Thread nD τ) (ms0_22 t) fullShare ((dats m 0 c).after 22 t) from by
      unfold Dat.leavesExact; rw [liveAt0_22_A t (hcond0_0 t) (hcond0_1 t)], after0_22]
  rw [show (dats m 0 c).leavesExact 23 t = owns (c : Thread nD τ) (ms0_23 t) fullShare ((dats m 0 c).after 23 t) from by
      unfold Dat.leavesExact; rw [liveAt0_23_A t (hcond0_0 t) (hcond0_1 t)], after0_23]
  rw [show (dats m 0 c).leavesExact 24 t = owns (c : Thread nD τ) (ms0_24 t) fullShare ((dats m 0 c).after 24 t) from by
      unfold Dat.leavesExact; rw [liveAt0_24_A t (hcond0_0 t) (hcond0_1 t)], after0_24]
  unfold outsAt0
  unfold out0_A_18 out0_A_19 out0_A_20 out0_A_21 out0_A_22 out0_A_23 out0_A_24; (try dsimp only)
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%fT0, HS0⟩, ⟨%fT1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H24
  ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.KernelIdeal.Gen

end
-- ==== Proof.Names.lean ====
/- The eight named constants of the token mixers' kernel: for each head the logarithm of its decay and its decay over a whole chunk.
   The table gives each name the exact real number the printed constant is rounded from, and at `Ideal` the name stands for that number. -/
module

public import proofs.«01_k».proof.Defs

@[expose] public section

noncomputable section

open Idealize.ShloMosaic

namespace Cert.Names

/-- Each named constant stands for the number that the table gives it. -/
theorem preserves : Cert.preserves_Kernel_KernelIdeal :=
  ⟨IdealRules.named_const.statement Cert.KernelIdeal.κ "log_decay0" .f32 0xBD020AEC#32 ((Real.log (31 / 32) : ℝ) : EReal) rfl,
   IdealRules.named_const.statement Cert.KernelIdeal.κ "chunk_decay0" .f32 0x3EB95F50#32 ((529144398052420314716929933900838757437386767361 / 1461501637330902918203684832716283019655932542976 : ℝ) : EReal) rfl,
   IdealRules.named_const.statement Cert.KernelIdeal.κ "log_decay1" .f32 0xBC8102B3#32 ((Real.log (63 / 64) : ℝ) : EReal) rfl,
   IdealRules.named_const.statement Cert.KernelIdeal.κ "chunk_decay1" .f32 0x3F1AA8FF#32 ((3792255435734639939700427436560372449070499280862066964481 / 6277101735386680763835789423207666416102355444464034512896 : ℝ) : EReal) rfl,
   IdealRules.named_const.statement Cert.KernelIdeal.κ "log_decay2" .f32 0xBC0080AC#32 ((Real.log (127 / 128) : ℝ) : EReal) rfl,
   IdealRules.named_const.statement Cert.KernelIdeal.κ "chunk_decay2" .f32 0x3F472D69#32 ((20975825942850835435487946371038619427046538071435595461971578449921 / 26959946667150639794667015087019630673637144422540572481103610249216 : ℝ) : EReal) rfl,
   IdealRules.named_const.statement Cert.KernelIdeal.κ "log_decay3" .f32 0xBB80402B#32 ((Real.log (255 / 256) : ℝ) : EReal) rfl,
   IdealRules.named_const.statement Cert.KernelIdeal.κ "chunk_decay3" .f32 0x3F61DD29#32 ((102161150204658159326162171757797299165741800222807601117528975009918212890625 / 115792089237316195423570985008687907853269984665640564039457584007913129639936 : ℝ) : EReal) rfl⟩

end Cert.Names

end
-- ==== Proof.InProj.lean ====
/- The input projection. A row of the normalised residual stream goes through the one weight matrix, whose columns are
   the retention branch's, the mLSTM branch's, the eight input and forget gates' and the merge gates': four results.
   The launch works on 256 rows at a time with four slices of the matrix, the gates' slice filled up with zero columns
   to 128 lanes; the reference multiplies once and slices, and fills up the result. -/
module

public import proofs.«01_k».proof.Defs
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section

set_option maxRecDepth 16384

noncomputable section

namespace Cert.InProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A row over the root of its mean square, times the gain. -/
def normed (x g : Fin 1024 → EReal) (k : Fin 1024) : EReal :=
  x k * Ideal.rsqrt (Ideal.div (∑ l : Fin 1024, x l * x l) (Ideal.ofBits .f32 0x44800000#32) + Ideal.ofBits .f32 0x358637BD#32) * g k

/-- The normalised row through one column of the weights. -/
def proj (x g w : Fin 1024 → EReal) : EReal := ∑ k : Fin 1024, normed x g k * w k

section Payloads
variable (x : Vec Ideal S256x1024 .f32) (g : Vec Ideal S1x1024 .f32)

theorem norm_apply (j : S256x1024.Idx) :
    k0_pay2 (F := Ideal) x g j = normed (fun k => x (ix2 (j 0) k)) (fun k => g (ix2 0 k)) (j 1) := by
  idx_vars j
  pointwise [k0_pay2, normed]

theorem zr_apply (w : Vec Ideal S1024x2048 .bf16) (j : S256x2048.Idx) : k0_pay3 (F := Ideal) x g w j
    = proj (fun k => x (ix2 (j 0) k)) (fun k => g (ix2 0 k)) (fun k => w (ix2 k (j 1))) := by
  idx_vars j
  pointwise [k0_pay3, proj]
  simp only [norm_apply]
  rfl
theorem zm_apply (w : Vec Ideal S1024x1536 .bf16) (j : S256x1536.Idx) : k0_pay4 (F := Ideal) x g w j
    = proj (fun k => x (ix2 (j 0) k)) (fun k => g (ix2 0 k)) (fun k => w (ix2 k (j 1))) := by
  idx_vars j
  pointwise [k0_pay4, proj]
  simp only [norm_apply]
  rfl
theorem zif_apply (w : Vec Ideal S1024x128 .bf16) (j : S256x128.Idx) : k0_pay5 (F := Ideal) x g w j
    = proj (fun k => x (ix2 (j 0) k)) (fun k => g (ix2 0 k)) (fun k => w (ix2 k (j 1))) := by
  idx_vars j
  pointwise [k0_pay5, proj]
  simp only [norm_apply]
  rfl
theorem zg_apply (w : Vec Ideal S1024x2048 .bf16) (j : S256x2048.Idx) :
    k0_pay1 (F := Ideal) (k0_pay2 x g) (k0_pay6 w) (constant S256x2048 .f32 0x00000000#32) j
    = proj (fun k => x (ix2 (j 0) k)) (fun k => g (ix2 0 k)) (fun k => w (ix2 k (j 1))) := by
  idx_vars j
  pointwise [k0_pay1, k0_pay6, proj]
  simp only [norm_apply]
  rfl
end Payloads

/-- Row `n` of the batch's rows laid end to end: its batch and its position. -/
abbrev bOf (n : Fin 32768) : Fin 4 := ⟨n.val / 8192, by omega⟩
abbrev tOf (n : Fin 32768) : Fin 8192 := ⟨n.val % 8192, by omega⟩

/-- The arrays the host prepares, at an index: the rows laid end to end, the gain as one row, the four column slices
    of the weights. -/
theorem rows_x (x : Vec Ideal S4x8192x1024 .f32) (n : Fin 32768) (k : Fin 1024) :
    shapeCast S32768x1024 x shapeCasts_S4x8192x1024_S32768x1024 (ix2 n k) = x (ix3 (bOf n) (tOf n) k) := by
  pointwise
theorem row_g (g : Vec Ideal S1024 .f32) (k : Fin 1024) :
    shapeCast S1x1024 g shapeCasts_S1024_S1x1024 (ix2 0 k) = g (ix1 k) := by
  pointwise
theorem cols_zr (w : Vec Ideal S1024x5640 .f32) (k : Fin 1024) (l : Fin 2048) :
    extractStridedSlice S1024x2048 ![0, 0] w slices_S1024x5640_S1024x2048_0_0 (ix2 k l) = w (ix2 k ⟨l.val, by omega⟩) := by
  pointwise
theorem cols_zm (w : Vec Ideal S1024x5640 .f32) (k : Fin 1024) (l : Fin 1536) :
    extractStridedSlice S1024x1536 ![0, 2048] w slices_S1024x5640_S1024x1536_0_2048 (ix2 k l)
      = w (ix2 k ⟨2048 + l.val, by omega⟩) := by
  pointwise
theorem cols_zg (w : Vec Ideal S1024x5640 .f32) (k : Fin 1024) (l : Fin 2048) :
    extractStridedSlice S1024x2048 ![0, 3592] w slices_S1024x5640_S1024x2048_0_3592 (ix2 k l)
      = w (ix2 k ⟨3592 + l.val, by omega⟩) := by
  pointwise
/-- The value the host fills up with: the integer zero, converted. -/
theorem fill_zero (f : FTy) : FloatOps.sitofp (F := Ideal) f (0#32) = 0 := by
  show (((0#32 : BitVec 32).toInt : ℝ) : EReal) = 0
  simp
theorem cols_zif (w : Vec Ideal S1024x5640 .bf16) (k : Fin 1024) (l : Fin 128) :
    pad S1024x128 ![0, 0] ![0, 120] ![0, 0] (extractStridedSlice S1024x8 ![0, 3584] w slices_S1024x5640_S1024x8_0_3584)
      (sitofp (F := Ideal) .bf16 (constantI S_ 32 0#32)) pads_S1024x8_S1024x128_000_01200 h_S_ (ix2 k l)
      = if h : l.val < 8 then w (ix2 k ⟨3584 + l.val, by omega⟩) else 0 := by
  pointwise
  rw [fill_zero]

theorem host_x (c : Dev nD) : V m c main_v0
    = shapeCast S32768x1024 (m ((c : Thread nD τ).loc main_arg0)) shapeCasts_S4x8192x1024_S32768x1024 := by
  show StableHlo.after (hostOps0 ++ hostOps0_1 ++ hostOps0_2) _ (Proc.devRef .tc main_v0) = _
  simp only [hostOps0, hostOps0_1, hostOps0_2, List.cons_append, List.nil_append]
  after_results
  rfl
theorem host_g (c : Dev nD) : V m c main_v4
    = shapeCast S1x1024 (m ((c : Thread nD τ).loc main_arg1)) shapeCasts_S1024_S1x1024 := by
  show StableHlo.after (hostOps0 ++ hostOps0_1 ++ hostOps0_2) _ (Proc.devRef .tc main_v4) = _
  simp only [hostOps0, hostOps0_1, hostOps0_2, List.cons_append, List.nil_append]
  after_results
  rfl
theorem host_zr (c : Dev nD) : V m c main_v5
    = extractStridedSlice S1024x2048 ![0, 0] (m ((c : Thread nD τ).loc main_arg2)) slices_S1024x5640_S1024x2048_0_0 := by
  show StableHlo.after (hostOps0 ++ hostOps0_1 ++ hostOps0_2) _ (Proc.devRef .tc main_v5) = _
  simp only [hostOps0, hostOps0_1, hostOps0_2, List.cons_append, List.nil_append]
  after_results
  rfl
theorem host_zm (c : Dev nD) : V m c main_v6
    = extractStridedSlice S1024x1536 ![0, 2048] (m ((c : Thread nD τ).loc main_arg2)) slices_S1024x5640_S1024x1536_0_2048 := by
  show StableHlo.after (hostOps0 ++ hostOps0_1 ++ hostOps0_2) _ (Proc.devRef .tc main_v6) = _
  simp only [hostOps0, hostOps0_1, hostOps0_2, List.cons_append, List.nil_append]
  after_results
  rfl
theorem host_zg (c : Dev nD) : V m c main_v7
    = extractStridedSlice S1024x2048 ![0, 3592] (m ((c : Thread nD τ).loc main_arg2)) slices_S1024x5640_S1024x2048_0_3592 := by
  show StableHlo.after (hostOps0 ++ hostOps0_1 ++ hostOps0_2) _ (Proc.devRef .tc main_v7) = _
  simp only [hostOps0, hostOps0_1, hostOps0_2, List.cons_append, List.nil_append]
  after_results
  rfl
/-- The weights as the launch holds them, in the kernel's narrow type. -/
abbrev narrow (w : Vec Ideal S1024x5640 .f32) : Vec Ideal S1024x5640 .bf16 := w
theorem host_zif (c : Dev nD) : V m c main_v3
    = pad S1024x128 ![0, 0] ![0, 120] ![0, 0]
      (extractStridedSlice S1024x8 ![0, 3584] (narrow (m ((c : Thread nD τ).loc main_arg2))) slices_S1024x5640_S1024x8_0_3584)
      (sitofp (F := Ideal) .bf16 (constantI S_ 32 0#32)) pads_S1024x8_S1024x128_000_01200 h_S_ := by
  show StableHlo.after (hostOps0 ++ hostOps0_1 ++ hostOps0_2) _ (Proc.devRef .tc main_v3) = _
  simp only [hostOps0, hostOps0_1, hostOps0_2, List.cons_append, List.nil_append]
  after_results
  rfl

/-! What the four result arrays are shown to hold: row `n` of the input, normalised, through one column each. -/
section Results
variable (x : Vec Ideal S4x8192x1024 .f32) (g : Vec Ideal S1024 .f32) (w : Vec Ideal S1024x5640 .f32)

def rowProj (n : Fin 32768) (u : Fin 1024 → EReal) : EReal :=
  proj (fun k => x (ix3 (bOf n) (tOf n) k)) (fun k => g (ix1 k)) u

def zr : Vec Ideal S32768x2048 .f32 := fun j => rowProj x g (j 0) fun k => w (ix2 k ⟨(j 1).val, by have := (j 1).isLt; change _ < 2048 at this; omega⟩)
def zm : Vec Ideal S32768x1536 .f32 := fun j => rowProj x g (j 0) fun k => w (ix2 k ⟨2048 + (j 1).val, by have := (j 1).isLt; change _ < 1536 at this; omega⟩)
def zif : Vec Ideal S32768x128 .f32 := fun j => rowProj x g (j 0) fun k =>
  if h : (j 1).val < 8 then w (ix2 k ⟨3584 + (j 1).val, by omega⟩) else 0
def zg : Vec Ideal S32768x2048 .f32 := fun j => rowProj x g (j 0) fun k => w (ix2 k ⟨3592 + (j 1).val, by have := (j 1).isLt; change _ < 2048 at this; omega⟩)

theorem ref_norm (j : S4x8192x1024.Idx) : Cert.Reference2Ideal.Read.val_main_v12 (F := Ideal) x g j
    = normed (fun k => x (ix3 (j 0) (j 1) k)) (fun k => g (ix1 k)) (j 2) := by
  idx_vars j
  open Cert.Reference2Ideal.Read in
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, normed]

theorem ref_z (n : Fin 32768) (l : Fin 5640) : Cert.Reference2Ideal.Read.val_main_v14 (F := Ideal) x g w (ix2 n l)
    = rowProj x g n fun k => w (ix2 k l) := by
  open Cert.Reference2Ideal.Read in
  pointwise [val_main_v14, val_main_v13, rowProj, proj]
  simp only [ref_norm]
  rfl

theorem ref_zr (j : S32768x2048.Idx) : Cert.Reference2Ideal.Read.val_main_v17 (F := Ideal) x g w j = zr x g w j := by
  idx_vars j
  pointwise [Cert.Reference2Ideal.Read.val_main_v17, zr]
  exact ref_z ..
theorem ref_zm (j : S32768x1536.Idx) : Cert.Reference2Ideal.Read.val_main_v18 (F := Ideal) x g w j = zm x g w j := by
  idx_vars j
  pointwise [Cert.Reference2Ideal.Read.val_main_v18, zm]
  exact ref_z ..
theorem ref_zg (j : S32768x2048.Idx) : Cert.Reference2Ideal.Read.val_main_v19 (F := Ideal) x g w j = zg x g w j := by
  idx_vars j
  pointwise [Cert.Reference2Ideal.Read.val_main_v19, zg]
  exact ref_z ..
theorem ref_zif (j : S32768x128.Idx) : Cert.Reference2Ideal.Read.val_main_v16 (F := Ideal) x g w j = zif x g w j := by
  idx_vars j
  pointwise [Cert.Reference2Ideal.Read.val_main_v16, Cert.Reference2Ideal.Read.val_main_v15, Cert.Reference2Ideal.Read.val_main_call0_v0,
    Cert.Reference2Ideal.Read.val_main_c, zif]
  rw [fill_zero]
  by_cases h : j1.val < 8
  · simp only [h, dite_true]
    exact ref_z ..
  · simp only [h, dite_false, rowProj, proj, mul_zero, Finset.sum_const_zero]
end Results

/-- The block of each window at each point: 256 rows of the row-tiled arrays, all of the others. -/
theorem idx_in : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0] :=
  (by decide +kernel : ∀ t : Fin grid0.N, _)
theorem idx_out : ∀ t : Fin cfg0.N, win0_6.index t = ![t.val, 0] ∧ win0_7.index t = ![t.val, 0]
    ∧ win0_8.index t = ![t.val, 0] ∧ win0_9.index t = ![t.val, 0] :=
  (by decide +kernel : ∀ t : Fin grid0.N, _)

/-- Row `r` of the block of point `t`. -/
abbrev rowOf (t : Fin 128) (r : Fin 256) : Fin 32768 := ⟨256 * t.val + r.val, by omega⟩

/-- The input block and the gain's, at an index. -/
theorem blk_x (c : Dev nD) (t : Fin cfg0.N) (r : Fin 256) (k : Fin 1024) : iblk m c 0 t (ix2 r k)
    = m ((c : Thread nD τ).loc main_arg0) (ix3 (bOf (rowOf t r)) (tOf (rowOf t r)) k) := by
  obtain ⟨e0, -⟩ := idx_in t
  have p : (win0_0.blk t).view.emb (ix2 r k) = ix2 (rowOf t r) k := by blk_ext [e0]
  blk_simp [iblk]
  rw [p, host_x]
  exact rows_x _ _ _
theorem blk_g (c : Dev nD) (t : Fin cfg0.N) (k : Fin 1024) : iblk m c 1 t (ix2 0 k)
    = m ((c : Thread nD τ).loc main_arg1) (ix1 k) := by
  obtain ⟨-, e1, -⟩ := idx_in t
  have p : (win0_1.blk t).view.emb (ix2 0 k) = ix2 0 k := by blk_ext [e1]
  blk_simp [iblk]
  rw [p, host_g]
  exact row_g _ _

theorem final_zr (c : Dev nD) : (dats m 0 c).arrAt 6 cfg0.N
    = zr (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨e6, e7, e8, e9⟩ := idx_out t
  obtain ⟨-, -, e2, e3, e4, e5⟩ := idx_in t
  blk_simp
  rw [after0_6]
  frame_out
  have p : (win0_6.blk t).view.emb y = ix2 (rowOf t (y 0)) (y 1) := by blk_ext [e6]
  have q : ∀ k : Fin 1024, iblk m c 2 t (ix2 k (y 1))
      = m ((c : Thread nD τ).loc main_arg2) (ix2 k ⟨(y 1).val, by have := (y 1).isLt; change _ < 2048 at this; omega⟩) := fun k => by
    have p : (win0_2.blk t).view.emb (ix2 k (y 1)) = ix2 k (y 1) := by blk_ext [e2]
    blk_simp [iblk]
    rw [p, host_zr]
    exact cols_zr _ _ _
  rw [p]
  refine (zr_apply _ _ _ _).trans ?_
  rw [funext q, funext (blk_x m c t (y 0)), funext (blk_g m c t)]
  rfl

theorem final_zm (c : Dev nD) : (dats m 0 c).arrAt 7 cfg0.N
    = zm (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨e6, e7, e8, e9⟩ := idx_out t
  obtain ⟨-, -, e2, e3, e4, e5⟩ := idx_in t
  blk_simp
  rw [after0_7]
  frame_out
  have p : (win0_7.blk t).view.emb y = ix2 (rowOf t (y 0)) (y 1) := by blk_ext [e7]
  have q : ∀ k : Fin 1024, iblk m c 3 t (ix2 k (y 1))
      = m ((c : Thread nD τ).loc main_arg2) (ix2 k ⟨2048 + (y 1).val, by have := (y 1).isLt; change _ < 1536 at this; omega⟩) := fun k => by
    have p : (win0_3.blk t).view.emb (ix2 k (y 1)) = ix2 k (y 1) := by blk_ext [e3]
    blk_simp [iblk]
    rw [p, host_zm]
    exact cols_zm _ _ _
  rw [p]
  refine (zm_apply _ _ _ _).trans ?_
  rw [funext q, funext (blk_x m c t (y 0)), funext (blk_g m c t)]
  rfl

theorem final_zif (c : Dev nD) : (dats m 0 c).arrAt 8 cfg0.N
    = zif (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨e6, e7, e8, e9⟩ := idx_out t
  obtain ⟨-, -, e2, e3, e4, e5⟩ := idx_in t
  blk_simp
  rw [after0_8]
  frame_out
  have p : (win0_8.blk t).view.emb y = ix2 (rowOf t (y 0)) (y 1) := by blk_ext [e8]
  have q : ∀ k : Fin 1024, iblk m c 4 t (ix2 k (y 1))
      = if h : (y 1).val < 8 then m ((c : Thread nD τ).loc main_arg2) (ix2 k ⟨3584 + (y 1).val, by omega⟩) else (0 : EReal) := fun k => by
    have p : (win0_4.blk t).view.emb (ix2 k (y 1)) = ix2 k (y 1) := by blk_ext [e4]
    blk_simp [iblk]
    rw [p, host_zif]
    exact cols_zif _ _ _
  rw [p]
  refine (zif_apply _ _ _ _).trans ?_
  rw [funext q, funext (blk_x m c t (y 0)), funext (blk_g m c t)]
  rfl

theorem final_zg (c : Dev nD) : (dats m 0 c).arrAt 9 cfg0.N
    = zg (m ((c : Thread nD τ).loc main_arg0)) (m ((c : Thread nD τ).loc main_arg1)) (m ((c : Thread nD τ).loc main_arg2)) := by
  refine (dats m 0 c).arrAt_eq_of_covers 9 _ (by decide +kernel) fun t hf y => ?_
  obtain ⟨e6, e7, e8, e9⟩ := idx_out t
  obtain ⟨-, -, e2, e3, e4, e5⟩ := idx_in t
  blk_simp
  rw [after0_9]
  frame_out
  have p : (win0_9.blk t).view.emb y = ix2 (rowOf t (y 0)) (y 1) := by blk_ext [e9]
  have q : ∀ k : Fin 1024, iblk m c 5 t (ix2 k (y 1))
      = m ((c : Thread nD τ).loc main_arg2) (ix2 k ⟨3592 + (y 1).val, by have := (y 1).isLt; change _ < 2048 at this; omega⟩) := fun k => by
    have p : (win0_5.blk t).view.emb (ix2 k (y 1)) = ix2 k (y 1) := by blk_ext [e5]
    blk_simp [iblk]
    rw [p, host_zg]
    exact cols_zg _ _ _
  rw [p]
  refine (zg_apply _ _ _ _).trans ?_
  rw [funext q, funext (blk_x m c t (y 0)), funext (blk_g m c t)]
  rfl

/-- The launch's run, its four result arrays read. -/
theorem run : θ_run defs (onTc (τ := τ) (main (F := Ideal))) ⟨m, fun _ => 0, ρ⟩ fun r => ∀ c : Dev nD,
      r.2.mem ((c : Thread nD τ).loc main_v8_0) = zr (m ((c : Thread nD τ).loc main_arg0)) (m ((c : Thread nD τ).loc main_arg1)) (m ((c : Thread nD τ).loc main_arg2))
      ∧ r.2.mem ((c : Thread nD τ).loc main_v8_1) = zm (m ((c : Thread nD τ).loc main_arg0)) (m ((c : Thread nD τ).loc main_arg1)) (m ((c : Thread nD τ).loc main_arg2))
      ∧ r.2.mem ((c : Thread nD τ).loc main_v8_2) = zif (m ((c : Thread nD τ).loc main_arg0)) (m ((c : Thread nD τ).loc main_arg1)) (m ((c : Thread nD τ).loc main_arg2))
      ∧ r.2.mem ((c : Thread nD τ).loc main_v8_3) = zg (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_zr m c), (h c).2.1.trans (final_zm m c),
    (h c).2.2.1.trans (final_zif m c), (h c).2.2.2.1.trans (final_zg m c), (h c).2.2.2.2⟩)
    (Cert.Kernel2Ideal.Value.run_blocks m ρ)

/-- Both programs' four results are the same functions of arguments that agree. -/
theorem algebraic : Cert.algebraic_Kernel2Ideal_Reference2Ideal := by
  intro m ρ m' ρ' _ hagree
  refine ⟨_, _, _, _, run m ρ, ?_⟩
  refine (θ_run Cert.Reference2Ideal.defs _ _).mono
    (fun _ h c => ⟨(h c).1.trans ?_, (h c).2.1.trans ?_, (h c).2.2.1.trans ?_, (h c).2.2.2.1.trans ?_, (h c).2.2.2.2⟩)
    (Cert.Reference2Ideal.Value.run (F := Ideal) m' ρ')
  all_goals
    obtain ⟨h0, h1, h2⟩ := hagree c
    rw [h0, h1, h2]
  · exact (Cert.Reference2Ideal.Read.val_main_v17_eq ..).trans (funext (ref_zr _ _ _))
  · exact (Cert.Reference2Ideal.Read.val_main_v18_eq ..).trans (funext (ref_zm _ _ _))
  · exact (Cert.Reference2Ideal.Read.val_main_v16_eq ..).trans (funext (ref_zif _ _ _))
  · exact (Cert.Reference2Ideal.Read.val_main_v19_eq ..).trans (funext (ref_zg _ _ _))

end Cert.InProj
-- ==== Proof.Merge.lean ====
/- The merge of the two branches. A row of the result is the row of the residual stream plus the merged row through
   the output projection; the merged row is the two mixers' rows, each through its own up-projection and its own
   gate. The launch works on 256 rows at a time with the three weight matrices whole, the reference on all rows. -/
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

set_option maxRecDepth 16384

noncomputable section

namespace Cert.Merge

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One entry of the result, from the gates' row `z`, the two mixers' rows `a`, `b`, the weights, and the residual
    entry `x`. -/
def entry (x : EReal) (z : Fin 2048 → EReal) (a b : Fin 512 → EReal) (wr wm : Fin 512 → Fin 1024 → EReal)
    (wo : Fin 1024 → EReal) : EReal :=
  x + ∑ k : Fin 1024, (Ideal.logistic (z ⟨k.val, by omega⟩) * (∑ l : Fin 512, a l * wr l k)
    + Ideal.logistic (z ⟨k.val + 1024, by omega⟩) * (∑ l : Fin 512, b l * wm l k)) * wo k

/-- The body's stored block at an index. -/
theorem pay_apply (z : Vec Ideal S256x2048 .f32) (a : Vec Ideal S256x512 .bf16) (wr : Vec Ideal S512x1024 .bf16)
    (b : Vec Ideal S256x512 .bf16) (wm : Vec Ideal S512x1024 .bf16) (x : Vec Ideal S256x1024 .f32)
    (wo : Vec Ideal S1024x1024 .bf16) (j : S256x1024.Idx) :
    k0_pay1 (F := Ideal) z a wr b wm x wo j
      = entry (x j) (fun k => z (ix2 (j 0) k)) (fun l => a (ix2 (j 0) l)) (fun l => b (ix2 (j 0) l))
          (fun l k => wr (ix2 l k)) (fun l k => wm (ix2 l k)) (fun k => wo (ix2 k (j 1))) := by
  idx_vars j
  pointwise [k0_pay1, entry]
  simp only [Nat.add_comm 1024]

/-- What the launch reads of the arrays the host prepares. -/
theorem host_x (c : Dev nD) : V m c main_v0
    = shapeCast S32768x1024 (m ((c : Thread nD τ).loc main_arg0)) shapeCasts_S4x8192x1024_S32768x1024 := by
  show StableHlo.after hostOps0 _ (Proc.devRef .tc main_v0) = _
  after_results
  rfl
theorem host_r (c : Dev nD) : V m c main_v1
    = shapeCast S32768x512 (m ((c : Thread nD τ).loc main_arg1)) shapeCasts_S4x8192x512_S32768x512 := by
  show StableHlo.after hostOps0 _ (Proc.devRef .tc main_v1) = _
  after_results
  rfl
theorem host_m (c : Dev nD) : V m c main_v2
    = shapeCast S32768x512 (m ((c : Thread nD τ).loc main_arg2)) shapeCasts_S4x8192x512_S32768x512 := by
  show StableHlo.after hostOps0 _ (Proc.devRef .tc main_v2) = _
  after_results
  rfl
theorem host_wr (c : Dev nD) : V m c main_v3 = m ((c : Thread nD τ).loc main_arg4) := by
  show StableHlo.after hostOps0 _ (Proc.devRef .tc main_v3) = _
  after_results
  rfl
theorem host_wm (c : Dev nD) : V m c main_v4 = m ((c : Thread nD τ).loc main_arg5) := by
  show StableHlo.after hostOps0 _ (Proc.devRef .tc main_v4) = _
  after_results
  rfl
theorem host_wo (c : Dev nD) : V m c main_v5 = m ((c : Thread nD τ).loc main_arg6) := by
  show StableHlo.after hostOps0 _ (Proc.devRef .tc main_v5) = _
  after_results
  rfl

/-- The block of each window at each point: 256 rows of the row-tiled arrays, all of each weight matrix. -/
theorem idx_rows : ∀ t : Fin cfg0.N, (win0_0.index t = ![t.val, 0] ∧ win0_1.index t = ![t.val, 0]
    ∧ win0_2.index t = ![t.val, 0]) ∧ win0_3.index t = ![t.val, 0] ∧ win0_7.index t = ![t.val, 0] :=
  (by decide +kernel : ∀ t : Fin grid0.N, _)
theorem idx_whole : ∀ t : Fin cfg0.N, win0_4.index t = ![0, 0] ∧ win0_5.index t = ![0, 0] ∧ win0_6.index t = ![0, 0] :=
  (by decide +kernel : ∀ t : Fin grid0.N, _)

/-- Row `n` of the batch's rows laid end to end: its batch and its position. -/
abbrev bOf (n : Fin 32768) : Fin 4 := ⟨n.val / 8192, by omega⟩
abbrev tOf (n : Fin 32768) : Fin 8192 := ⟨n.val % 8192, by omega⟩

theorem rows_x (x : Vec Ideal S4x8192x1024 .f32) (n : Fin 32768) (k : Fin 1024) :
    shapeCast S32768x1024 x shapeCasts_S4x8192x1024_S32768x1024 (ix2 n k) = x (ix3 (bOf n) (tOf n) k) := by
  pointwise
theorem rows_a (x : Vec Ideal S4x8192x512 .bf16) (n : Fin 32768) (k : Fin 512) :
    shapeCast S32768x512 x shapeCasts_S4x8192x512_S32768x512 (ix2 n k) = x (ix3 (bOf n) (tOf n) k) := by
  pointwise

/-- What the result array is shown to hold. -/
def result (x : Vec Ideal S4x8192x1024 .f32) (a b : Vec Ideal S4x8192x512 .bf16) (z : Vec Ideal S32768x2048 .f32)
    (wr wm : Vec Ideal S512x1024 .f32) (wo : Vec Ideal S1024x1024 .f32) : Vec Ideal S32768x1024 .f32 := fun j =>
  entry (x (ix3 (bOf (j 0)) (tOf (j 0)) (j 1))) (fun k => z (ix2 (j 0) k)) (fun l => a (ix3 (bOf (j 0)) (tOf (j 0)) l))
    (fun l => b (ix3 (bOf (j 0)) (tOf (j 0)) l)) (fun l k => wr (ix2 l k)) (fun l k => wm (ix2 l k))
    (fun k => wo (ix2 k (j 1)))

theorem result_apply (x : Vec Ideal S4x8192x1024 .f32) (a b : Vec Ideal S4x8192x512 .bf16) (z : Vec Ideal S32768x2048 .f32)
    (wr wm : Vec Ideal S512x1024 .f32) (wo : Vec Ideal S1024x1024 .f32) (n : Fin 32768) (k : Fin 1024) :
    result x a b z wr wm wo (ix2 n k)
      = entry (shapeCast S32768x1024 x shapeCasts_S4x8192x1024_S32768x1024 (ix2 n k)) (fun k => z (ix2 n k))
        (fun l => shapeCast S32768x512 a shapeCasts_S4x8192x512_S32768x512 (ix2 n l))
        (fun l => shapeCast S32768x512 b shapeCasts_S4x8192x512_S32768x512 (ix2 n l))
        (fun l k => wr (ix2 l k)) (fun l k => wm (ix2 l k)) (fun k' => wo (ix2 k' k)) := by
  rw [rows_x, funext (rows_a a n), funext (rows_a b n)]
  rfl

theorem ref_apply (x : Vec Ideal S4x8192x1024 .f32) (a b : Vec Ideal S4x8192x512 .bf16) (z : Vec Ideal S32768x2048 .f32)
    (wr wm : Vec Ideal S512x1024 .f32) (wo : Vec Ideal S1024x1024 .f32) (j : S32768x1024.Idx) :
    Cert.Reference3Ideal.Read.val_main_v25 (F := Ideal) x a b z wr wm wo j = result x a b z wr wm wo j := by
  idx_vars j
  unfold Cert.Reference3Ideal.Read.val_main_v25
  pointwise [Cert.Reference3Ideal.Read.val_main_v24, Cert.Reference3Ideal.Read.val_main_v23, Cert.Reference3Ideal.Read.val_main_v22,
    Cert.Reference3Ideal.Read.val_main_v21, Cert.Reference3Ideal.Read.val_main_v20, Cert.Reference3Ideal.Read.val_main_v19,
    Cert.Reference3Ideal.Read.val_main_v18, Cert.Reference3Ideal.Read.val_main_v17, Cert.Reference3Ideal.Read.val_main_v16,
    Cert.Reference3Ideal.Read.val_main_v15, Cert.Reference3Ideal.Read.val_main_v14, Cert.Reference3Ideal.Read.val_main_v13,
    Cert.Reference3Ideal.Read.val_main_v12, Cert.Reference3Ideal.Read.val_main_v11, Cert.Reference3Ideal.Read.val_main_v10,
    Cert.Reference3Ideal.Read.val_main_v9, Cert.Reference3Ideal.Read.val_main_v8, Cert.Reference3Ideal.Read.val_main_v7,
    Cert.Reference3Ideal.Read.val_main_v6, Cert.Reference3Ideal.Read.val_main_v5, Cert.Reference3Ideal.Read.val_main_v4,
    Cert.Reference3Ideal.Read.val_main_v3, Cert.Reference3Ideal.Read.val_main_v2, Cert.Reference3Ideal.Read.val_main_v1,
    Cert.Reference3Ideal.Read.val_main_v0, Cert.Reference3Ideal.Read.val_main_cst, Cert.Reference3Ideal.Read.val_main_cst_0, Cert.Reference3Ideal.Read.val_main_cst_1,
    Cert.Reference3Ideal.Read.val_main_cst_2, result, entry]
  simp only [Nat.add_comm 1024]
  rfl

/-- Row `r` of the block of point `t`. -/
abbrev rowOf (t : Fin 128) (r : Fin 256) : Fin 32768 := ⟨256 * t.val + r.val, by omega⟩

theorem final (c : Dev nD) : (dats m 0 c).arrAt 7 cfg0.N
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t hf y => ?_
  obtain ⟨⟨e0, e1, e2⟩, e3, e7⟩ := idx_rows t
  obtain ⟨e4, e5, e6⟩ := idx_whole t
  blk_simp
  rw [after0_7]
  frame_out
  rw [pay_apply]
  blk_simp [iblk]
  rw [host_x, host_r, host_m, host_wr, host_wm, host_wo, V_main_arg3]
  have p0 : (win0_0.blk t).view.emb y = ix2 (rowOf t (y 0)) (y 1) := by blk_ext [e0]
  have p1 : ∀ l : Fin 512, (win0_1.blk t).view.emb (ix2 (y 0) l) = ix2 (rowOf t (y 0)) l := fun l => by blk_ext [e1]
  have p2 : ∀ l : Fin 512, (win0_2.blk t).view.emb (ix2 (y 0) l) = ix2 (rowOf t (y 0)) l := fun l => by blk_ext [e2]
  have p3 : ∀ l : Fin 2048, (win0_3.blk t).view.emb (ix2 (y 0) l) = ix2 (rowOf t (y 0)) l := fun l => by blk_ext [e3]
  have p4 : ∀ (k : Fin 512) (l : Fin 1024), (win0_4.blk t).view.emb (ix2 k l) = ix2 k l := fun k l => by blk_ext [e4]
  have p5 : ∀ (k : Fin 512) (l : Fin 1024), (win0_5.blk t).view.emb (ix2 k l) = ix2 k l := fun k l => by blk_ext [e5]
  have p6 : ∀ k : Fin 1024, (win0_6.blk t).view.emb (ix2 k (y 1)) = ix2 k (y 1) := fun k => by blk_ext [e6]
  have p7 : (win0_7.blk t).view.emb y = ix2 (rowOf t (y 0)) (y 1) := by blk_ext [e7]
  rw [p0, p7]
  simp only [p1, p2, p3, p4, p5, p6]
  exact (result_apply _ _ _ _ _ _ _ _ _).symm

/-- The launch's run, its result array read. -/
theorem run : θ_run defs (onTc (τ := τ) (main (F := Ideal))) ⟨m, fun _ => 0, ρ⟩ fun r => ∀ c : Dev nD,
      r.2.mem ((c : Thread nD τ).loc main_v6)
        = result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Cert.Kernel3Ideal.Value.run_blocks m ρ)

/-- Both programs' results are `result` of arguments that agree. -/
theorem algebraic : Cert.algebraic_Kernel3Ideal_Reference3Ideal := by
  intro m ρ m' ρ' _ hagree
  refine ⟨_, run m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4, h5, h6⟩ := hagree c
  rw [h0, h1, h2, h3, h4, h5, h6]
  exact (Cert.Reference3Ideal.Read.val_main_v25_eq ..).trans (funext (ref_apply _ _ _ _ _ _ _))

end Cert.Merge
-- ==== Proof.Embed.lean ====
/- The per-layer embedding and the final norm. A row of the stream takes the experts' row, then its embedding through a
   gate computed from its own normalised values, and is normalised at the end. The launch lays the prompt's rows and the
   sample's end to end and works on 256 at a time; the reference treats the two one after the other. -/
module

public import proofs.«01_k».proof.Defs
public import proofs.«01_k».proof.Proof.Gen.Kernel4Ideal.Value
public import proofs.«01_k».proof.Proof.Gen.Reference4Ideal.Read
public import proofs.«01_k».proof.Proof.InProj

@[expose] public section

set_option maxRecDepth 16384

noncomputable section

namespace Cert.Embed

open Cert.Kernel4Ideal Cert.Kernel4Ideal.Gen Idealize.ShloMosaic Idealize.ShloMosaic.TcCoe Idealize.SL.Sem
open Idealize.ShloMosaic.Pipeline (Dat)
open Cert.InProj (normed)

variable (m : (ℓ : Loc nD τ sig) → Buf (Elt Ideal) ℓ) (ρ : Dev nD → PrngReg)

/-- A row with its embedding added: `p` through its projection, gated by the row's own normalised values. -/
def embedded (x g : Fin 1024 → EReal) (p : Fin 256 → EReal) (wg : Fin 1024 → Fin 1024 → EReal)
    (wp : Fin 256 → Fin 1024 → EReal) (k : Fin 1024) : EReal :=
  x k + (∑ l : Fin 256, p l * wp l k) * Ideal.logistic (∑ l : Fin 1024, normed x g l * wg l k)

/-- A row of the result. -/
def outRow (x o g : Fin 1024 → EReal) (p : Fin 256 → EReal) (wg : Fin 1024 → Fin 1024 → EReal)
    (wp : Fin 256 → Fin 1024 → EReal) (gf : Fin 1024 → EReal) : Fin 1024 → EReal :=
  normed (embedded (fun k => x k + o k) g p wg wp) gf

section Payloads
variable (x o : Vec Ideal S256x1024 .f32) (g : Vec Ideal S1x1024 .f32) (wg : Vec Ideal S1024x1024 .bf16)
  (p : Vec Ideal S256x256 .f32) (wp : Vec Ideal S256x1024 .bf16) (gf : Vec Ideal S1x1024 .f32)

theorem embedded_apply (j : S256x1024.Idx) : k0_pay2 (F := Ideal) x o g wg p wp j
    = embedded (fun k => x (ix2 (j 0) k) + o (ix2 (j 0) k)) (fun k => g (ix2 0 k)) (fun k => p (ix2 (j 0) k))
      (fun k l => wg (ix2 k l)) (fun k l => wp (ix2 k l)) (j 1) := by
  idx_vars j
  pointwise [k0_pay2, embedded, normed]

theorem out_apply (j : S256x1024.Idx) :
    k0_pay1 (F := Ideal) (k0_pay2 x o g wg p wp) (k0_pay3 gf) (k0_pay4 x o g wg p wp) j
    = outRow (fun k => x (ix2 (j 0) k)) (fun k => o (ix2 (j 0) k)) (fun k => g (ix2 0 k)) (fun k => p (ix2 (j 0) k))
      (fun k l => wg (ix2 k l)) (fun k l => wp (ix2 k l)) (fun k => gf (ix2 0 k)) (j 1) := by
  idx_vars j
  pointwise [k0_pay1, k0_pay3, k0_pay4, outRow, normed]
  simp only [embedded_apply]
  rfl
end Payloads

/-- The rows: a row of the prompt's or, past them, of the sample's. -/
def rowX (a : Vec Ideal S32768x1024 .f32) (b : Vec Ideal S512x1024 .f32) (n : Fin 33280) (k : Fin 1024) : EReal :=
  if h : n.val < 32768 then a (ix2 ⟨n.val, h⟩ k) else b (ix2 ⟨n.val - 32768, by omega⟩ k)
def rowP (a : Vec Ideal S4x8192x256 .f32) (b : Vec Ideal S16x32x256 .f32) (n : Fin 33280) (k : Fin 256) : EReal :=
  if h : n.val < 32768 then a (ix3 ⟨n.val / 8192, by omega⟩ ⟨n.val % 8192, by omega⟩ k)
  else b (ix3 ⟨(n.val - 32768) / 32, by omega⟩ ⟨(n.val - 32768) % 32, by omega⟩ k)

theorem cat_x (a : Vec Ideal S32768x1024 .f32) (b : Vec Ideal S512x1024 .f32) (n : Fin 33280) (k : Fin 1024) :
    concatenate S33280x1024 0 [⟨S32768x1024, a⟩, ⟨S512x1024, b⟩] concatenates_S32768x1024_S512x1024_S33280x1024_d0 (ix2 n k)
      = rowX a b n k := by
  pointwise [rowX]
theorem cat_p (a : Vec Ideal S4x8192x256 .f32) (b : Vec Ideal S16x32x256 .f32) (n : Fin 33280) (k : Fin 256) :
    concatenate S33280x256 0 [⟨S32768x256, shapeCast S32768x256 a shapeCasts_S4x8192x256_S32768x256⟩,
      ⟨S512x256, shapeCast S512x256 b shapeCasts_S16x32x256_S512x256⟩] concatenates_S32768x256_S512x256_S33280x256_d0 (ix2 n k)
      = rowP a b n k := by
  pointwise [rowP]
theorem row_g (g : Vec Ideal S1024 .f32) (k : Fin 1024) :
    shapeCast S1x1024 g shapeCasts_S1024_S1x1024 (ix2 0 k) = g (ix1 k) := by
  pointwise

theorem host_x (c : Dev nD) : V m c main_v0 = concatenate S33280x1024 0 [⟨S32768x1024, (m ((c : Thread nD τ).loc main_arg0))⟩, ⟨S512x1024, (m ((c : Thread nD τ).loc main_arg1))⟩]
    concatenates_S32768x1024_S512x1024_S33280x1024_d0 := by
  show StableHlo.after hostOps0 _ (Proc.devRef .tc main_v0) = _
  after_results
theorem host_p (c : Dev nD) : V m c main_v3 = concatenate S33280x256 0 [⟨S32768x256, shapeCast S32768x256 (m ((c : Thread nD τ).loc main_arg3)) shapeCasts_S4x8192x256_S32768x256⟩,
    ⟨S512x256, shapeCast S512x256 (m ((c : Thread nD τ).loc main_arg4)) shapeCasts_S16x32x256_S512x256⟩] concatenates_S32768x256_S512x256_S33280x256_d0 := by
  show StableHlo.after hostOps0 _ (Proc.devRef .tc main_v3) = _
  after_results
  rfl
theorem host_g (c : Dev nD) : V m c main_v4 = shapeCast S1x1024 (m ((c : Thread nD τ).loc main_arg5)) shapeCasts_S1024_S1x1024 := by
  show StableHlo.after hostOps0 _ (Proc.devRef .tc main_v4) = _
  after_results
  rfl
theorem host_wg (c : Dev nD) : V m c main_v5 = m ((c : Thread nD τ).loc main_arg6) := by
  show StableHlo.after hostOps0 _ (Proc.devRef .tc main_v5) = _
  after_results
  rfl
theorem host_wp (c : Dev nD) : V m c main_v6 = m ((c : Thread nD τ).loc main_arg7) := by
  show StableHlo.after hostOps0 _ (Proc.devRef .tc main_v6) = _
  after_results
  rfl
theorem host_gf (c : Dev nD) : V m c main_v7 = shapeCast S1x1024 (m ((c : Thread nD τ).loc main_arg8)) shapeCasts_S1024_S1x1024 := by
  show StableHlo.after hostOps0 _ (Proc.devRef .tc main_v7) = _
  after_results
  rfl

/-- What the result array is shown to hold. -/
def result (x0 : Vec Ideal S32768x1024 .f32) (x1 : Vec Ideal S512x1024 .f32) (o : Vec Ideal S33280x1024 .f32)
    (p0 : Vec Ideal S4x8192x256 .f32) (p1 : Vec Ideal S16x32x256 .f32) (g : Vec Ideal S1024 .f32)
    (wg : Vec Ideal S1024x1024 .f32) (wp : Vec Ideal S256x1024 .f32) (gf : Vec Ideal S1024 .f32) :
    Vec Ideal S33280x1024 .f32 := fun j =>
  outRow (rowX x0 x1 (j 0)) (fun k => o (ix2 (j 0) k)) (fun k => g (ix1 k)) (rowP p0 p1 (j 0))
    (fun k l => wg (ix2 k l)) (fun k l => wp (ix2 k l)) (fun k => gf (ix1 k)) (j 1)

section Reference
variable (x0 : Vec Ideal S32768x1024 .f32) (x1 : Vec Ideal S512x1024 .f32) (o : Vec Ideal S33280x1024 .f32)
    (p0 : Vec Ideal S4x8192x256 .f32) (p1 : Vec Ideal S16x32x256 .f32) (g : Vec Ideal S1024 .f32)
    (wg : Vec Ideal S1024x1024 .f32) (wp : Vec Ideal S256x1024 .f32) (gf : Vec Ideal S1024 .f32)

open Cert.Reference4Ideal.Read in
/-- The prompt's rows with their embeddings, and the sample's. -/
theorem ref_embedded0 (n : Fin 32768) (k : Fin 1024) : val_main_v25 (F := Ideal) x0 o p0 g wg wp (ix2 n k)
    = embedded (fun k => x0 (ix2 n k) + o (ix2 ⟨n.val, by omega⟩ k)) (fun k => g (ix1 k))
      (fun l => p0 (ix3 ⟨n.val / 8192, by omega⟩ ⟨n.val % 8192, by omega⟩ l)) (fun k l => wg (ix2 k l)) (fun k l => wp (ix2 k l)) k := by
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, embedded, normed]
  rfl
open Cert.Reference4Ideal.Read in
theorem ref_embedded1 (n : Fin 512) (k : Fin 1024) : val_main_v64 (F := Ideal) x1 o p1 g wg wp (ix2 n k)
    = embedded (fun k => x1 (ix2 n k) + o (ix2 ⟨32768 + n.val, by omega⟩ k)) (fun k => g (ix1 k))
      (fun l => p1 (ix3 ⟨n.val / 32, by omega⟩ ⟨n.val % 32, by omega⟩ l)) (fun k l => wg (ix2 k l)) (fun k l => wp (ix2 k l)) k := by
  pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst_7, val_main_cst_8, val_main_cst_9, val_main_cst_10, val_main_cst_11, embedded, normed]
  rfl

open Cert.Reference4Ideal.Read in
theorem ref_out0 (n : Fin 32768) (k : Fin 1024) : val_main_v38 (F := Ideal) x0 o p0 g wg wp gf (ix2 n k)
    = outRow (fun k => x0 (ix2 n k)) (fun k => o (ix2 ⟨n.val, by omega⟩ k)) (fun k => g (ix1 k))
      (fun l => p0 (ix3 ⟨n.val / 8192, by omega⟩ ⟨n.val % 8192, by omega⟩ l)) (fun k l => wg (ix2 k l)) (fun k l => wp (ix2 k l))
      (fun k => gf (ix1 k)) k := by
  pointwise [val_main_v38, val_main_v37, val_main_v36, val_main_v35, val_main_v34, val_main_v33, val_main_v32, val_main_v31, val_main_v30, val_main_v29, val_main_v28, val_main_v27, val_main_v26, val_main_cst_4, val_main_cst_5, val_main_cst_6, outRow, normed]
  simp only [ref_embedded0]
open Cert.Reference4Ideal.Read in
theorem ref_out1 (n : Fin 512) (k : Fin 1024) : val_main_v77 (F := Ideal) x1 o p1 g wg wp gf (ix2 n k)
    = outRow (fun k => x1 (ix2 n k)) (fun k => o (ix2 ⟨32768 + n.val, by omega⟩ k)) (fun k => g (ix1 k))
      (fun l => p1 (ix3 ⟨n.val / 32, by omega⟩ ⟨n.val % 32, by omega⟩ l)) (fun k l => wg (ix2 k l)) (fun k l => wp (ix2 k l))
      (fun k => gf (ix1 k)) k := by
  pointwise [val_main_v77, val_main_v76, val_main_v75, val_main_v74, val_main_v73, val_main_v72, val_main_v71, val_main_v70, val_main_v69, val_main_v68, val_main_v67, val_main_v66, val_main_v65, val_main_cst_12, val_main_cst_13, val_main_cst_14, outRow, normed]
  simp only [ref_embedded1]

open Cert.Reference4Ideal.Read in
theorem ref_apply (j : S33280x1024.Idx) : val_main_v78 (F := Ideal) x0 x1 o p0 p1 g wg wp gf j
    = result x0 x1 o p0 p1 g wg wp gf j := by
  idx_vars j
  pointwise [val_main_v78, result]
  unfold rowX rowP
  by_cases h : j0.val < 32768
  · simp only [h, dite_true, ref_out0]
  · simp only [h, dite_false, ref_out1]
    have e : (⟨32768 + (j0.val - 32768), by omega⟩ : Fin 33280) = j0 := Fin.ext (by simp only; omega)
    rw [e]
end Reference

/-- The block of each window at each point: 256 rows of the row-tiled arrays, all of the others. -/
theorem idx_rows : ∀ t : Fin cfg0.N, win0_0.index t = ![t.val, 0] ∧ win0_1.index t = ![t.val, 0]
    ∧ win0_2.index t = ![t.val, 0] ∧ win0_7.index t = ![t.val, 0] :=
  (by decide +kernel : ∀ t : Fin grid0.N, _)
theorem idx_whole : ∀ t : Fin cfg0.N, win0_3.index t = ![0, 0] ∧ win0_4.index t = ![0, 0] ∧ win0_5.index t = ![0, 0]
    ∧ win0_6.index t = ![0, 0] :=
  (by decide +kernel : ∀ t : Fin grid0.N, _)

/-- Row `r` of the block of point `t`. -/
abbrev rowOf (t : Fin 130) (r : Fin 256) : Fin 33280 := ⟨256 * t.val + r.val, by omega⟩

theorem final (c : Dev nD) : (dats m 0 c).arrAt 7 cfg0.N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 7 _ (by decide +kernel) fun t hf y => ?_
  obtain ⟨e0, e1, e2, e7⟩ := idx_rows t
  obtain ⟨e3, e4, e5, e6⟩ := idx_whole t
  blk_simp
  rw [after0_7]
  frame_out
  have q0 : ∀ k : Fin 1024, iblk m c 0 t (ix2 (y 0) k) = rowX (m ((c : Thread nD τ).loc main_arg0)) (m ((c : Thread nD τ).loc main_arg1)) (rowOf t (y 0)) k := fun k => by
    have p : (win0_0.blk t).view.emb (ix2 (y 0) k) = ix2 (rowOf t (y 0)) k := by blk_ext [e0]
    blk_simp [iblk]
    rw [p, host_x]
    exact cat_x _ _ _ _
  have q1 : ∀ k : Fin 1024, iblk m c 1 t (ix2 (y 0) k) = m ((c : Thread nD τ).loc main_arg2) (ix2 (rowOf t (y 0)) k) := fun k => by
    have p : (win0_1.blk t).view.emb (ix2 (y 0) k) = ix2 (rowOf t (y 0)) k := by blk_ext [e1]
    blk_simp [iblk]
    rw [p, V_main_arg2]
  have q2 : ∀ k : Fin 256, iblk m c 2 t (ix2 (y 0) k) = rowP (m ((c : Thread nD τ).loc main_arg3)) (m ((c : Thread nD τ).loc main_arg4)) (rowOf t (y 0)) k := fun k => by
    have p : (win0_2.blk t).view.emb (ix2 (y 0) k) = ix2 (rowOf t (y 0)) k := by blk_ext [e2]
    blk_simp [iblk]
    rw [p, host_p]
    exact cat_p _ _ _ _
  have q3 : ∀ k : Fin 1024, iblk m c 3 t (ix2 0 k) = m ((c : Thread nD τ).loc main_arg5) (ix1 k) := fun k => by
    have p : (win0_3.blk t).view.emb (ix2 0 k) = ix2 0 k := by blk_ext [e3]
    blk_simp [iblk]
    rw [p, host_g]
    exact row_g _ _
  have q4 : ∀ k l : Fin 1024, iblk m c 4 t (ix2 k l) = m ((c : Thread nD τ).loc main_arg6) (ix2 k l) := fun k l => by
    have p : (win0_4.blk t).view.emb (ix2 k l) = ix2 k l := by blk_ext [e4]
    blk_simp [iblk]
    rw [p, host_wg]
  have q5 : ∀ (k : Fin 256) (l : Fin 1024), iblk m c 5 t (ix2 k l) = m ((c : Thread nD τ).loc main_arg7) (ix2 k l) := fun k l => by
    have p : (win0_5.blk t).view.emb (ix2 k l) = ix2 k l := by blk_ext [e5]
    blk_simp [iblk]
    rw [p, host_wp]
  have q6 : ∀ k : Fin 1024, iblk m c 6 t (ix2 0 k) = m ((c : Thread nD τ).loc main_arg8) (ix1 k) := fun k => by
    have p : (win0_6.blk t).view.emb (ix2 0 k) = ix2 0 k := by blk_ext [e6]
    blk_simp [iblk]
    rw [p, host_gf]
    exact row_g _ _
  have p : (win0_7.blk t).view.emb y = ix2 (rowOf t (y 0)) (y 1) := by blk_ext [e7]
  rw [p]
  refine (out_apply _ _ _ _ _ _ _ _).trans ?_
  rw [funext q0, funext q1, funext q2, funext q3, funext fun k => funext (q4 k), funext fun k => funext (q5 k), funext q6]
  rfl

/-- The launch's run, its result array read. -/
theorem run : θ_run defs (onTc (τ := τ) (main (F := Ideal))) ⟨m, fun _ => 0, ρ⟩ fun r => ∀ c : Dev nD,
      r.2.mem ((c : Thread nD τ).loc main_v8)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Cert.Kernel4Ideal.Value.run_blocks m ρ)

/-- Both programs' results are `result` of arguments that agree. -/
theorem algebraic : Cert.algebraic_Kernel4Ideal_Reference4Ideal := by
  intro m ρ m' ρ' _ hagree
  refine ⟨_, run m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2, h3, h4, h5, h6, h7, h8⟩ := hagree c
  refine (Cert.Reference4Ideal.Read.val_main_v78_eq m' c).trans ?_
  rw [h0, h1, h2, h3, h4, h5, h6, h7, h8]
  exact funext (ref_apply _ _ _ _ _ _ _ _ _)

end Cert.Embed
-- ==== Proof.MixersValue.lean ====
/- The token mixers' launch: its run, with the outputs as what the proof data computes. -/
module

public import proofs.«01_k».proof.Proof.MixersFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 18's array: the run's contents for that window after the body (`Gen.outsAt0`: its component 0), read through the window's block. -/
theorem flushed18 (c : Dev nD) (t : Fin cfg0.N) :
    (dats m 0 c).flushed 18 t = (cfg0.win 18).cut (grid0.coords t) ((outsAt0 m c t).1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed18, outsAt0]

/-- The index map sends distinct grid points to distinct block indices (decided over the 4 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S16x32x512.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 1), read through the window's block. -/
theorem flushed19 (c : Dev nD) (t : Fin cfg0.N) :
    (dats m 0 c).flushed 19 t = (cfg0.win 19).cut (grid0.coords t) ((outsAt0 m c t).2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed19, outsAt0]

/-- The index map sends distinct grid points to distinct block indices (decided over the 4 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S16x32x512.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 2), read through the window's block. -/
theorem flushed20 (c : Dev nD) (t : Fin cfg0.N) :
    (dats m 0 c).flushed 20 t = (cfg0.win 20).cut (grid0.coords t) ((outsAt0 m c t).2.2.1) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed20, outsAt0]

/-- The index map sends distinct grid points to distinct block indices (decided over the 4 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S16x4x128x128.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the run's contents for that window after the body (`Gen.outsAt0`: its component 3), read through the window's block. -/
theorem flushed21 (c : Dev nD) (t : Fin cfg0.N) :
    (dats m 0 c).flushed 21 t = (cfg0.win 21).cut (grid0.coords t) ((outsAt0 m c t).2.2.2.1) := by
  show (cfg0.win 21).cut (grid0.coords t) ((dats m 0 c).after 21 t) = _
  rw [after0_21]

/-- … so at a point where case A runs, what its write-back would write is that case's NAMED TERM for the window (`Gen.out0_A_21`: the pieces
    its run found, read back) at the point's memrefs and input blocks, and for an output the case reads back what the point before left (`Gen.outsAt0` at `t - 1`) — the kernel's one case, `Gen.outsAt0` by definition. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed21, outsAt0]

/-- The index map sends distinct grid points to distinct block indices (decided over the 4 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S16x4x128x128.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the run's contents for that window after the body (`Gen.outsAt0`: its component 4), read through the window's block. -/
theorem flushed22 (c : Dev nD) (t : Fin cfg0.N) :
    (dats m 0 c).flushed 22 t = (cfg0.win 22).cut (grid0.coords t) ((outsAt0 m c t).2.2.2.2.1) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed22, outsAt0]

/-- The index map sends distinct grid points to distinct block indices (decided over the 4 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S16x4x128.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the run's contents for that window after the body (`Gen.outsAt0`: its component 5), read through the window's block. -/
theorem flushed23 (c : Dev nD) (t : Fin cfg0.N) :
    (dats m 0 c).flushed 23 t = (cfg0.win 23).cut (grid0.coords t) ((outsAt0 m c t).2.2.2.2.2.1) := by
  show (cfg0.win 23).cut (grid0.coords t) ((dats m 0 c).after 23 t) = _
  rw [after0_23]

/-- … so at a point where case A runs, what its write-back would write is that case's NAMED TERM for the window (`Gen.out0_A_23`: the pieces
    its run found, read back) at the point's memrefs and input blocks, and for an output the case reads back what the point before left (`Gen.outsAt0` at `t - 1`) — the kernel's one case, `Gen.outsAt0` by definition. -/
theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed23, outsAt0]

/-- The index map sends distinct grid points to distinct block indices (decided over the 4 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S16x4x128.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the run's contents for that window after the body (`Gen.outsAt0`: its component 6), read through the window's block. -/
theorem flushed24 (c : Dev nD) (t : Fin cfg0.N) :
    (dats m 0 c).flushed 24 t = (cfg0.win 24).cut (grid0.coords t) ((outsAt0 m c t).2.2.2.2.2.2) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — the kernel's one case, `Gen.outsAt0` by definition. -/
theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed24, outsAt0]

/-- The index map sends distinct grid points to distinct block indices (decided over the 4 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S16x8x512.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v32_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v32_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v32_2) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v32_3) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v32_4) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v32_5) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v32_6) = (dats m 0 c).arrAt 24 cfg0.N :=
  (h c).1 24

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- After the frame run, argument `main_arg4` is as launched: input window 6 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 6).trans (((dats m 0 c).arrAt_in 6 rfl _).trans ((A_eq m c 6).trans (V_main_arg4 m c)))

/-- After the frame run, argument `main_arg5` is as launched: input window 7 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 7).trans (((dats m 0 c).arrAt_in 7 rfl _).trans ((A_eq m c 7).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: input window 13 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 13).trans (((dats m 0 c).arrAt_in 13 rfl _).trans ((A_eq m c 13).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v32_0) = (dats m 0 c).arrAt 18 cfg0.N
      ∧ r.2.mem ((c : Thread nD τ).loc main_v32_1) = (dats m 0 c).arrAt 19 cfg0.N
      ∧ r.2.mem ((c : Thread nD τ).loc main_v32_2) = (dats m 0 c).arrAt 20 cfg0.N
      ∧ r.2.mem ((c : Thread nD τ).loc main_v32_3) = (dats m 0 c).arrAt 21 cfg0.N
      ∧ r.2.mem ((c : Thread nD τ).loc main_v32_4) = (dats m 0 c).arrAt 22 cfg0.N
      ∧ r.2.mem ((c : Thread nD τ).loc main_v32_5) = (dats m 0 c).arrAt 23 cfg0.N
      ∧ r.2.mem ((c : Thread nD τ).loc main_v32_6) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post18 m r h c,
      post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.KernelIdeal.Value

end
-- ==== Proof.MixersCore.lean ====
/- The token mixers' step, entry by entry. First what the step is: the retention head and the mLSTM head of one
   sequence over its 32 positions, as sums and maxima over positions and lanes. Then the launch's own stages for one
   sequence and one head, at variable operands, and each of them read at an index: they are that step. -/
module

public import proofs.«01_k».proof.Defs
public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.Mixers

open Cert.KernelIdeal Cert.KernelIdeal.Gen Idealize.ShloMosaic Idealize.ShloMosaic.TcCoe Idealize.SL.Sem

/-! ### The step -/

/-- Rotary embedding of one row: lane `d` with its partner half a head away, the first half's partner negated. -/
def rope (x : Fin 128 → EReal) (c s : Fin 64 → EReal) (d : Fin 128) : EReal :=
  if h : d.val < 64 then x d * c ⟨d.val, h⟩ - x ⟨64 + d.val, by omega⟩ * s ⟨d.val, h⟩
  else x ⟨d.val - 64, by omega⟩ * s ⟨d.val - 64, by omega⟩ + x ⟨64 + (d.val - 64), by omega⟩ * c ⟨d.val - 64, by omega⟩

/-- A retention head's output, before its norm: the block's own positions under the decay mask, and the carried
    state decayed to the position. -/
def retO (a : EReal) (q k v : Fin 32 → Fin 128 → EReal) (S : Fin 128 → Fin 128 → EReal) (i : Fin 32) (e : Fin 128) :
    EReal :=
  (∑ s : Fin 32, if s.val ≤ i.val then (∑ d : Fin 128, q i d * k s d)
      * Ideal.exp (a * max (((i.val : ℝ) : EReal) - ((s.val : ℝ) : EReal)) 0) * v s e else 0)
    + ∑ d : Fin 128, q i d * Ideal.exp (a * (((i.val : ℝ) : EReal) + 1)) * S d e

/-- A retention head's state after the block. -/
def retS (a g : EReal) (k v : Fin 32 → Fin 128 → EReal) (S : Fin 128 → Fin 128 → EReal) (d e : Fin 128) : EReal :=
  g * S d e + ∑ s : Fin 32, k s d * Ideal.exp (a * (Ideal.ofBits .f32 0x41F80000#32 - ((s.val : ℝ) : EReal))) * v s e

/-- A head's row scaled to unit mean square. -/
def normed (o : Fin 128 → EReal) (e : Fin 128) : EReal :=
  o e * Ideal.rsqrt (Ideal.div (∑ l : Fin 128, o l * o l) (Ideal.ofBits .f32 0x43000000#32) + Ideal.ofBits .f32 0x358637BD#32)

/-- The logarithm of the sigmoid. -/
def lsig (x : EReal) : EReal :=
  -(max (-x) 0 + Ideal.log1p (Ideal.exp (-(FloatOps.absf (F := Ideal) (φ := .f32) (-x)))))

/-- The forget gates' running sum. -/
def fsum (x : Fin 32 → EReal) (i : Fin 32) : EReal := ∑ s : Fin 32, if s.val ≤ i.val then lsig (x s) else 0

/-- The log weight of position `s` at position `i`. -/
def lgD (ig f : Fin 32 → EReal) (i s : Fin 32) : EReal :=
  if s.val ≤ i.val then ig s + f i - f s else Ideal.ofBits .f32 0xFF800000#32

/-- The stabiliser at position `i`. -/
def stab (ig f : Fin 32 → EReal) (m : EReal) (i : Fin 32) : EReal :=
  max (m + f i) (Finset.fold max (Ideal.ofBits .f32 0xFF800000#32) (fun s => lgD ig f i s) Finset.univ)

def carryW (ig f : Fin 32 → EReal) (m : EReal) (i : Fin 32) : EReal := Ideal.exp (m + f i - stab ig f m i)

def score (q k : Fin 32 → Fin 128 → EReal) (ig f : Fin 32 → EReal) (m : EReal) (i s : Fin 32) : EReal :=
  (∑ d : Fin 128, q i d * k s d) * Ideal.exp (lgD ig f i s - stab ig f m i)

/-- An mLSTM head's output, before its norm. -/
def mlO (q k v : Fin 32 → Fin 128 → EReal) (ig f : Fin 32 → EReal) (m : EReal) (C : Fin 128 → Fin 128 → EReal)
    (n : Fin 128 → EReal) (i : Fin 32) (e : Fin 128) : EReal :=
  Ideal.div ((∑ s : Fin 32, score q k ig f m i s * v s e) + carryW ig f m i * ∑ d : Fin 128, q i d * C d e)
    (max (FloatOps.absf (F := Ideal) (φ := .f32) ((∑ s : Fin 32, score q k ig f m i s)
        + carryW ig f m i * ∑ d : Fin 128, q i d * n d))
      (Ideal.exp (0 - stab ig f m i)))

def endW (ig f : Fin 32 → EReal) (m : EReal) : EReal := Ideal.exp (m + f 31 - stab ig f m 31)

def keyW (k : Fin 32 → Fin 128 → EReal) (ig f : Fin 32 → EReal) (m : EReal) (s : Fin 32) (d : Fin 128) : EReal :=
  k s d * Ideal.exp (ig s + f 31 - f s - stab ig f m 31)

/-- An mLSTM head's matrix state after the block. -/
def mlC (k v : Fin 32 → Fin 128 → EReal) (ig f : Fin 32 → EReal) (m : EReal) (C : Fin 128 → Fin 128 → EReal)
    (d e : Fin 128) : EReal :=
  endW ig f m * C d e + ∑ s : Fin 32, keyW k ig f m s d * v s e

/-- Its normaliser after the block. -/
def mlN (k : Fin 32 → Fin 128 → EReal) (ig f : Fin 32 → EReal) (m : EReal) (n : Fin 128 → EReal) (d : Fin 128) : EReal :=
  endW ig f m * n d + ∑ s : Fin 32, keyW k ig f m s d

/-! ### The launch's stages -/

def rotV (x cos sin : Vec Ideal S32x128 .f32) : FVec Ideal S32x128 .f32 :=
  addf (mulf x cos) (mulf (dynamicRotate 1 64#32 none x rotates_S32x128_d1) sin)

def keyV (x cos sin : Vec Ideal S32x128 .f32) : FVec Ideal S32x128 .f32 :=
  mulf (rotV x cos sin) (broadcast S32x128 (Scalar.ofBits .f32 0x3DB504F3#32 : Ideal .f32))

def decayV (a : Ideal .f32) : FVec Ideal S32x32 .f32 :=
  select k0_pay7 (exp (mulf (broadcast S32x32 a)
    (maximumf (k0_pay8 (F := Ideal)) (broadcast S32x32 (Scalar.ofBits .f32 0x00000000#32 : Ideal .f32)))))
    (broadcast S32x32 (Scalar.ofBits .f32 0x00000000#32 : Ideal .f32))

def retOV (a : Ideal .f32) (q k v : Vec Ideal S32x128 .f32) (S : Vec Ideal S128x128 .f32) : FVec Ideal S32x128 .f32 :=
  addf (matmul dot_S32x32_S32x128_S32x128_1_0_0_1_n_n none
      (truncf .bf16 (mulf (matmul dot_S32x128_S32x128_S32x32_1_1_0_0_n_n none (truncf .bf16 q bitsLt_bf16_f32)
        (truncf .bf16 k bitsLt_bf16_f32) (constant S32x32 .f32 0x00000000#32)) (decayV a)) bitsLt_bf16_f32)
      (truncf .bf16 v bitsLt_bf16_f32) (constant S32x128 .f32 0x00000000#32))
    (matmul dot_S32x128_S128x128_S32x128_1_0_0_1_n_n none
      (truncf .bf16 (mulf q (broadcastTo S32x128 (exp (mulf (broadcast S32x1 a)
        (addf (k0_pay10 (F := Ideal)) (broadcast S32x1 (Scalar.ofBits .f32 0x3F800000#32 : Ideal .f32)))))
        broadcasts_S32x1_S32x128)) bitsLt_bf16_f32) (truncf .bf16 S bitsLt_bf16_f32)
      (constant S32x128 .f32 0x00000000#32))

def padV (x : Vec Ideal S32x128 .f32) : FVec Ideal S128x128 .f32 :=
  concatenate S128x128 0 [⟨S32x128, x⟩, ⟨S96x128, broadcast S96x128 (Scalar.ofBits .f32 0x00000000#32 : Ideal .f32)⟩]
    concatenates_S32x128_S96x128_S128x128_d0

def outerV (k v : Vec Ideal S32x128 .f32) : FVec Ideal S128x128 .f32 :=
  matmul dot_S128x128_S128x128_S128x128_1_0_0_1_n_n none
    (truncf .bf16 (transpose S128x128 [1, 0] (padV k) transposes_S128x128_p1_0_S128x128) bitsLt_bf16_f32)
    (truncf .bf16 (padV v) bitsLt_bf16_f32) (constant S128x128 .f32 0x00000000#32)

def retSV (a g : Ideal .f32) (k v : Vec Ideal S32x128 .f32) (S : Vec Ideal S128x128 .f32) : FVec Ideal S128x128 .f32 :=
  addf (mulf (broadcast S128x128 g) S)
    (outerV (mulf k (broadcastTo S32x128 (exp (mulf (broadcast S32x1 a)
      (subf (broadcast S32x1 (Scalar.ofBits .f32 0x41F80000#32 : Ideal .f32)) (k0_pay10 (F := Ideal)))))
      broadcasts_S32x1_S32x128)) v)

def normV (o : Vec Ideal S32x128 .f32) (w : Vec Ideal S1x128 .f32) : FVec Ideal S32x128 .f32 :=
  mulf (mulf o (broadcastTo S32x128 (rsqrt (addf (divf
      (shapeCast S32x1 (multiReduction .add [1] S32 (mulf o o) 0x00000000#32 reduces_S32x128_S32 (.inl rfl) rfl)
        shapeCasts_S32_S32x1)
      (broadcast S32x1 (Scalar.ofBits .f32 0x43000000#32 : Ideal .f32)))
      (broadcast S32x1 (Scalar.ofBits .f32 0x358637BD#32 : Ideal .f32)))) broadcasts_S32x1_S32x128))
    (broadcastTo S32x128 (shapeCast S1x128 w shapeCasts_S1x128_S1x128) broadcasts_S1x128_S32x128)

def retYV (g o : Vec Ideal S32x128 .f32) (w : Vec Ideal S1x128 .f32) : FVec Ideal S32x128 .f32 :=
  mulf (mulf g (logistic g)) (normV o w)

def logDV (igr fr : Vec Ideal S1x32 .f32) (fc : Vec Ideal S32x1 .f32) : FVec Ideal S32x32 .f32 :=
  select k0_pay7 (subf (addf (broadcastTo S32x32 igr broadcasts_S1x32_S32x32) (broadcastTo S32x32 fc broadcasts_S32x1_S32x32))
    (broadcastTo S32x32 fr broadcasts_S1x32_S32x32)) (broadcast S32x32 (Scalar.ofBits .f32 0xFF800000#32 : Ideal .f32))

def interV (fc : Vec Ideal S32x1 .f32) (m : Vec Ideal S1x1 .f32) : FVec Ideal S32x1 .f32 :=
  addf (broadcastTo S32x1 m broadcasts_S1x1_S32x1) fc

def stabV (igr fr : Vec Ideal S1x32 .f32) (fc : Vec Ideal S32x1 .f32) (m : Vec Ideal S1x1 .f32) : FVec Ideal S32x1 .f32 :=
  maximumf (interV fc m) (shapeCast S32x1 (multiReduction .maximumf [1] S32 (logDV igr fr fc) 0xFF800000#32
    reduces_S32x32_S32 (.inl rfl) rfl) shapeCasts_S32_S32x1)

def carryV (igr fr : Vec Ideal S1x32 .f32) (fc : Vec Ideal S32x1 .f32) (m : Vec Ideal S1x1 .f32) : FVec Ideal S32x1 .f32 :=
  exp (subf (interV fc m) (stabV igr fr fc m))

def scoreV (igr fr : Vec Ideal S1x32 .f32) (fc : Vec Ideal S32x1 .f32) (m : Vec Ideal S1x1 .f32)
    (q k : Vec Ideal S32x128 .f32) : FVec Ideal S32x32 .f32 :=
  mulf (matmul dot_S32x128_S32x128_S32x32_1_1_0_0_n_n none (truncf .bf16 q bitsLt_bf16_f32)
      (truncf .bf16 k bitsLt_bf16_f32) (constant S32x32 .f32 0x00000000#32))
    (exp (subf (logDV igr fr fc) (broadcastTo S32x32 (stabV igr fr fc m) broadcasts_S32x1_S32x32)))

def numV (igr fr : Vec Ideal S1x32 .f32) (fc : Vec Ideal S32x1 .f32) (m : Vec Ideal S1x1 .f32)
    (q k v : Vec Ideal S32x128 .f32) (C : Vec Ideal S128x128 .f32) : FVec Ideal S32x128 .f32 :=
  addf (matmul dot_S32x32_S32x128_S32x128_1_0_0_1_n_n none (truncf .bf16 (scoreV igr fr fc m q k) bitsLt_bf16_f32)
      (truncf .bf16 v bitsLt_bf16_f32) (constant S32x128 .f32 0x00000000#32))
    (mulf (broadcastTo S32x128 (carryV igr fr fc m) broadcasts_S32x1_S32x128)
      (matmul dot_S32x128_S128x128_S32x128_1_0_0_1_n_n none (truncf .bf16 q bitsLt_bf16_f32)
        (truncf .bf16 C bitsLt_bf16_f32) (constant S32x128 .f32 0x00000000#32)))

def denV (igr fr : Vec Ideal S1x32 .f32) (fc : Vec Ideal S32x1 .f32) (m : Vec Ideal S1x1 .f32)
    (q k : Vec Ideal S32x128 .f32) (n : Vec Ideal S1x128 .f32) : FVec Ideal S32x1 .f32 :=
  addf (shapeCast S32x1 (multiReduction .add [1] S32 (scoreV igr fr fc m q k) 0x00000000#32 reduces_S32x32_S32 (.inl rfl) rfl)
      shapeCasts_S32_S32x1)
    (mulf (carryV igr fr fc m)
      (shapeCast S32x1 (multiReduction .add [1] S32 (mulf q (broadcastTo S32x128 n broadcasts_S1x128_S32x128)) 0x00000000#32
        reduces_S32x128_S32 (.inl rfl) rfl) shapeCasts_S32_S32x1))

def mlOV (igr fr : Vec Ideal S1x32 .f32) (fc : Vec Ideal S32x1 .f32) (m : Vec Ideal S1x1 .f32)
    (q k v : Vec Ideal S32x128 .f32) (C : Vec Ideal S128x128 .f32) (n : Vec Ideal S1x128 .f32) : FVec Ideal S32x128 .f32 :=
  divf (numV igr fr fc m q k v C)
    (broadcastTo S32x128 (maximumf (absf (denV igr fr fc m q k n))
      (exp (subf (broadcast S32x1 (Scalar.ofBits .f32 0x00000000#32 : Ideal .f32)) (stabV igr fr fc m))))
      broadcasts_S32x1_S32x128)

def lastV (x : Vec Ideal S32x1 .f32) : FVec Ideal S1x1 .f32 := extractStridedSlice S1x1 ![31, 0] x slices_S32x1_o31_0_S1x1

def endV (igr fr : Vec Ideal S1x32 .f32) (fc : Vec Ideal S32x1 .f32) (m : Vec Ideal S1x1 .f32) : FVec Ideal S1x1 .f32 :=
  exp (subf (addf m (lastV fc)) (lastV (stabV igr fr fc m)))

def keyWV (igr fr : Vec Ideal S1x32 .f32) (igc fc : Vec Ideal S32x1 .f32) (m : Vec Ideal S1x1 .f32)
    (k : Vec Ideal S32x128 .f32) : FVec Ideal S32x128 .f32 :=
  mulf k (broadcastTo S32x128 (exp (subf (subf (addf igc (broadcastTo S32x1 (lastV fc) broadcasts_S1x1_S32x1)) fc)
    (broadcastTo S32x1 (lastV (stabV igr fr fc m)) broadcasts_S1x1_S32x1))) broadcasts_S32x1_S32x128)

def mlCV (igr fr : Vec Ideal S1x32 .f32) (igc fc : Vec Ideal S32x1 .f32) (m : Vec Ideal S1x1 .f32)
    (k v : Vec Ideal S32x128 .f32) (C : Vec Ideal S128x128 .f32) : FVec Ideal S128x128 .f32 :=
  addf (mulf (broadcastTo S128x128 (endV igr fr fc m) broadcasts_S1x1_S128x128) C) (outerV (keyWV igr fr igc fc m k) v)

def mlNV (igr fr : Vec Ideal S1x32 .f32) (igc fc : Vec Ideal S32x1 .f32) (m : Vec Ideal S1x1 .f32)
    (k : Vec Ideal S32x128 .f32) (n : Vec Ideal S1x128 .f32) : FVec Ideal S1x128 .f32 :=
  addf (mulf (broadcastTo S1x128 (endV igr fr fc m) broadcasts_S1x1_S1x128) n)
    (shapeCast S1x128 (multiReduction .add [0] S128 (keyWV igr fr igc fc m k) 0x00000000#32 reduces_S32x128_S128 (.inl rfl) rfl)
      shapeCasts_S128_S1x128)

def mlYV (o h : Vec Ideal S32x128 .f32) (w ws : Vec Ideal S1x128 .f32) (ch : Vec Ideal S32x128 .f32) : FVec Ideal S32x128 .f32 :=
  mulf (logistic o) (addf (normV h w)
    (mulf (broadcastTo S32x128 (shapeCast S1x128 ws shapeCasts_S1x128_S1x128) broadcasts_S1x128_S32x128) ch))

/-! ### Each stage at an index -/

theorem sge_ofNat : ∀ i s : Fin 32, IntOp.cmpi CmpIPredicate.sge (BitVec.ofNat 32 ↑i) (BitVec.ofNat 32 ↑s)
    = if s.val ≤ i.val then 1#1 else 0#1 := by decide +kernel

theorem sub_toInt : ∀ i s : Fin 32, (IntOp.subi (BitVec.ofNat 32 ↑i) (BitVec.ofNat 32 ↑s)).toInt = (i.val : ℤ) - (s.val : ℤ) := by
  decide +kernel

theorem ofNat_toInt : ∀ i : Fin 32, (BitVec.ofNat 32 ↑i).toInt = (i.val : ℤ) := by decide +kernel

theorem select_sge (i s : Fin 32) (x y : EReal) :
    Scalar.select (IntOp.cmpi CmpIPredicate.sge (BitVec.ofNat 32 ↑i) (BitVec.ofNat 32 ↑s)) x y
      = if s.val ≤ i.val then x else y := by
  rw [sge_ofNat]; split <;> rfl

theorem fp_ofNat (i : Fin 32) : (FloatOps.sitofp (F := Ideal) FTy.f32 (BitVec.ofNat 32 ↑i)) = (((i.val : ℝ)) : EReal) := by
  show (((BitVec.ofNat 32 ↑i).toInt : ℝ) : EReal) = _
  rw [ofNat_toInt]; norm_cast

theorem fp_sub (i s : Fin 32) : (FloatOps.sitofp (F := Ideal) FTy.f32 (IntOp.subi (BitVec.ofNat 32 ↑i) (BitVec.ofNat 32 ↑s)))
    = ((i.val : ℝ) : EReal) - ((s.val : ℝ) : EReal) := by
  show (((IntOp.subi (BitVec.ofNat 32 ↑i) (BitVec.ofNat 32 ↑s)).toInt : ℝ) : EReal) = _
  rw [sub_toInt, ← EReal.coe_sub]; norm_cast

theorem retOV_at (a : Ideal .f32) (q k v : Vec Ideal S32x128 .f32) (S : Vec Ideal S128x128 .f32) (j : S32x128.Idx) :
    retOV a q k v S j = retO a (fun s d => q (ix2 s d)) (fun s d => k (ix2 s d)) (fun s d => v (ix2 s d))
      (fun d e => S (ix2 d e)) (j 0) (j 1) := by
  idx_vars j
  pointwise [retOV, decayV, k0_pay7, k0_pay8, k0_pay10]
  simp only [select_sge, fp_ofNat, fp_sub]
  rfl

theorem retSV_at (a g : Ideal .f32) (k v : Vec Ideal S32x128 .f32) (S : Vec Ideal S128x128 .f32) (j : S128x128.Idx) :
    retSV a g k v S j = retS a g (fun s d => k (ix2 s d)) (fun s d => v (ix2 s d))
      (fun d e => S (ix2 d e)) (j 0) (j 1) := by
  idx_vars j
  pointwise [retSV, outerV, padV, k0_pay10]
  simp only [fp_ofNat, mul_zero, Finset.sum_const_zero, add_zero]
  rfl

theorem normV_at (o : Vec Ideal S32x128 .f32) (w : Vec Ideal S1x128 .f32) (j : S32x128.Idx) :
    normV o w j = normed (fun e => o (ix2 (j 0) e)) (j 1) * w (ix2 0 (j 1)) := by
  idx_vars j
  pointwise [normV, normed]

theorem retYV_at (g o : Vec Ideal S32x128 .f32) (w : Vec Ideal S1x128 .f32) (j : S32x128.Idx) :
    retYV g o w j = g j * Ideal.logistic (g j) * (normed (fun e => o (ix2 (j 0) e)) (j 1) * w (ix2 0 (j 1))) := by
  idx_vars j
  pointwise [retYV]
  rw [normV_at]
  rfl

theorem mlYV_at (o h : Vec Ideal S32x128 .f32) (w ws : Vec Ideal S1x128 .f32) (ch : Vec Ideal S32x128 .f32) (j : S32x128.Idx) :
    mlYV o h w ws ch j = Ideal.logistic (o j) * (normed (fun e => h (ix2 (j 0) e)) (j 1) * w (ix2 0 (j 1))
      + ws (ix2 0 (j 1)) * ch j) := by
  idx_vars j
  pointwise [mlYV]
  rw [normV_at]
  rfl

theorem logDV_at (igr fr : Vec Ideal S1x32 .f32) (fc : Vec Ideal S32x1 .f32) (hf : ∀ s, fr (ix2 0 s) = fc (ix2 s 0)) (j : S32x32.Idx) :
    logDV igr fr fc j = lgD (fun s => igr (ix2 0 s)) (fun s => fc (ix2 s 0)) (j 0) (j 1) := by
  idx_vars j
  pointwise [logDV, k0_pay7]
  simp only [hf, select_sge]
  rfl

theorem stabV_at (igr fr : Vec Ideal S1x32 .f32) (fc : Vec Ideal S32x1 .f32) (m : Vec Ideal S1x1 .f32)
    (hf : ∀ s, fr (ix2 0 s) = fc (ix2 s 0)) (j : S32x1.Idx) :
    stabV igr fr fc m j = stab (fun s => igr (ix2 0 s)) (fun s => fc (ix2 s 0)) (m (ix2 0 0)) (j 0) := by
  idx_vars j
  obtain rfl : j1 = 0 := Subsingleton.elim _ _
  pointwise [stabV, interV]
  simp only [logDV_at igr fr fc hf]
  rfl

theorem carryV_at (igr fr : Vec Ideal S1x32 .f32) (fc : Vec Ideal S32x1 .f32) (m : Vec Ideal S1x1 .f32)
    (hf : ∀ s, fr (ix2 0 s) = fc (ix2 s 0)) (j : S32x1.Idx) :
    carryV igr fr fc m j = carryW (fun s => igr (ix2 0 s)) (fun s => fc (ix2 s 0)) (m (ix2 0 0)) (j 0) := by
  idx_vars j
  obtain rfl : j1 = 0 := Subsingleton.elim _ _
  pointwise [carryV, interV]
  simp only [stabV_at igr fr fc m hf]
  rfl

theorem scoreV_at (igr fr : Vec Ideal S1x32 .f32) (fc : Vec Ideal S32x1 .f32) (m : Vec Ideal S1x1 .f32)
    (q k : Vec Ideal S32x128 .f32) (hf : ∀ s, fr (ix2 0 s) = fc (ix2 s 0)) (j : S32x32.Idx) :
    scoreV igr fr fc m q k j = score (fun s d => q (ix2 s d)) (fun s d => k (ix2 s d)) (fun s => igr (ix2 0 s))
      (fun s => fc (ix2 s 0)) (m (ix2 0 0)) (j 0) (j 1) := by
  idx_vars j
  pointwise [scoreV]
  simp only [stabV_at igr fr fc m hf, logDV_at igr fr fc hf]
  rfl

theorem mlOV_at (igr fr : Vec Ideal S1x32 .f32) (fc : Vec Ideal S32x1 .f32) (m : Vec Ideal S1x1 .f32)
    (q k v : Vec Ideal S32x128 .f32) (C : Vec Ideal S128x128 .f32) (n : Vec Ideal S1x128 .f32)
    (hf : ∀ s, fr (ix2 0 s) = fc (ix2 s 0)) (j : S32x128.Idx) :
    mlOV igr fr fc m q k v C n j = mlO (fun s d => q (ix2 s d)) (fun s d => k (ix2 s d)) (fun s d => v (ix2 s d))
      (fun s => igr (ix2 0 s)) (fun s => fc (ix2 s 0)) (m (ix2 0 0)) (fun d e => C (ix2 d e)) (fun d => n (ix2 0 d)) (j 0) (j 1) := by
  idx_vars j
  pointwise [mlOV, numV, denV]
  simp only [stabV_at igr fr fc m hf, scoreV_at igr fr fc m q k hf, carryV_at igr fr fc m hf]
  rfl

theorem keyWV_at (igr fr : Vec Ideal S1x32 .f32) (igc fc : Vec Ideal S32x1 .f32) (m : Vec Ideal S1x1 .f32)
    (k : Vec Ideal S32x128 .f32) (hi : ∀ s, igc (ix2 s 0) = igr (ix2 0 s)) (hf : ∀ s, fr (ix2 0 s) = fc (ix2 s 0)) (j : S32x128.Idx) :
    keyWV igr fr igc fc m k j = keyW (fun s d => k (ix2 s d))
      (fun s => igr (ix2 0 s)) (fun s => fc (ix2 s 0)) (m (ix2 0 0)) (j 0) (j 1) := by
  idx_vars j
  pointwise [keyWV, lastV]
  simp only [stabV_at igr fr fc m hf, hi]
  rfl

theorem mlCV_at (igr fr : Vec Ideal S1x32 .f32) (igc fc : Vec Ideal S32x1 .f32) (m : Vec Ideal S1x1 .f32)
    (k v : Vec Ideal S32x128 .f32) (C : Vec Ideal S128x128 .f32) (hi : ∀ s, igc (ix2 s 0) = igr (ix2 0 s))
    (hf : ∀ s, fr (ix2 0 s) = fc (ix2 s 0)) (j : S128x128.Idx) :
    mlCV igr fr igc fc m k v C j = mlC (fun s d => k (ix2 s d)) (fun s d => v (ix2 s d))
      (fun s => igr (ix2 0 s)) (fun s => fc (ix2 s 0)) (m (ix2 0 0)) (fun d e => C (ix2 d e)) (j 0) (j 1) := by
  idx_vars j
  pointwise [mlCV, outerV, padV, endV, lastV]
  simp only [stabV_at igr fr fc m hf, keyWV_at igr fr igc fc m k hi hf]
  simp only [mul_zero, Finset.sum_const_zero, add_zero]
  rfl

theorem mlNV_at (igr fr : Vec Ideal S1x32 .f32) (igc fc : Vec Ideal S32x1 .f32) (m : Vec Ideal S1x1 .f32)
    (k : Vec Ideal S32x128 .f32) (n : Vec Ideal S1x128 .f32) (hi : ∀ s, igc (ix2 s 0) = igr (ix2 0 s))
    (hf : ∀ s, fr (ix2 0 s) = fc (ix2 s 0)) (j : S1x128.Idx) :
    mlNV igr fr igc fc m k n j = mlN (fun s d => k (ix2 s d))
      (fun s => igr (ix2 0 s)) (fun s => fc (ix2 s 0)) (m (ix2 0 0)) (fun d => n (ix2 0 d)) (j 1) := by
  idx_vars j
  obtain rfl : j0 = 0 := Subsingleton.elim _ _
  pointwise [mlNV, endV, lastV]
  simp only [stabV_at igr fr fc m hf, keyWV_at igr fr igc fc m k hi hf]
  rfl

end Cert.Mixers
-- ==== Proof.MixersRef.lean ====
/- The reference's token mixers, read entry by entry: the step's own sums and maxima. -/
module

public import proofs.«01_k».proof.Defs
public import proofs.«01_k».proof.Proof.Gen.ReferenceIdeal.Read
public import proofs.«01_k».proof.Proof.MixersCore
public import Idealize.ShloMosaic.Lib.Pointwise

@[expose] public section

set_option maxRecDepth 16384

noncomputable section

namespace Cert.Mixers.Ref

open Cert.ReferenceIdeal Cert.ReferenceIdeal.Read Idealize.ShloMosaic Idealize.ShloMosaic.TcCoe Idealize.SL.Sem

/-! ### What the step works on, from the layer's arrays: one sequence `b` and one head `h` -/

def cosT (s : Fin 32) (f : Fin 64) : EReal := val_main_v25 (F := Ideal) (ix2 s f)
def sinT (s : Fin 32) (f : Fin 64) : EReal := val_main_v27 (F := Ideal) (ix2 s f)

/-- The head's log decay. -/
def lgR (h : Fin 4) : EReal := val_main_v129 (F := Ideal) (ix1 h)

def qR (x0 : Vec Ideal S16x32x2048 .f32) (b : Fin 16) (h : Fin 4) (s : Fin 32) (d : Fin 128) : EReal :=
  rope (fun l => x0 (ix3 b s ⟨h.val * 128 + l.val, by omega⟩)) (cosT s) (sinT s) d
def kR (x0 : Vec Ideal S16x32x2048 .f32) (b : Fin 16) (h : Fin 4) (s : Fin 32) (d : Fin 128) : EReal :=
  rope (fun l => x0 (ix3 b s ⟨512 + (h.val * 128 + l.val), by omega⟩)) (cosT s) (sinT s) d * Ideal.ofBits .f32 0x3DB504F3#32
def vR (x0 : Vec Ideal S16x32x2048 .f32) (b : Fin 16) (h : Fin 4) (s : Fin 32) (d : Fin 128) : EReal :=
  x0 (ix3 b s ⟨1024 + (h.val * 128 + d.val), by omega⟩)
def gR (x0 : Vec Ideal S16x32x2048 .f32) (b : Fin 16) (h : Fin 4) (s : Fin 32) (d : Fin 128) : EReal :=
  x0 (ix3 b s ⟨1536 + (h.val * 128 + d.val), by omega⟩)

/-- Row `p` of a sequence's mLSTM input with the last three rows of the block before in front. -/
def xc (x1 : Vec Ideal S16x32x1536 .f32) (x7 : Vec Ideal S16x3x512 .f32) (b : Fin 16) (d : Fin 512) (p : ℕ) (hp : p < 35) : EReal :=
  if h : p < 3 then x7 (ix3 b ⟨p, h⟩ d) else x1 (ix3 b ⟨p - 3, by omega⟩ ⟨d.val, by omega⟩)

/-- The causal convolution at a position, before its activation. -/
def conv (x1 : Vec Ideal S16x32x1536 .f32) (x7 : Vec Ideal S16x3x512 .f32) (x11 : Vec Ideal S4x512 .f32) (x12 : Vec Ideal S512 .f32)
    (b : Fin 16) (s : Fin 32) (d : Fin 512) : EReal :=
  x12 (ix1 d) + xc x1 x7 b d s.val (by omega) * x11 (ix2 0 d) + xc x1 x7 b d (1 + s.val) (by omega) * x11 (ix2 1 d)
    + xc x1 x7 b d (2 + s.val) (by omega) * x11 (ix2 2 d) + x1 (ix3 b s ⟨d.val, by omega⟩) * x11 (ix2 3 d)

def act (x1 : Vec Ideal S16x32x1536 .f32) (x7 : Vec Ideal S16x3x512 .f32) (x11 : Vec Ideal S4x512 .f32) (x12 : Vec Ideal S512 .f32)
    (b : Fin 16) (s : Fin 32) (d : Fin 512) : EReal :=
  conv x1 x7 x11 x12 b s d * Ideal.logistic (conv x1 x7 x11 x12 b s d)

def qM (x1 : Vec Ideal S16x32x1536 .f32) (x7 : Vec Ideal S16x3x512 .f32) (x9 : Vec Ideal S4x128x128 .f32) (x11 : Vec Ideal S4x512 .f32)
    (x12 : Vec Ideal S512 .f32) (b : Fin 16) (h : Fin 4) (s : Fin 32) (d : Fin 128) : EReal :=
  ∑ l : Fin 128, act x1 x7 x11 x12 b s ⟨h.val * 128 + l.val, by omega⟩ * x9 (ix3 h l d)
def kM (x1 : Vec Ideal S16x32x1536 .f32) (x7 : Vec Ideal S16x3x512 .f32) (x10 : Vec Ideal S4x128x128 .f32) (x11 : Vec Ideal S4x512 .f32)
    (x12 : Vec Ideal S512 .f32) (b : Fin 16) (h : Fin 4) (s : Fin 32) (d : Fin 128) : EReal :=
  (∑ l : Fin 128, act x1 x7 x11 x12 b s ⟨h.val * 128 + l.val, by omega⟩ * x10 (ix3 h l d)) * Ideal.ofBits .f32 0x3DB504F3#32
def vM (x1 : Vec Ideal S16x32x1536 .f32) (b : Fin 16) (h : Fin 4) (s : Fin 32) (d : Fin 128) : EReal :=
  x1 (ix3 b s ⟨512 + (h.val * 128 + d.val), by omega⟩)
def oM (x1 : Vec Ideal S16x32x1536 .f32) (b : Fin 16) (h : Fin 4) (s : Fin 32) (d : Fin 128) : EReal :=
  x1 (ix3 b s ⟨1024 + (h.val * 128 + d.val), by omega⟩)
def igM (x2 : Vec Ideal S16x32x128 .f32) (x13 : Vec Ideal S4 .f32) (b : Fin 16) (h : Fin 4) (s : Fin 32) : EReal :=
  x2 (ix3 b s ⟨h.val, by omega⟩) + x13 (ix1 h)
def fM (x2 : Vec Ideal S16x32x128 .f32) (x14 : Vec Ideal S4 .f32) (b : Fin 16) (h : Fin 4) : Fin 32 → EReal :=
  fsum fun s => x2 (ix3 b s ⟨4 + h.val, by omega⟩) + x14 (ix1 h)

/-! ### The seven results -/

def yR (x0 : Vec Ideal S16x32x2048 .f32) (x3 : Vec Ideal S16x4x128x128 .f32) (w : EReal)
    (b : Fin 16) (h : Fin 4) (s : Fin 32) (d : Fin 128) : EReal :=
  gR x0 b h s d * Ideal.logistic (gR x0 b h s d)
    * (normed (retO (lgR h) (qR x0 b h) (kR x0 b h) (vR x0 b h) (fun d e => x3 (ix4 b h d e)) s) d
      * w)
def sR (x0 : Vec Ideal S16x32x2048 .f32) (x3 : Vec Ideal S16x4x128x128 .f32)
    (b : Fin 16) (h : Fin 4) : Fin 128 → Fin 128 → EReal :=
  retS (lgR h) (Ideal.exp (lgR h * Ideal.ofBits .f32 0x42000000#32)) (kR x0 b h) (vR x0 b h) (fun d e => x3 (ix4 b h d e))
def yM (x1 : Vec Ideal S16x32x1536 .f32) (x2 : Vec Ideal S16x32x128 .f32) (x4 : Vec Ideal S16x4x128x128 .f32) (x5 : Vec Ideal S16x4x128 .f32)
    (x6 : Vec Ideal S16x4 .f32) (x7 : Vec Ideal S16x3x512 .f32) (x9 x10 : Vec Ideal S4x128x128 .f32) (x11 : Vec Ideal S4x512 .f32)
    (x12 : Vec Ideal S512 .f32) (x13 x14 : Vec Ideal S4 .f32) (w ws : EReal)
    (b : Fin 16) (h : Fin 4) (s : Fin 32) (d : Fin 128) : EReal :=
  Ideal.logistic (oM x1 b h s d)
    * (normed (mlO (qM x1 x7 x9 x11 x12 b h) (kM x1 x7 x10 x11 x12 b h) (vM x1 b h) (igM x2 x13 b h) (fM x2 x14 b h) (x6 (ix2 b h))
        (fun d e => x4 (ix4 b h d e)) (fun d => x5 (ix3 b h d)) s) d * w
      + ws * act x1 x7 x11 x12 b s ⟨h.val * 128 + d.val, by omega⟩)
def cM (x1 : Vec Ideal S16x32x1536 .f32) (x2 : Vec Ideal S16x32x128 .f32) (x4 : Vec Ideal S16x4x128x128 .f32)
    (x6 : Vec Ideal S16x4 .f32) (x7 : Vec Ideal S16x3x512 .f32) (x10 : Vec Ideal S4x128x128 .f32) (x11 : Vec Ideal S4x512 .f32)
    (x12 : Vec Ideal S512 .f32) (x13 x14 : Vec Ideal S4 .f32) (b : Fin 16) (h : Fin 4) : Fin 128 → Fin 128 → EReal :=
  mlC (kM x1 x7 x10 x11 x12 b h) (vM x1 b h) (igM x2 x13 b h) (fM x2 x14 b h) (x6 (ix2 b h)) (fun d e => x4 (ix4 b h d e))
def nM (x1 : Vec Ideal S16x32x1536 .f32) (x2 : Vec Ideal S16x32x128 .f32) (x5 : Vec Ideal S16x4x128 .f32)
    (x6 : Vec Ideal S16x4 .f32) (x7 : Vec Ideal S16x3x512 .f32) (x10 : Vec Ideal S4x128x128 .f32) (x11 : Vec Ideal S4x512 .f32)
    (x12 : Vec Ideal S512 .f32) (x13 x14 : Vec Ideal S4 .f32) (b : Fin 16) (h : Fin 4) : Fin 128 → EReal :=
  mlN (kM x1 x7 x10 x11 x12 b h) (igM x2 x13 b h) (fM x2 x14 b h) (x6 (ix2 b h)) (fun d => x5 (ix3 b h d))
def mM (x2 : Vec Ideal S16x32x128 .f32) (x6 : Vec Ideal S16x4 .f32) (x13 x14 : Vec Ideal S4 .f32) (b : Fin 16) (h : Fin 4) : EReal :=
  stab (igM x2 x13 b h) (fM x2 x14 b h) (x6 (ix2 b h)) 31

/-! ### The running sum -/

theorem foldl_sum {n : ℕ} (f : Fin n → EReal) (z : EReal) :
    (List.finRange n).foldl (fun r k => r + f k) z = z + ∑ k : Fin n, f k := by
  rw [Fin.sum_univ_def, ← List.foldl_map (f := f) (g := fun (r : EReal) y => r + y), List.sum_eq_foldl]
  generalize (List.finRange n).map f = l
  induction l generalizing z with
  | nil => simp
  | cons a l ih =>
    simp only [List.foldl_cons, zero_add]
    rw [ih (z + a), ih a, add_assoc]

theorem shift_sum (i : Fin 32) (y : Fin 32 → EReal) :
    (∑ s : Fin 32, if s.val ≤ i.val then y s else 0)
      = ∑ w : Fin 32, if h : 31 ≤ i.val + w.val then y ⟨i.val + w.val - 31, by omega⟩ else 0 := by
  refine (Equiv.sum_comp (Equiv.addRight (i + 1)) (fun s : Fin 32 => if s.val ≤ i.val then y s else 0)).symm.trans ?_
  refine Finset.sum_congr rfl fun w _ => ?_
  have e : (w + (i + 1)).val = (w.val + (i.val + 1) % 32) % 32 := by
    rw [Fin.val_add, Fin.val_add]; rfl
  show (if (w + (i + 1)).val ≤ i.val then y (w + (i + 1)) else 0) = _
  by_cases h : 31 ≤ i.val + w.val
  · rw [dif_pos h, if_pos (by omega)]
    exact congrArg y (Fin.ext (by show (w + (i + 1)).val = i.val + w.val - 31; omega))
  · rw [dif_neg h, if_neg (by omega)]

def winIdx : (⟨3, ![1, 1, 32]⟩ : Shape).Idx ≃ Fin 32 where
  toFun w := w 2
  invFun k := ix3 (0 : Fin 1) (0 : Fin 1) k
  left_inv w := by
    idx_vars w
    obtain rfl : w0 = 0 := Subsingleton.elim _ _
    obtain rfl : w1 = 0 := Subsingleton.elim _ _
    rfl
  right_inv k := rfl

theorem cumsum (x : Vec Ideal S16x4x32 .f32) (z : Vec Ideal S_ .f32) (hz : z ix0 = 0)
    (hw : S16x4x32.ReduceWindows ![1, 1, 32] ![1, 1, 1] ![0, 0, 31] ![0, 0, 0] S16x4x32) (hu : 0 < S_.numel)
    (b : Fin 16) (h : Fin 4) (i : Fin 32) :
    Host.reduceWindowAdd (F := Ideal) (φ := .f32) ![1, 1, 32] ![1, 1, 1] ![0, 0, 31] ![0, 0, 0] x z hw hu (ix3 b h i)
      = ∑ s : Fin 32, if s.val ≤ i.val then x (ix3 b h s) else 0 := by
  rw [shift_sum i fun s => x (ix3 b h s)]
  refine (foldl_sum _ _).trans ?_
  have z0 : z (Shape.Idx.first hu) = 0 := by rw [← hz]; exact congrArg z (funext fun a => a.elim0)
  refine (congrArg₂ (· + ·) z0 ?_).trans (zero_add _)
  refine ((⟨3, ![1, 1, 32]⟩ : Shape).rowMajor.symm.trans winIdx).sum_comp (fun w : Fin 32 => if h_1 : 31 ≤ i.val + w.val then x (ix3 b h ⟨i.val + w.val - 31, by omega⟩) else 0) |>.symm.trans ?_ |>.symm
  refine Finset.sum_congr rfl fun k _ => ?_
  show _ = _
  obtain ⟨w, hk⟩ : ∃ w, winIdx.symm w = (⟨3, ![1, 1, 32]⟩ : Shape).rowMajor.symm k := ⟨winIdx _, winIdx.symm_apply_apply _⟩
  have hk' : ((⟨3, ![1, 1, 32]⟩ : Shape).rowMajor.symm.trans winIdx) k = w := by
    show winIdx ((⟨3, ![1, 1, 32]⟩ : Shape).rowMajor.symm k) = w
    rw [← hk]; exact winIdx.apply_symm_apply w
  rw [hk']
  have hp : ∀ a, ((⟨3, ![1, 1, 32]⟩ : Shape).rowMajor.symm k a).val = ![0, 0, w.val] a := by
    intro a; rw [← hk]; fin_cases a <;> rfl
  by_cases h31 : 31 ≤ i.val + w.val
  · rw [dif_pos h31]
    refine Eq.symm ((dif_pos fun a => ?_).trans (congrArg x ?_))
    · fin_cases a
      · show 0 ≤ b.val * 1 + ((⟨3, ![1, 1, 32]⟩ : Shape).rowMajor.symm k 0).val ∧ b.val * 1 + ((⟨3, ![1, 1, 32]⟩ : Shape).rowMajor.symm k 0).val - 0 < 16
        have := b.isLt; rw [show ((⟨3, ![1, 1, 32]⟩ : Shape).rowMajor.symm k 0).val = 0 from hp 0]; omega
      · show 0 ≤ h.val * 1 + ((⟨3, ![1, 1, 32]⟩ : Shape).rowMajor.symm k 1).val ∧ h.val * 1 + ((⟨3, ![1, 1, 32]⟩ : Shape).rowMajor.symm k 1).val - 0 < 4
        have := h.isLt; rw [show ((⟨3, ![1, 1, 32]⟩ : Shape).rowMajor.symm k 1).val = 0 from hp 1]; omega
      · show 31 ≤ i.val * 1 + ((⟨3, ![1, 1, 32]⟩ : Shape).rowMajor.symm k 2).val ∧ i.val * 1 + ((⟨3, ![1, 1, 32]⟩ : Shape).rowMajor.symm k 2).val - 31 < 32
        have := i.isLt; rw [show ((⟨3, ![1, 1, 32]⟩ : Shape).rowMajor.symm k 2).val = w.val from hp 2]; omega
    · funext a
      refine Fin.ext ?_
      fin_cases a
      · show b.val * 1 + ((⟨3, ![1, 1, 32]⟩ : Shape).rowMajor.symm k 0).val - 0 = b.val
        rw [show ((⟨3, ![1, 1, 32]⟩ : Shape).rowMajor.symm k 0).val = 0 from hp 0]; omega
      · show h.val * 1 + ((⟨3, ![1, 1, 32]⟩ : Shape).rowMajor.symm k 1).val - 0 = h.val
        rw [show ((⟨3, ![1, 1, 32]⟩ : Shape).rowMajor.symm k 1).val = 0 from hp 1]; omega
      · show i.val * 1 + ((⟨3, ![1, 1, 32]⟩ : Shape).rowMajor.symm k 2).val - 31 = i.val + w.val - 31
        rw [show ((⟨3, ![1, 1, 32]⟩ : Shape).rowMajor.symm k 2).val = w.val from hp 2]; omega
  · rw [dif_neg h31]
    refine Eq.symm ((dif_neg fun hin => ?_).trans z0)
    have h2 : 31 ≤ i.val * 1 + ((⟨3, ![1, 1, 32]⟩ : Shape).rowMajor.symm k 2).val := (hin 2).1
    rw [hp 2] at h2
    exact h31 (by simpa using h2)

/-! ### The reference's values -/

theorem sub_nonneg_iff : ∀ i s : Fin 32, (0 ≤ ((i.val : ℝ) : EReal) - ((s.val : ℝ) : EReal)) ↔ s.val ≤ i.val := fun i s => by
  rw [← EReal.coe_sub, ← EReal.coe_zero, EReal.coe_le_coe_iff, sub_nonneg, Nat.cast_le]

theorem v_at (x0 : Vec Ideal S16x32x2048 .f32) (b : Fin 16) (h : Fin 4) (s : Fin 32) (d : Fin 128) :
    val_main_v194 (F := Ideal) x0 (ix4 b h s d) = vR x0 b h s d := by
  unfold val_main_v194
  pointwise [val_main_v172, val_main_v171, val_main_v119, val_main_v5]
  rfl

theorem g_at (x0 : Vec Ideal S16x32x2048 .f32) (b : Fin 16) (h : Fin 4) (s : Fin 32) (d : Fin 128) :
    val_main_v195 (F := Ideal) x0 (ix4 b h s d) = gR x0 b h s d := by
  unfold val_main_v195
  pointwise [val_main_v174, val_main_v173, val_main_v120, val_main_v6]
  rfl

theorem q_at (x0 : Vec Ideal S16x32x2048 .f32) (b : Fin 16) (h : Fin 4) (s : Fin 32) (d : Fin 128) :
    val_main_v192 (F := Ideal) x0 (ix4 b h s d) = qR x0 b h s d := by
  unfold val_main_v192
  pointwise [val_main_v168, val_main_v167, val_main_v41, val_main_v35, val_main_v32, val_main_v29, val_main_v12, val_main_v3, val_main_v31, val_main_v26, val_main_v34, val_main_v30, val_main_v33, val_main_v28, val_main_v40, val_main_v37, val_main_v36, val_main_v39, val_main_v38, qR, rope, cosT, sinT]

theorem tables : val_main_v55 (F := Ideal) = val_main_v25 ∧ val_main_v57 (F := Ideal) = val_main_v27 := ⟨rfl, rfl⟩

theorem k_at (x0 : Vec Ideal S16x32x2048 .f32) (b : Fin 16) (h : Fin 4) (s : Fin 32) (d : Fin 128) :
    val_main_v193 (F := Ideal) x0 (ix4 b h s d) = kR x0 b h s d := by
  unfold val_main_v193
  pointwise [val_main_v170, val_main_v169, val_main_v73, val_main_v71, val_main_v65, val_main_v62, val_main_v59, val_main_v42, val_main_v4, val_main_v61, val_main_v56, val_main_v64, val_main_v60, val_main_v63, val_main_v58, val_main_v70, val_main_v67, val_main_v66, val_main_v69, val_main_v68, val_main_v72, val_main_cst_3, kR, rope, cosT, sinT, tables.1, tables.2]

theorem act_at (x1 : Vec Ideal S16x32x1536 .f32) (x7 : Vec Ideal S16x3x512 .f32) (x11 : Vec Ideal S4x512 .f32) (x12 : Vec Ideal S512 .f32) (b : Fin 16) (s : Fin 32) (d : Fin 512) :
    val_main_v105 (F := Ideal) x1 x7 x11 x12 (ix3 b s d) = act x1 x7 x11 x12 b s d := by
  unfold val_main_v105
  pointwise [val_main_v104, val_main_v97, val_main_v90, val_main_v83, val_main_v82, val_main_v81, val_main_v80, val_main_v75, val_main_v74, val_main_v7, val_main_v79, val_main_v78, val_main_v77, val_main_v76, val_main_v89, val_main_v84, val_main_v88, val_main_v87, val_main_v86, val_main_v85, val_main_v96, val_main_v91, val_main_v95, val_main_v94, val_main_v93, val_main_v92, val_main_v103, val_main_v98, val_main_v102, val_main_v101, val_main_v100, val_main_v99, val_main_call0_v5, val_main_call0_v4, val_main_call0_cst_0, val_main_call0_v3, val_main_call0_v2, val_main_call0_cst, val_main_call0_v1, val_main_call0_v0]
  rfl

theorem act4_at (x1 : Vec Ideal S16x32x1536 .f32) (x7 : Vec Ideal S16x3x512 .f32) (x11 : Vec Ideal S4x512 .f32) (x12 : Vec Ideal S512 .f32)
    (b : Fin 16) (h : Fin 4) (s : Fin 32) (d : Fin 128) :
    val_main_v200 (F := Ideal) x1 x7 x11 x12 (ix4 b h s d) = act x1 x7 x11 x12 b s ⟨h.val * 128 + d.val, by omega⟩ := by
  unfold val_main_v200
  pointwise [val_main_v184, val_main_v183, val_main_v106]
  exact act_at ..

theorem vm_at (x1 : Vec Ideal S16x32x1536 .f32) (b : Fin 16) (h : Fin 4) (s : Fin 32) (d : Fin 128) :
    val_main_v198 (F := Ideal) x1 (ix4 b h s d) = vM x1 b h s d := by
  unfold val_main_v198
  pointwise [val_main_v180, val_main_v179, val_main_v121, val_main_v8]
  rfl

theorem om_at (x1 : Vec Ideal S16x32x1536 .f32) (b : Fin 16) (h : Fin 4) (s : Fin 32) (d : Fin 128) :
    val_main_v199 (F := Ideal) x1 (ix4 b h s d) = oM x1 b h s d := by
  unfold val_main_v199
  pointwise [val_main_v182, val_main_v181, val_main_v122, val_main_v9]
  rfl

theorem f_at (x2 : Vec Ideal S16x32x128 .f32) (x14 : Vec Ideal S4 .f32) (b : Fin 16) (h : Fin 4) (s : Fin 32) :
    val_main_v202 (F := Ideal) x2 x14 (ix3 b h s) = lsig (x2 (ix3 b s ⟨4 + h.val, by omega⟩) + x14 (ix1 h)) := by
  unfold val_main_v202
  pointwise [val_main_v191, val_main_v190, val_main_v189, val_main_v188, val_main_call2_v4, val_main_call2_v3, val_main_v187, val_main_v118, val_main_v11, val_main_v117, val_main_v116, val_main_call2_v2, val_main_call2_cst, val_main_call2_v6, val_main_call2_v5, val_main_call2_v11, val_main_call2_v1, val_main_call2_v0, val_main_call2_v10, val_main_call2_v9, val_main_call2_v8, val_main_call2_v7]
  simp only [ne_eq, not_true_eq_false, if_false]
  rfl

theorem fsum_at (x2 : Vec Ideal S16x32x128 .f32) (x14 : Vec Ideal S4 .f32) (b : Fin 16) (h : Fin 4) (i : Fin 32) :
    val_main_v220 (F := Ideal) x2 x14 (ix3 b h i) = fM x2 x14 b h i := by
  unfold val_main_v220
  refine (cumsum _ _ ?_ _ _ b h i).trans ?_
  · pointwise [val_main_call3_call0_v0, val_main_call3_call0_cst]
  · simp only [f_at]
    rfl

theorem i_at (x2 : Vec Ideal S16x32x128 .f32) (x13 : Vec Ideal S4 .f32) (b : Fin 16) (h : Fin 4) (s : Fin 32) :
    val_main_v201 (F := Ideal) x2 x13 (ix3 b h s) = igM x2 x13 b h s := by
  unfold val_main_v201
  pointwise [val_main_v186, val_main_v185, val_main_v115, val_main_v10, val_main_v114, val_main_v113, igM]

theorem qm_at (x1 : Vec Ideal S16x32x1536 .f32) (x7 : Vec Ideal S16x3x512 .f32) (x9 : Vec Ideal S4x128x128 .f32) (x11 : Vec Ideal S4x512 .f32) (x12 : Vec Ideal S512 .f32) (b : Fin 16) (h : Fin 4) (s : Fin 32) (d : Fin 128) :
    val_main_v196 (F := Ideal) x1 x7 x9 x11 x12 (ix4 b h s d) = qM x1 x7 x9 x11 x12 b h s d := by
  unfold val_main_v196
  pointwise [val_main_v176, val_main_v175, val_main_v108, val_main_v107, val_main_v106]
  simp only [act_at]
  exact Finset.sum_congr rfl fun l _ => mul_comm _ _

theorem km_at (x1 : Vec Ideal S16x32x1536 .f32) (x7 : Vec Ideal S16x3x512 .f32) (x10 : Vec Ideal S4x128x128 .f32) (x11 : Vec Ideal S4x512 .f32) (x12 : Vec Ideal S512 .f32) (b : Fin 16) (h : Fin 4) (s : Fin 32) (d : Fin 128) :
    val_main_v197 (F := Ideal) x1 x7 x10 x11 x12 (ix4 b h s d) = kM x1 x7 x10 x11 x12 b h s d := by
  unfold val_main_v197
  pointwise [val_main_v178, val_main_v177, val_main_v112, val_main_v110, val_main_v109, val_main_v106, val_main_v111, val_main_cst_4]
  simp only [act_at]
  exact congrArg (· * _) (Finset.sum_congr rfl fun l _ => mul_comm _ _)

theorem o_at (x0 : Vec Ideal S16x32x2048 .f32) (x3 : Vec Ideal S16x4x128x128 .f32) (b : Fin 16) (h : Fin 4) (s : Fin 32) (d : Fin 128) :
    val_main_v216 (F := Ideal) x0 x3 (ix4 b h s d) = retO (lgR h) (qR x0 b h) (kR x0 b h) (vR x0 b h) (fun d e => x3 (ix4 b h d e)) s d := by
  unfold val_main_v216
  pointwise [val_main_v207, val_main_v206, val_main_v203, val_main_v205, val_main_v204, val_main_v146, val_main_call1_v1, val_main_v137, val_main_v135, val_main_v133, val_main_v131, val_main_v130, val_main_v134, val_main_v132, val_main_v136, val_main_cst_7, val_main_v145, val_main_v144, val_main_v142, val_main_v138, val_main_v143, val_main_v141, val_main_v140, val_main_v139, val_main_cst_8, val_main_call1_v2, val_main_call1_v0, val_main_cst_9, val_main_v215, val_main_v214, val_main_v213, val_main_v212, val_main_v162, val_main_v161, val_main_v159, val_main_v155, val_main_v160, val_main_v158, val_main_v157, val_main_v156, val_main_cst_11]
  simp only [q_at, k_at, v_at, fp_ofNat, sub_nonneg_iff]
  have z : (id (constant (F := Ideal) S_ FTy.f32 0#32) ix0 : EReal) = 0 := by
    show constant (F := Ideal) S_ FTy.f32 0#32 ix0 = 0
    pointwise
  simp only [z, mul_ite, ite_mul, mul_zero, zero_mul]
  rfl

theorem S_at (x0 : Vec Ideal S16x32x2048 .f32) (x3 : Vec Ideal S16x4x128x128 .f32) (b : Fin 16) (h : Fin 4) (d e : Fin 128) :
    val_main_v219 (F := Ideal) x0 x3 (ix4 b h d e) = sR x0 x3 b h d e := by
  unfold val_main_v219
  pointwise [val_main_v218, val_main_v217, val_main_v166, val_main_v165, val_main_v164, val_main_v163, val_main_cst_12, val_main_v211, val_main_v210, val_main_v209, val_main_v208, val_main_v154, val_main_v153, val_main_v151, val_main_v147, val_main_v152, val_main_v150, val_main_v149, val_main_v148, val_main_cst_10, val_main_v130]
  simp only [k_at, v_at, fp_ofNat]
  rfl

theorem logd_at (x2 : Vec Ideal S16x32x128 .f32) (x13 x14 : Vec Ideal S4 .f32) (b : Fin 16) (h : Fin 4) (i s : Fin 32) :
    val_main_v229 (F := Ideal) x2 x13 x14 (ix4 b h i s) = lgD (igM x2 x13 b h) (fM x2 x14 b h) i s := by
  unfold val_main_v229
  pointwise [val_main_call4_v1, val_main_v137, val_main_v135, val_main_v133, val_main_v131, val_main_v130, val_main_v134, val_main_v132, val_main_v136, val_main_cst_7, val_main_v228, val_main_v225, val_main_v223, val_main_v221, val_main_v224, val_main_v222, val_main_v227, val_main_v226, val_main_call4_v2, val_main_call4_v0, val_main_cst_13]
  simp only [i_at, fsum_at, fp_ofNat, sub_nonneg_iff]
  rfl

theorem stab_at (x2 : Vec Ideal S16x32x128 .f32) (x6 : Vec Ideal S16x4 .f32) (x13 x14 : Vec Ideal S4 .f32) (b : Fin 16) (h : Fin 4) (s : Fin 32) :
    val_main_v234 (F := Ideal) x2 x6 x13 x14 (ix3 b h s) = stab (igM x2 x13 b h) (fM x2 x14 b h) (x6 (ix2 b h)) s := by
  unfold val_main_v234
  pointwise [val_main_v232, val_main_v231, val_main_v230, val_main_v233, val_main_cst_14]
  simp only [logd_at, fsum_at]
  rfl

theorem mlo_at (x1 : Vec Ideal S16x32x1536 .f32) (x2 : Vec Ideal S16x32x128 .f32) (x4 : Vec Ideal S16x4x128x128 .f32) (x5 : Vec Ideal S16x4x128 .f32) (x6 : Vec Ideal S16x4 .f32) (x7 : Vec Ideal S16x3x512 .f32) (x9 x10 : Vec Ideal S4x128x128 .f32) (x11 : Vec Ideal S4x512 .f32) (x12 : Vec Ideal S512 .f32) (x13 x14 : Vec Ideal S4 .f32) (b : Fin 16) (h : Fin 4) (s : Fin 32) (d : Fin 128) :
    val_main_v259 (F := Ideal) x1 x2 x4 x5 x6 x7 x9 x10 x11 x12 x13 x14 (ix4 b h s d) = mlO (qM x1 x7 x9 x11 x12 b h) (kM x1 x7 x10 x11 x12 b h) (vM x1 b h) (igM x2 x13 b h) (fM x2 x14 b h) (x6 (ix2 b h)) (fun d e => x4 (ix4 b h d e)) (fun d => x5 (ix3 b h d)) s d := by
  unfold val_main_v259
  pointwise [val_main_v248, val_main_v243, val_main_v242, val_main_v241, val_main_v238, val_main_v237, val_main_v236, val_main_v235, val_main_v247, val_main_v246, val_main_v244, val_main_v240, val_main_v239, val_main_v232, val_main_v231, val_main_v230, val_main_v245, val_main_v258, val_main_v257, val_main_v256, val_main_v253, val_main_v252, val_main_v249, val_main_cst_15, val_main_v251, val_main_v250, val_main_v255, val_main_v254]
  simp only [logd_at, fsum_at, stab_at, qm_at, km_at, vm_at, ← zero_sub]
  rfl

theorem C_at (x1 : Vec Ideal S16x32x1536 .f32) (x2 : Vec Ideal S16x32x128 .f32) (x4 : Vec Ideal S16x4x128x128 .f32) (x6 : Vec Ideal S16x4 .f32) (x7 : Vec Ideal S16x3x512 .f32) (x10 : Vec Ideal S4x128x128 .f32) (x11 : Vec Ideal S4x512 .f32) (x12 : Vec Ideal S512 .f32) (x13 x14 : Vec Ideal S4 .f32) (b : Fin 16) (h : Fin 4) (d e : Fin 128) :
    val_main_v282 (F := Ideal) x1 x2 x4 x6 x7 x10 x11 x12 x13 x14 (ix4 b h d e) = cM x1 x2 x4 x6 x7 x10 x11 x12 x13 x14 b h d e := by
  unfold val_main_v282
  pointwise [val_main_v280, val_main_v279, val_main_v278, val_main_v274, val_main_v273, val_main_v272, val_main_v271, val_main_v270, val_main_v261, val_main_v260, val_main_v281, val_main_v277, val_main_v276, val_main_v275, val_main_v269, val_main_v268, val_main_v265, val_main_v264, val_main_v263, val_main_v262, val_main_v267, val_main_v266]
  simp only [i_at, fsum_at, stab_at, km_at, vm_at]
  rfl

theorem n_at (x1 : Vec Ideal S16x32x1536 .f32) (x2 : Vec Ideal S16x32x128 .f32) (x5 : Vec Ideal S16x4x128 .f32) (x6 : Vec Ideal S16x4 .f32) (x7 : Vec Ideal S16x3x512 .f32) (x10 : Vec Ideal S4x128x128 .f32) (x11 : Vec Ideal S4x512 .f32) (x12 : Vec Ideal S512 .f32) (x13 x14 : Vec Ideal S4 .f32) (b : Fin 16) (h : Fin 4) (d : Fin 128) :
    val_main_v287 (F := Ideal) x1 x2 x5 x6 x7 x10 x11 x12 x13 x14 (ix3 b h d) = nM x1 x2 x5 x6 x7 x10 x11 x12 x13 x14 b h d := by
  unfold val_main_v287
  pointwise [val_main_v285, val_main_v284, val_main_v283, val_main_v274, val_main_v273, val_main_v272, val_main_v271, val_main_v270, val_main_v261, val_main_v260, val_main_v286, val_main_v277, val_main_v276, val_main_v275, val_main_v269, val_main_v268, val_main_v265, val_main_v264, val_main_v263, val_main_v262, val_main_v267, val_main_v266, val_main_cst_16]
  simp only [i_at, fsum_at, stab_at, km_at, vm_at]
  rfl

theorem m_at (x2 : Vec Ideal S16x32x128 .f32) (x6 : Vec Ideal S16x4 .f32) (x13 x14 : Vec Ideal S4 .f32) (b : Fin 16) (h : Fin 4) (d : Fin 128) :
    val_main_v337 (F := Ideal) x2 x6 x13 x14 (ix3 b h d) = mM x2 x6 x13 x14 b h := by
  unfold val_main_v337
  pointwise [val_main_v336, val_main_v261, val_main_v260]
  exact stab_at ..

theorem ct_at (x1 : Vec Ideal S16x32x1536 .f32) (x7 : Vec Ideal S16x3x512 .f32) (b : Fin 16) (s : Fin 8) (d : Fin 512) :
    val_main_v340 (F := Ideal) x1 x7 (ix3 b s d) = x1 (ix3 b ⟨24 + s.val, by omega⟩ ⟨d.val, by omega⟩) := by
  unfold val_main_v340
  pointwise [val_main_v339, val_main_v338]
  rw [dif_neg (by omega)]
  exact congrArg (fun r => x1 (ix3 b r _)) (Fin.ext (by show 27 + s.val - 3 = 24 + s.val; omega))

/-- Lane `l` of a row of 512: its head and its lane there. -/
abbrev hOf (l : Fin 512) : Fin 4 := ⟨l.val / 128, by omega⟩
abbrev dOf (l : Fin 512) : Fin 128 := ⟨l.val % 128, by omega⟩

theorem yr_at (x0 : Vec Ideal S16x32x2048 .f32) (x3 : Vec Ideal S16x4x128x128 .f32) (x8 : Vec Ideal S512 .f32) (b : Fin 16) (s : Fin 32) (l : Fin 512) :
    val_main_v341 (F := Ideal) x0 x3 x8 (ix3 b s l) = yR x0 x3 (x8 (ix1 l)) b (hOf l) s (dOf l) := by
  unfold val_main_v341
  pointwise [val_main_v333, val_main_v332, val_main_v330, val_main_v303, val_main_v288, val_main_call5_v5, val_main_call5_v4, val_main_call5_cst_0, val_main_call5_v3, val_main_call5_v2, val_main_call5_cst, val_main_call5_v1, val_main_call5_v0, val_main_v302, val_main_v298, val_main_v297, val_main_v296, val_main_v295, val_main_v293, val_main_v291, val_main_v290, val_main_v289, val_main_cst_17, val_main_v292, val_main_cst_18, val_main_v294, val_main_cst_19, val_main_v301, val_main_v300, val_main_v299]
  simp only [g_at, o_at]
  rfl

theorem ym_at (x1 : Vec Ideal S16x32x1536 .f32) (x2 : Vec Ideal S16x32x128 .f32) (x4 : Vec Ideal S16x4x128x128 .f32) (x5 : Vec Ideal S16x4x128 .f32) (x6 : Vec Ideal S16x4 .f32) (x7 : Vec Ideal S16x3x512 .f32) (x9 x10 : Vec Ideal S4x128x128 .f32) (x11 : Vec Ideal S4x512 .f32) (x12 : Vec Ideal S512 .f32) (x13 x14 : Vec Ideal S4 .f32) (x15 x16 : Vec Ideal S512 .f32) (b : Fin 16) (s : Fin 32) (l : Fin 512) :
    val_main_v342 (F := Ideal) x1 x2 x4 x5 x6 x7 x9 x10 x11 x12 x13 x14 x15 x16 (ix3 b s l) = yM x1 x2 x4 x5 x6 x7 x9 x10 x11 x12 x13 x14 (x15 (ix1 l)) (x16 (ix1 l)) b (hOf l) s (dOf l) := by
  unfold val_main_v342
  pointwise [val_main_v335, val_main_v334, val_main_v331, val_main_v329, val_main_v309, val_main_v308, val_main_cst_21, val_main_v307, val_main_v306, val_main_cst_20, val_main_v305, val_main_v304, val_main_v328, val_main_v323, val_main_v319, val_main_v318, val_main_v317, val_main_v316, val_main_v314, val_main_v312, val_main_v311, val_main_v310, val_main_cst_22, val_main_v313, val_main_cst_23, val_main_v315, val_main_cst_24, val_main_v322, val_main_v321, val_main_v320, val_main_v327, val_main_v326, val_main_v325, val_main_v324]
  simp only [om_at, mlo_at, act4_at]
  rfl

end Cert.Mixers.Ref
-- ==== Proof.MixersBlocks.lean ====
/- The blocks of the token mixers' windows: where block `t` of each of them lies in its array. -/
module

public import proofs.«01_k».proof.Defs
public import proofs.«01_k».proof.Proof.MixersValue
public import proofs.«01_k».proof.Proof.MixersCore
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A load of the whole buffer after stores reads what the stores left. -/
theorem readCov_whole {sig : RefSig} {κ : Kind} {sp : Space} {s : Shape} {e : EltTy} {Val : EltTy → Type} [∀ e, Nonempty (Val e)]
    (v : View sig κ sp s e) (L : List (View.Piece Val s e)) {off : Fin s.rank → ℕ} (inb : ∀ a, off a + s.size a ≤ s.size a)
    (h : ∀ a, off a = 0) (y : s.Idx) :
    v.readCov L (Rect.unit off (no_index s.size) inb).toLoadRect y = View.canon L y := by
  rw [View.readCov_eq_canon']
  refine congrArg (View.canon L) (funext fun a => Fin.ext ?_)
  show off a + 1 * (y a).val = (y a).val
  rw [h a, Nat.zero_add, Nat.one_mul]

/-- Sequence `b` of the block at point `t`. -/
def sq (t : Fin cfg0.N) (b : Fin 4) : Fin 16 := ⟨4 * t.val + b.val, by
  have h : t.val < 4 := lt_of_lt_of_eq t.isLt (by decide +kernel)
  omega⟩

theorem idx0 : ∀ t : Fin cfg0.N, win0_0.index t = ![t.val, 0, 0] := (by decide +kernel : ∀ t : Fin grid0.N, _)
theorem emb0 (t : Fin cfg0.N) (b : Fin 4) (i : Fin 32) (j : Fin 2048) : (win0_0.blk t).view.emb (ix3 b i j) = ix3 (sq t b) i j := by
  have e := idx0 t
  blk_ext [e, sq]
theorem blk0 (c : Dev nD) (t : Fin cfg0.N) (b : Fin 4) (i : Fin 32) (j : Fin 2048) : iblk m c 0 t (ix3 b i j) = V m c main_arg0 (ix3 (sq t b) i j) := by
  show V m c main_arg0 ((win0_0.blk t).view.emb (ix3 b i j)) = _
  rw [emb0]

theorem idx1 : ∀ t : Fin cfg0.N, win0_1.index t = ![t.val, 0, 0] := (by decide +kernel : ∀ t : Fin grid0.N, _)
theorem emb1 (t : Fin cfg0.N) (b : Fin 4) (i : Fin 32) (j : Fin 1536) : (win0_1.blk t).view.emb (ix3 b i j) = ix3 (sq t b) i j := by
  have e := idx1 t
  blk_ext [e, sq]
theorem blk1 (c : Dev nD) (t : Fin cfg0.N) (b : Fin 4) (i : Fin 32) (j : Fin 1536) : iblk m c 1 t (ix3 b i j) = V m c main_arg1 (ix3 (sq t b) i j) := by
  show V m c main_arg1 ((win0_1.blk t).view.emb (ix3 b i j)) = _
  rw [emb1]

theorem idx2 : ∀ t : Fin cfg0.N, win0_2.index t = ![t.val, 0, 0] := (by decide +kernel : ∀ t : Fin grid0.N, _)
theorem emb2 (t : Fin cfg0.N) (b : Fin 4) (i : Fin 32) (j : Fin 128) : (win0_2.blk t).view.emb (ix3 b i j) = ix3 (sq t b) i j := by
  have e := idx2 t
  blk_ext [e, sq]
theorem blk2 (c : Dev nD) (t : Fin cfg0.N) (b : Fin 4) (i : Fin 32) (j : Fin 128) : iblk m c 2 t (ix3 b i j) = V m c main_arg2 (ix3 (sq t b) i j) := by
  show V m c main_arg2 ((win0_2.blk t).view.emb (ix3 b i j)) = _
  rw [emb2]

theorem idx3 : ∀ t : Fin cfg0.N, win0_3.index t = ![0, 0] := (by decide +kernel : ∀ t : Fin grid0.N, _)
theorem emb3 (t : Fin cfg0.N) (b : Fin 32) (i : Fin 128) : (win0_3.blk t).view.emb (ix2 b i) = ix2 b i := by
  have e := idx3 t
  blk_ext [e, sq]
theorem blk3 (c : Dev nD) (t : Fin cfg0.N) (b : Fin 32) (i : Fin 128) : iblk m c 3 t (ix2 b i) = V m c main_v17 (ix2 b i) := by
  show V m c main_v17 ((win0_3.blk t).view.emb (ix2 b i)) = _
  rw [emb3]

theorem idx4 : ∀ t : Fin cfg0.N, win0_4.index t = ![0, 0] := (by decide +kernel : ∀ t : Fin grid0.N, _)
theorem emb4 (t : Fin cfg0.N) (b : Fin 32) (i : Fin 128) : (win0_4.blk t).view.emb (ix2 b i) = ix2 b i := by
  have e := idx4 t
  blk_ext [e, sq]
theorem blk4 (c : Dev nD) (t : Fin cfg0.N) (b : Fin 32) (i : Fin 128) : iblk m c 4 t (ix2 b i) = V m c main_v19 (ix2 b i) := by
  show V m c main_v19 ((win0_4.blk t).view.emb (ix2 b i)) = _
  rw [emb4]

theorem idx5 : ∀ t : Fin cfg0.N, win0_5.index t = ![t.val, 0, 0, 0] := (by decide +kernel : ∀ t : Fin grid0.N, _)
theorem emb5 (t : Fin cfg0.N) (b : Fin 4) (i : Fin 4) (j : Fin 128) (k : Fin 128) : (win0_5.blk t).view.emb (ix4 b i j k) = ix4 (sq t b) i j k := by
  have e := idx5 t
  blk_ext [e, sq]
theorem blk5 (c : Dev nD) (t : Fin cfg0.N) (b : Fin 4) (i : Fin 4) (j : Fin 128) (k : Fin 128) : iblk m c 5 t (ix4 b i j k) = V m c main_arg3 (ix4 (sq t b) i j k) := by
  show V m c main_arg3 ((win0_5.blk t).view.emb (ix4 b i j k)) = _
  rw [emb5]

theorem idx6 : ∀ t : Fin cfg0.N, win0_6.index t = ![t.val, 0, 0, 0] := (by decide +kernel : ∀ t : Fin grid0.N, _)
theorem emb6 (t : Fin cfg0.N) (b : Fin 4) (i : Fin 4) (j : Fin 128) (k : Fin 128) : (win0_6.blk t).view.emb (ix4 b i j k) = ix4 (sq t b) i j k := by
  have e := idx6 t
  blk_ext [e, sq]
theorem blk6 (c : Dev nD) (t : Fin cfg0.N) (b : Fin 4) (i : Fin 4) (j : Fin 128) (k : Fin 128) : iblk m c 6 t (ix4 b i j k) = V m c main_arg4 (ix4 (sq t b) i j k) := by
  show V m c main_arg4 ((win0_6.blk t).view.emb (ix4 b i j k)) = _
  rw [emb6]

theorem idx7 : ∀ t : Fin cfg0.N, win0_7.index t = ![t.val, 0, 0] := (by decide +kernel : ∀ t : Fin grid0.N, _)
theorem emb7 (t : Fin cfg0.N) (b : Fin 4) (i : Fin 4) (j : Fin 128) : (win0_7.blk t).view.emb (ix3 b i j) = ix3 (sq t b) i j := by
  have e := idx7 t
  blk_ext [e, sq]
theorem blk7 (c : Dev nD) (t : Fin cfg0.N) (b : Fin 4) (i : Fin 4) (j : Fin 128) : iblk m c 7 t (ix3 b i j) = V m c main_arg5 (ix3 (sq t b) i j) := by
  show V m c main_arg5 ((win0_7.blk t).view.emb (ix3 b i j)) = _
  rw [emb7]

theorem idx8 : ∀ t : Fin cfg0.N, win0_8.index t = ![t.val, 0, 0] := (by decide +kernel : ∀ t : Fin grid0.N, _)
theorem emb8 (t : Fin cfg0.N) (b : Fin 4) (i : Fin 4) (j : Fin 128) : (win0_8.blk t).view.emb (ix3 b i j) = ix3 (sq t b) i j := by
  have e := idx8 t
  blk_ext [e, sq]
theorem blk8 (c : Dev nD) (t : Fin cfg0.N) (b : Fin 4) (i : Fin 4) (j : Fin 128) : iblk m c 8 t (ix3 b i j) = V m c main_v21 (ix3 (sq t b) i j) := by
  show V m c main_v21 ((win0_8.blk t).view.emb (ix3 b i j)) = _
  rw [emb8]

theorem idx9 : ∀ t : Fin cfg0.N, win0_9.index t = ![t.val, 0, 0] := (by decide +kernel : ∀ t : Fin grid0.N, _)
theorem emb9 (t : Fin cfg0.N) (b : Fin 4) (i : Fin 8) (j : Fin 512) : (win0_9.blk t).view.emb (ix3 b i j) = ix3 (sq t b) i j := by
  have e := idx9 t
  blk_ext [e, sq]
theorem blk9 (c : Dev nD) (t : Fin cfg0.N) (b : Fin 4) (i : Fin 8) (j : Fin 512) : iblk m c 9 t (ix3 b i j) = V m c main_v22 (ix3 (sq t b) i j) := by
  show V m c main_v22 ((win0_9.blk t).view.emb (ix3 b i j)) = _
  rw [emb9]

theorem idx10 : ∀ t : Fin cfg0.N, win0_10.index t = ![0, 0] := (by decide +kernel : ∀ t : Fin grid0.N, _)
theorem emb10 (t : Fin cfg0.N) (b : Fin 1) (i : Fin 512) : (win0_10.blk t).view.emb (ix2 b i) = ix2 b i := by
  have e := idx10 t
  blk_ext [e, sq]
theorem blk10 (c : Dev nD) (t : Fin cfg0.N) (b : Fin 1) (i : Fin 512) : iblk m c 10 t (ix2 b i) = V m c main_v26 (ix2 b i) := by
  show V m c main_v26 ((win0_10.blk t).view.emb (ix2 b i)) = _
  rw [emb10]

theorem idx11 : ∀ t : Fin cfg0.N, win0_11.index t = ![0, 0, 0] := (by decide +kernel : ∀ t : Fin grid0.N, _)
theorem emb11 (t : Fin cfg0.N) (b : Fin 4) (i : Fin 128) (j : Fin 128) : (win0_11.blk t).view.emb (ix3 b i j) = ix3 b i j := by
  have e := idx11 t
  blk_ext [e, sq]
theorem blk11 (c : Dev nD) (t : Fin cfg0.N) (b : Fin 4) (i : Fin 128) (j : Fin 128) : iblk m c 11 t (ix3 b i j) = V m c main_v27 (ix3 b i j) := by
  show V m c main_v27 ((win0_11.blk t).view.emb (ix3 b i j)) = _
  rw [emb11]

theorem idx12 : ∀ t : Fin cfg0.N, win0_12.index t = ![0, 0, 0] := (by decide +kernel : ∀ t : Fin grid0.N, _)
theorem emb12 (t : Fin cfg0.N) (b : Fin 4) (i : Fin 128) (j : Fin 128) : (win0_12.blk t).view.emb (ix3 b i j) = ix3 b i j := by
  have e := idx12 t
  blk_ext [e, sq]
theorem blk12 (c : Dev nD) (t : Fin cfg0.N) (b : Fin 4) (i : Fin 128) (j : Fin 128) : iblk m c 12 t (ix3 b i j) = V m c main_v28 (ix3 b i j) := by
  show V m c main_v28 ((win0_12.blk t).view.emb (ix3 b i j)) = _
  rw [emb12]

theorem idx13 : ∀ t : Fin cfg0.N, win0_13.index t = ![0, 0] := (by decide +kernel : ∀ t : Fin grid0.N, _)
theorem emb13 (t : Fin cfg0.N) (b : Fin 4) (i : Fin 512) : (win0_13.blk t).view.emb (ix2 b i) = ix2 b i := by
  have e := idx13 t
  blk_ext [e, sq]
theorem blk13 (c : Dev nD) (t : Fin cfg0.N) (b : Fin 4) (i : Fin 512) : iblk m c 13 t (ix2 b i) = V m c main_arg11 (ix2 b i) := by
  show V m c main_arg11 ((win0_13.blk t).view.emb (ix2 b i)) = _
  rw [emb13]

theorem idx14 : ∀ t : Fin cfg0.N, win0_14.index t = ![0, 0] := (by decide +kernel : ∀ t : Fin grid0.N, _)
theorem emb14 (t : Fin cfg0.N) (b : Fin 1) (i : Fin 512) : (win0_14.blk t).view.emb (ix2 b i) = ix2 b i := by
  have e := idx14 t
  blk_ext [e, sq]
theorem blk14 (c : Dev nD) (t : Fin cfg0.N) (b : Fin 1) (i : Fin 512) : iblk m c 14 t (ix2 b i) = V m c main_v29 (ix2 b i) := by
  show V m c main_v29 ((win0_14.blk t).view.emb (ix2 b i)) = _
  rw [emb14]

theorem idx15 : ∀ t : Fin cfg0.N, win0_15.index t = ![0, 0] := (by decide +kernel : ∀ t : Fin grid0.N, _)
theorem emb15 (t : Fin cfg0.N) (b : Fin 1) (i : Fin 128) : (win0_15.blk t).view.emb (ix2 b i) = ix2 b i := by
  have e := idx15 t
  blk_ext [e, sq]
theorem blk15 (c : Dev nD) (t : Fin cfg0.N) (b : Fin 1) (i : Fin 128) : iblk m c 15 t (ix2 b i) = V m c main_v25 (ix2 b i) := by
  show V m c main_v25 ((win0_15.blk t).view.emb (ix2 b i)) = _
  rw [emb15]

theorem idx16 : ∀ t : Fin cfg0.N, win0_16.index t = ![0, 0] := (by decide +kernel : ∀ t : Fin grid0.N, _)
theorem emb16 (t : Fin cfg0.N) (b : Fin 1) (i : Fin 512) : (win0_16.blk t).view.emb (ix2 b i) = ix2 b i := by
  have e := idx16 t
  blk_ext [e, sq]
theorem blk16 (c : Dev nD) (t : Fin cfg0.N) (b : Fin 1) (i : Fin 512) : iblk m c 16 t (ix2 b i) = V m c main_v30 (ix2 b i) := by
  show V m c main_v30 ((win0_16.blk t).view.emb (ix2 b i)) = _
  rw [emb16]

theorem idx17 : ∀ t : Fin cfg0.N, win0_17.index t = ![0, 0] := (by decide +kernel : ∀ t : Fin grid0.N, _)
theorem emb17 (t : Fin cfg0.N) (b : Fin 1) (i : Fin 512) : (win0_17.blk t).view.emb (ix2 b i) = ix2 b i := by
  have e := idx17 t
  blk_ext [e, sq]
theorem blk17 (c : Dev nD) (t : Fin cfg0.N) (b : Fin 1) (i : Fin 512) : iblk m c 17 t (ix2 b i) = V m c main_v31 (ix2 b i) := by
  show V m c main_v31 ((win0_17.blk t).view.emb (ix2 b i)) = _
  rw [emb17]

theorem idx18 : ∀ t : Fin cfg0.N, win0_18.index t = ![t.val, 0, 0] := (by decide +kernel : ∀ t : Fin grid0.N, _)
theorem emb18 (t : Fin cfg0.N) (b : Fin 4) (i : Fin 32) (j : Fin 512) : (win0_18.blk t).view.emb (ix3 b i j) = ix3 (sq t b) i j := by
  have e := idx18 t
  blk_ext [e, sq]

theorem idx19 : ∀ t : Fin cfg0.N, win0_19.index t = ![t.val, 0, 0] := (by decide +kernel : ∀ t : Fin grid0.N, _)
theorem emb19 (t : Fin cfg0.N) (b : Fin 4) (i : Fin 32) (j : Fin 512) : (win0_19.blk t).view.emb (ix3 b i j) = ix3 (sq t b) i j := by
  have e := idx19 t
  blk_ext [e, sq]

theorem idx20 : ∀ t : Fin cfg0.N, win0_20.index t = ![t.val, 0, 0, 0] := (by decide +kernel : ∀ t : Fin grid0.N, _)
theorem emb20 (t : Fin cfg0.N) (b : Fin 4) (i : Fin 4) (j : Fin 128) (k : Fin 128) : (win0_20.blk t).view.emb (ix4 b i j k) = ix4 (sq t b) i j k := by
  have e := idx20 t
  blk_ext [e, sq]

theorem idx21 : ∀ t : Fin cfg0.N, win0_21.index t = ![t.val, 0, 0, 0] := (by decide +kernel : ∀ t : Fin grid0.N, _)
theorem emb21 (t : Fin cfg0.N) (b : Fin 4) (i : Fin 4) (j : Fin 128) (k : Fin 128) : (win0_21.blk t).view.emb (ix4 b i j k) = ix4 (sq t b) i j k := by
  have e := idx21 t
  blk_ext [e, sq]

theorem idx22 : ∀ t : Fin cfg0.N, win0_22.index t = ![t.val, 0, 0] := (by decide +kernel : ∀ t : Fin grid0.N, _)
theorem emb22 (t : Fin cfg0.N) (b : Fin 4) (i : Fin 4) (j : Fin 128) : (win0_22.blk t).view.emb (ix3 b i j) = ix3 (sq t b) i j := by
  have e := idx22 t
  blk_ext [e, sq]

theorem idx23 : ∀ t : Fin cfg0.N, win0_23.index t = ![t.val, 0, 0] := (by decide +kernel : ∀ t : Fin grid0.N, _)
theorem emb23 (t : Fin cfg0.N) (b : Fin 4) (i : Fin 4) (j : Fin 128) : (win0_23.blk t).view.emb (ix3 b i j) = ix3 (sq t b) i j := by
  have e := idx23 t
  blk_ext [e, sq]

theorem idx24 : ∀ t : Fin cfg0.N, win0_24.index t = ![t.val, 0, 0] := (by decide +kernel : ∀ t : Fin grid0.N, _)
theorem emb24 (t : Fin cfg0.N) (b : Fin 4) (i : Fin 8) (j : Fin 512) : (win0_24.blk t).view.emb (ix3 b i j) = ix3 (sq t b) i j := by
  have e := idx24 t
  blk_ext [e, sq]

end Cert.Mixers
-- ==== Proof.MixersHost.lean ====
/- What the token mixers' launch reads: the arrays the host prepares, and each block of a window in terms of the arguments. -/
module

public import proofs.«01_k».proof.Defs
public import proofs.«01_k».proof.Proof.MixersCore
public import proofs.«01_k».proof.Proof.MixersRef
public import proofs.«01_k».proof.Proof.MixersBlocks
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The cosine table holds each cosine twice. -/
theorem host_cos (c : Dev nD) : V m c main_v17 = concatenate S32x128 1 [⟨S32x64, Cert.ReferenceIdeal.Read.val_main_v25⟩, ⟨S32x64, Cert.ReferenceIdeal.Read.val_main_v25⟩] concatenates_S32x64_S32x64_S32x128_d1 := by
  show StableHlo.after (List.flatten [hostOps0, hostOps0_1, hostOps0_2, hostOps0_3, hostOps0_4]) _ (Proc.devRef .tc main_v17) = _
  simp only [hostOps0, hostOps0_1, hostOps0_2, hostOps0_3, hostOps0_4, List.flatten_cons, List.flatten_nil, List.cons_append, List.nil_append]
  after_results
  try rfl
/-- The sine table holds the sines, the first half negated. -/
theorem host_sin (c : Dev nD) : V m c main_v19 = concatenate S32x128 1 [⟨S32x64, Host.negf (F := Ideal) (φ := .f32) (Cert.ReferenceIdeal.Read.val_main_v27 (F := Ideal))⟩, ⟨S32x64, Cert.ReferenceIdeal.Read.val_main_v27 (F := Ideal)⟩] concatenates_S32x64_S32x64_S32x128_d1 := by
  show StableHlo.after (List.flatten [hostOps0, hostOps0_1, hostOps0_2, hostOps0_3, hostOps0_4]) _ (Proc.devRef .tc main_v19) = _
  simp only [hostOps0, hostOps0_1, hostOps0_2, hostOps0_3, hostOps0_4, List.flatten_cons, List.flatten_nil, List.cons_append, List.nil_append]
  after_results
  try rfl
/-- The stabilisers on every lane. -/
theorem host_m (c : Dev nD) : V m c main_v21 = broadcastInDim S16x4x128 ![0, 1, 2] bcast_S16x4x1_S16x4x128_0_1_2 (broadcastInDim S16x4x1 ![0, 1] bcast_S16x4_S16x4x1_0_1 (m ((c : Thread nD τ).loc main_arg6))) := by
  show StableHlo.after (List.flatten [hostOps0, hostOps0_1, hostOps0_2, hostOps0_3, hostOps0_4]) _ (Proc.devRef .tc main_v21) = _
  simp only [hostOps0, hostOps0_1, hostOps0_2, hostOps0_3, hostOps0_4, List.flatten_cons, List.flatten_nil, List.cons_append, List.nil_append]
  after_results
  try rfl
/-- The earlier rows behind five rows of padding. -/
theorem host_tail (c : Dev nD) : V m c main_v22 = pad S16x8x512 ![0, 5, 0] ![0, 0, 0] ![0, 0, 0] (m ((c : Thread nD τ).loc main_arg7) : FVec Ideal S16x3x512 .f32) (sitofp .f32 (constantI S_ 32 0#32) : FVec Ideal S_ .f32) pads_S16x3x512_S16x8x512_000_500_000 h_S_ := by
  show StableHlo.after (List.flatten [hostOps0, hostOps0_1, hostOps0_2, hostOps0_3, hostOps0_4]) _ (Proc.devRef .tc main_v22) = _
  simp only [hostOps0, hostOps0_1, hostOps0_2, hostOps0_3, hostOps0_4, List.flatten_cons, List.flatten_nil, List.cons_append, List.nil_append]
  after_results
  try rfl
/-- Both gates' biases side by side. -/
theorem host_gates (c : Dev nD) : V m c main_v25 = shapeCast S1x128 (pad S128 ![0] ![120] ![0] (concatenate (α := Ideal .f32) S8 0 [⟨S4, (m ((c : Thread nD τ).loc main_arg13))⟩, ⟨S4, (m ((c : Thread nD τ).loc main_arg14))⟩] concatenates_S4_S4_S8_d0) (sitofp .f32 (constantI S_ 32 0#32) : FVec Ideal S_ .f32) pads_S8_S128_01200 h_S_) shapeCasts_S128_S1x128 := by
  show StableHlo.after (List.flatten [hostOps0, hostOps0_1, hostOps0_2, hostOps0_3, hostOps0_4]) _ (Proc.devRef .tc main_v25) = _
  simp only [hostOps0, hostOps0_1, hostOps0_2, hostOps0_3, hostOps0_4, List.flatten_cons, List.flatten_nil, List.cons_append, List.nil_append]
  after_results
  try rfl
theorem host_gret (c : Dev nD) : V m c main_v26 = shapeCast S1x512 (m ((c : Thread nD τ).loc main_arg8)) shapeCasts_S512_S1x512 := by
  show StableHlo.after (List.flatten [hostOps0, hostOps0_1, hostOps0_2, hostOps0_3, hostOps0_4]) _ (Proc.devRef .tc main_v26) = _
  simp only [hostOps0, hostOps0_1, hostOps0_2, hostOps0_3, hostOps0_4, List.flatten_cons, List.flatten_nil, List.cons_append, List.nil_append]
  after_results
  try rfl
theorem host_convb (c : Dev nD) : V m c main_v29 = shapeCast S1x512 (m ((c : Thread nD τ).loc main_arg12)) shapeCasts_S512_S1x512 := by
  show StableHlo.after (List.flatten [hostOps0, hostOps0_1, hostOps0_2, hostOps0_3, hostOps0_4]) _ (Proc.devRef .tc main_v29) = _
  simp only [hostOps0, hostOps0_1, hostOps0_2, hostOps0_3, hostOps0_4, List.flatten_cons, List.flatten_nil, List.cons_append, List.nil_append]
  after_results
  try rfl
theorem host_gml (c : Dev nD) : V m c main_v30 = shapeCast S1x512 (m ((c : Thread nD τ).loc main_arg15)) shapeCasts_S512_S1x512 := by
  show StableHlo.after (List.flatten [hostOps0, hostOps0_1, hostOps0_2, hostOps0_3, hostOps0_4]) _ (Proc.devRef .tc main_v30) = _
  simp only [hostOps0, hostOps0_1, hostOps0_2, hostOps0_3, hostOps0_4, List.flatten_cons, List.flatten_nil, List.cons_append, List.nil_append]
  after_results
  try rfl
theorem host_skip (c : Dev nD) : V m c main_v31 = shapeCast S1x512 (m ((c : Thread nD τ).loc main_arg16)) shapeCasts_S512_S1x512 := by
  show StableHlo.after (List.flatten [hostOps0, hostOps0_1, hostOps0_2, hostOps0_3, hostOps0_4]) _ (Proc.devRef .tc main_v31) = _
  simp only [hostOps0, hostOps0_1, hostOps0_2, hostOps0_3, hostOps0_4, List.flatten_cons, List.flatten_nil, List.cons_append, List.nil_append]
  after_results
  try rfl
theorem host_wq (c : Dev nD) : V m c main_v27 = m ((c : Thread nD τ).loc main_arg9) := by
  show StableHlo.after (List.flatten [hostOps0, hostOps0_1, hostOps0_2, hostOps0_3, hostOps0_4]) _ (Proc.devRef .tc main_v27) = _
  simp only [hostOps0, hostOps0_1, hostOps0_2, hostOps0_3, hostOps0_4, List.flatten_cons, List.flatten_nil, List.cons_append, List.nil_append]
  after_results
  try rfl
theorem host_wk (c : Dev nD) : V m c main_v28 = m ((c : Thread nD τ).loc main_arg10) := by
  show StableHlo.after (List.flatten [hostOps0, hostOps0_1, hostOps0_2, hostOps0_3, hostOps0_4]) _ (Proc.devRef .tc main_v28) = _
  simp only [hostOps0, hostOps0_1, hostOps0_2, hostOps0_3, hostOps0_4, List.flatten_cons, List.flatten_nil, List.cons_append, List.nil_append]
  after_results
  try rfl
theorem host_0 (c : Dev nD) : V m c main_arg0 = m ((c : Thread nD τ).loc main_arg0) := by
  show StableHlo.after (List.flatten [hostOps0, hostOps0_1, hostOps0_2, hostOps0_3, hostOps0_4]) _ (Proc.devRef .tc main_arg0) = _
  simp only [hostOps0, hostOps0_1, hostOps0_2, hostOps0_3, hostOps0_4, List.flatten_cons, List.flatten_nil, List.cons_append, List.nil_append]
  after_results
  try rfl
theorem host_1 (c : Dev nD) : V m c main_arg1 = m ((c : Thread nD τ).loc main_arg1) := by
  show StableHlo.after (List.flatten [hostOps0, hostOps0_1, hostOps0_2, hostOps0_3, hostOps0_4]) _ (Proc.devRef .tc main_arg1) = _
  simp only [hostOps0, hostOps0_1, hostOps0_2, hostOps0_3, hostOps0_4, List.flatten_cons, List.flatten_nil, List.cons_append, List.nil_append]
  after_results
  try rfl
theorem host_2 (c : Dev nD) : V m c main_arg2 = m ((c : Thread nD τ).loc main_arg2) := by
  show StableHlo.after (List.flatten [hostOps0, hostOps0_1, hostOps0_2, hostOps0_3, hostOps0_4]) _ (Proc.devRef .tc main_arg2) = _
  simp only [hostOps0, hostOps0_1, hostOps0_2, hostOps0_3, hostOps0_4, List.flatten_cons, List.flatten_nil, List.cons_append, List.nil_append]
  after_results
  try rfl
theorem host_3 (c : Dev nD) : V m c main_arg3 = m ((c : Thread nD τ).loc main_arg3) := by
  show StableHlo.after (List.flatten [hostOps0, hostOps0_1, hostOps0_2, hostOps0_3, hostOps0_4]) _ (Proc.devRef .tc main_arg3) = _
  simp only [hostOps0, hostOps0_1, hostOps0_2, hostOps0_3, hostOps0_4, List.flatten_cons, List.flatten_nil, List.cons_append, List.nil_append]
  after_results
  try rfl
theorem host_4 (c : Dev nD) : V m c main_arg4 = m ((c : Thread nD τ).loc main_arg4) := by
  show StableHlo.after (List.flatten [hostOps0, hostOps0_1, hostOps0_2, hostOps0_3, hostOps0_4]) _ (Proc.devRef .tc main_arg4) = _
  simp only [hostOps0, hostOps0_1, hostOps0_2, hostOps0_3, hostOps0_4, List.flatten_cons, List.flatten_nil, List.cons_append, List.nil_append]
  after_results
  try rfl
theorem host_5 (c : Dev nD) : V m c main_arg5 = m ((c : Thread nD τ).loc main_arg5) := by
  show StableHlo.after (List.flatten [hostOps0, hostOps0_1, hostOps0_2, hostOps0_3, hostOps0_4]) _ (Proc.devRef .tc main_arg5) = _
  simp only [hostOps0, hostOps0_1, hostOps0_2, hostOps0_3, hostOps0_4, List.flatten_cons, List.flatten_nil, List.cons_append, List.nil_append]
  after_results
  try rfl
theorem host_11 (c : Dev nD) : V m c main_arg11 = m ((c : Thread nD τ).loc main_arg11) := by
  show StableHlo.after (List.flatten [hostOps0, hostOps0_1, hostOps0_2, hostOps0_3, hostOps0_4]) _ (Proc.devRef .tc main_arg11) = _
  simp only [hostOps0, hostOps0_1, hostOps0_2, hostOps0_3, hostOps0_4, List.flatten_cons, List.flatten_nil, List.cons_append, List.nil_append]
  after_results
  try rfl

/-! ### Each block at an index, in terms of the arguments -/

open Cert.Mixers.Ref

/-- An entry of each window's block is an entry of its argument. -/
theorem at0 (c : Dev nD) (t : Fin cfg0.N) (b : Fin 4) (i : Fin 32) (j : Fin 2048) : iblk m c 0 t (ix3 b i j) = (m ((c : Thread nD τ).loc main_arg0)) (ix3 (sq t b) i j) := by
  rw [blk0, host_0]
theorem at1 (c : Dev nD) (t : Fin cfg0.N) (b : Fin 4) (i : Fin 32) (j : Fin 1536) : iblk m c 1 t (ix3 b i j) = (m ((c : Thread nD τ).loc main_arg1)) (ix3 (sq t b) i j) := by
  rw [blk1, host_1]
theorem at2 (c : Dev nD) (t : Fin cfg0.N) (b : Fin 4) (i : Fin 32) (j : Fin 128) : iblk m c 2 t (ix3 b i j) = (m ((c : Thread nD τ).loc main_arg2)) (ix3 (sq t b) i j) := by
  rw [blk2, host_2]
theorem at5 (c : Dev nD) (t : Fin cfg0.N) (b : Fin 4) (i : Fin 4) (j : Fin 128) (k : Fin 128) : iblk m c 5 t (ix4 b i j k) = (m ((c : Thread nD τ).loc main_arg3)) (ix4 (sq t b) i j k) := by
  rw [blk5, host_3]
theorem at6 (c : Dev nD) (t : Fin cfg0.N) (b : Fin 4) (i : Fin 4) (j : Fin 128) (k : Fin 128) : iblk m c 6 t (ix4 b i j k) = (m ((c : Thread nD τ).loc main_arg4)) (ix4 (sq t b) i j k) := by
  rw [blk6, host_4]
theorem at7 (c : Dev nD) (t : Fin cfg0.N) (b : Fin 4) (i : Fin 4) (j : Fin 128) : iblk m c 7 t (ix3 b i j) = (m ((c : Thread nD τ).loc main_arg5)) (ix3 (sq t b) i j) := by
  rw [blk7, host_5]
theorem at11 (c : Dev nD) (t : Fin cfg0.N) (b : Fin 4) (i : Fin 128) (j : Fin 128) : iblk m c 11 t (ix3 b i j) = (m ((c : Thread nD τ).loc main_arg9)) (ix3 b i j) := by
  rw [blk11, host_wq]
theorem at12 (c : Dev nD) (t : Fin cfg0.N) (b : Fin 4) (i : Fin 128) (j : Fin 128) : iblk m c 12 t (ix3 b i j) = (m ((c : Thread nD τ).loc main_arg10)) (ix3 b i j) := by
  rw [blk12, host_wk]
theorem at13 (c : Dev nD) (t : Fin cfg0.N) (b : Fin 4) (i : Fin 512) : iblk m c 13 t (ix2 b i) = (m ((c : Thread nD τ).loc main_arg11)) (ix2 b i) := by
  rw [blk13, host_11]
theorem at3 (c : Dev nD) (t : Fin cfg0.N) (s : Fin 32) (d : Fin 128) : iblk m c 3 t (ix2 s d) = if h : d.val < 64 then cosT s ⟨d.val, h⟩ else cosT s ⟨d.val - 64, by omega⟩ := by
  rw [blk3, host_cos]
  pointwise
  rfl
theorem at4 (c : Dev nD) (t : Fin cfg0.N) (s : Fin 32) (d : Fin 128) : iblk m c 4 t (ix2 s d) = if h : d.val < 64 then -(sinT s ⟨d.val, h⟩) else sinT s ⟨d.val - 64, by omega⟩ := by
  rw [blk4, host_sin]
  pointwise
  rfl
theorem at8 (c : Dev nD) (t : Fin cfg0.N) (b h : Fin 4) (d : Fin 128) : iblk m c 8 t (ix3 b h d) = (m ((c : Thread nD τ).loc main_arg6)) (ix2 (sq t b) h) := by
  rw [blk8, host_m]
  pointwise
theorem at9 (c : Dev nD) (t : Fin cfg0.N) (b : Fin 4) (p : Fin 3) (d : Fin 512) : iblk m c 9 t (ix3 b ⟨5 + p.val, by omega⟩ d) = (m ((c : Thread nD τ).loc main_arg7)) (ix3 (sq t b) p d) := by
  rw [blk9, host_tail]
  pointwise
  refine dif_pos fun a => ?_
  have hb := (sq t b).isLt
  match a with
  | ⟨0, _⟩ => show 0 ≤ (sq t b).val ∧ ((sq t b).val - 0) % (0 + 1) = 0 ∧ ((sq t b).val - 0) / (0 + 1) < 16; omega
  | ⟨1, _⟩ => show 5 ≤ 5 + p.val ∧ (5 + p.val - 5) % (0 + 1) = 0 ∧ (5 + p.val - 5) / (0 + 1) < 3; omega
  | ⟨2, _⟩ => show 0 ≤ d.val ∧ (d.val - 0) % (0 + 1) = 0 ∧ (d.val - 0) / (0 + 1) < 512; omega
theorem at10 (c : Dev nD) (t : Fin cfg0.N) (l : Fin 512) : iblk m c 10 t (ix2 0 l) = (m ((c : Thread nD τ).loc main_arg8)) (ix1 l) := by
  rw [blk10, host_gret]
  pointwise
theorem at14 (c : Dev nD) (t : Fin cfg0.N) (l : Fin 512) : iblk m c 14 t (ix2 0 l) = (m ((c : Thread nD τ).loc main_arg12)) (ix1 l) := by
  rw [blk14, host_convb]
  pointwise
theorem at16 (c : Dev nD) (t : Fin cfg0.N) (l : Fin 512) : iblk m c 16 t (ix2 0 l) = (m ((c : Thread nD τ).loc main_arg15)) (ix1 l) := by
  rw [blk16, host_gml]
  pointwise
theorem at17 (c : Dev nD) (t : Fin cfg0.N) (l : Fin 512) : iblk m c 17 t (ix2 0 l) = (m ((c : Thread nD τ).loc main_arg16)) (ix1 l) := by
  rw [blk17, host_skip]
  pointwise
theorem at15i (c : Dev nD) (t : Fin cfg0.N) (h : Fin 4) : iblk m c 15 t (ix2 0 ⟨h.val, by omega⟩) = (m ((c : Thread nD τ).loc main_arg13)) (ix1 h) := by
  rw [blk15, host_gates]
  pointwise
  rw [dif_pos (by omega)]
theorem at15f (c : Dev nD) (t : Fin cfg0.N) (h : Fin 4) : iblk m c 15 t (ix2 0 ⟨4 + h.val, by omega⟩) = (m ((c : Thread nD τ).loc main_arg14)) (ix1 h) := by
  rw [blk15, host_gates]
  pointwise
  rw [dif_pos (by omega)]

end Cert.Mixers
-- ==== Proof.MixersDecay.lean ====
/- The four heads' decays: the named constants of the launch are the reference's own. -/
module

public import proofs.«01_k».proof.Defs
public import proofs.«01_k».proof.Proof.MixersRef
public import Idealize.ShloMosaic.Lib.Pointwise

@[expose] public section

noncomputable section

namespace Cert.Mixers

open Idealize.ShloMosaic Cert.Mixers.Ref Cert.ReferenceIdeal.Read

theorem half : Ideal.ofBits .f32 0x3F000000#32 = ((1 / 2 : ℝ) : EReal) := by
  simp [Ideal.ofBits, Ideal.ieee, -EReal.coe_mul]; norm_num
theorem five : Ideal.ofBits .f32 0x40A00000#32 = ((5 : ℝ) : EReal) := by
  simp [Ideal.ofBits, Ideal.ieee, -EReal.coe_mul]; norm_num
theorem chunk : Ideal.ofBits .f32 0x42000000#32 = ((32 : ℝ) : EReal) := by
  simp [Ideal.ofBits, Ideal.ieee, -EReal.coe_mul]; norm_num

theorem lg_apply (h : Fin 4) : lgR h = Ideal.log1p (-Ideal.pow (Ideal.ofBits .f32 0x3F000000#32)
    (Ideal.ofBits .f32 0x40A00000#32 + FloatOps.sitofp (F := Ideal) .f32 (BitVec.ofNat 32 h.val))) := by
  unfold lgR
  pointwise [val_main_v129, val_main_v128, val_main_v127, val_main_v126, val_main_v125, val_main_v124, val_main_v123, val_main_v122,
    val_main_v121, val_main_v120, val_main_cst_6, val_main_cst_5]

/-- A head's log decay is the logarithm of `1 - 2 ^ -(5 + h)`. -/
theorem lg_real (h : Fin 4) (r : ℝ) (hr : 0 < r) (e : 1 - Real.rpow (1 / 2) (5 + (h.val : ℝ)) = r) :
    lgR h = ((Real.log r : ℝ) : EReal) := by
  have hs : FloatOps.sitofp (F := Ideal) FTy.f32 (BitVec.ofNat 32 h.val) = ((h.val : ℝ) : EReal) := by
    show (((BitVec.ofNat 32 h.val).toInt : ℝ) : EReal) = _
    rw [(by decide +kernel : ∀ h : Fin 4, (BitVec.ofNat 32 h.val).toInt = (h.val : ℤ)) h]
    norm_cast
  rw [lg_apply, half, five, hs, ← EReal.coe_add, Ideal.pow_coe_coe, ← EReal.coe_neg]
  show Ideal.log (1 + _) = _
  rw [← EReal.coe_one, ← EReal.coe_add, ← sub_eq_add_neg, e, Ideal.log_coe, if_neg (not_le.mpr hr)]

theorem chunk_real (h : Fin 4) (r : ℝ) (hr : 0 < r) (e : lgR h = ((Real.log r : ℝ) : EReal)) :
    Ideal.exp (lgR h * Ideal.ofBits .f32 0x42000000#32) = ((r ^ 32 : ℝ) : EReal) := by
  rw [e, chunk, ← EReal.coe_mul, Ideal.exp_coe, mul_comm, ← Nat.cast_ofNat, Real.exp_nat_mul, Real.exp_log hr]

theorem lg0 : lgR 0 = ((Real.log (31 / 32) : ℝ) : EReal) := lg_real 0 _ (by norm_num) (by
  show 1 - (1 / 2 : ℝ) ^ (5 + (((0 : Fin 4).val : ℕ) : ℝ)) = _
  rw [show (5 + (((0 : Fin 4).val : ℕ) : ℝ)) = ((5 : ℕ) : ℝ) by norm_num, Real.rpow_natCast]
  norm_num)
theorem log_decay0 : (Named.named Cert.KernelIdeal.κ "log_decay0" 0xBD020AEC#32 : Ideal .f32) = lgR 0 :=
  (IdealRules.named_const.ideal_named_scalar _ _ _ _ rfl).trans lg0.symm
theorem chunk_decay0 : (Named.named Cert.KernelIdeal.κ "chunk_decay0" 0x3EB95F50#32 : Ideal .f32)
    = Ideal.exp (lgR 0 * Ideal.ofBits .f32 0x42000000#32) := by
  rw [chunk_real 0 _ (by norm_num) lg0]
  refine (IdealRules.named_const.ideal_named_scalar _ _ _ ((529144398052420314716929933900838757437386767361 / 1461501637330902918203684832716283019655932542976 : ℝ) : EReal) rfl).trans ?_
  norm_num

theorem lg1 : lgR 1 = ((Real.log (63 / 64) : ℝ) : EReal) := lg_real 1 _ (by norm_num) (by
  show 1 - (1 / 2 : ℝ) ^ (5 + (((1 : Fin 4).val : ℕ) : ℝ)) = _
  rw [show (5 + (((1 : Fin 4).val : ℕ) : ℝ)) = ((6 : ℕ) : ℝ) by norm_num, Real.rpow_natCast]
  norm_num)
theorem log_decay1 : (Named.named Cert.KernelIdeal.κ "log_decay1" 0xBC8102B3#32 : Ideal .f32) = lgR 1 :=
  (IdealRules.named_const.ideal_named_scalar _ _ _ _ rfl).trans lg1.symm
theorem chunk_decay1 : (Named.named Cert.KernelIdeal.κ "chunk_decay1" 0x3F1AA8FF#32 : Ideal .f32)
    = Ideal.exp (lgR 1 * Ideal.ofBits .f32 0x42000000#32) := by
  rw [chunk_real 1 _ (by norm_num) lg1]
  refine (IdealRules.named_const.ideal_named_scalar _ _ _ ((3792255435734639939700427436560372449070499280862066964481 / 6277101735386680763835789423207666416102355444464034512896 : ℝ) : EReal) rfl).trans ?_
  norm_num

theorem lg2 : lgR 2 = ((Real.log (127 / 128) : ℝ) : EReal) := lg_real 2 _ (by norm_num) (by
  show 1 - (1 / 2 : ℝ) ^ (5 + (((2 : Fin 4).val : ℕ) : ℝ)) = _
  rw [show (5 + (((2 : Fin 4).val : ℕ) : ℝ)) = ((7 : ℕ) : ℝ) by norm_num, Real.rpow_natCast]
  norm_num)
theorem log_decay2 : (Named.named Cert.KernelIdeal.κ "log_decay2" 0xBC0080AC#32 : Ideal .f32) = lgR 2 :=
  (IdealRules.named_const.ideal_named_scalar _ _ _ _ rfl).trans lg2.symm
theorem chunk_decay2 : (Named.named Cert.KernelIdeal.κ "chunk_decay2" 0x3F472D69#32 : Ideal .f32)
    = Ideal.exp (lgR 2 * Ideal.ofBits .f32 0x42000000#32) := by
  rw [chunk_real 2 _ (by norm_num) lg2]
  refine (IdealRules.named_const.ideal_named_scalar _ _ _ ((20975825942850835435487946371038619427046538071435595461971578449921 / 26959946667150639794667015087019630673637144422540572481103610249216 : ℝ) : EReal) rfl).trans ?_
  norm_num

theorem lg3 : lgR 3 = ((Real.log (255 / 256) : ℝ) : EReal) := lg_real 3 _ (by norm_num) (by
  show 1 - (1 / 2 : ℝ) ^ (5 + (((3 : Fin 4).val : ℕ) : ℝ)) = _
  rw [show (5 + (((3 : Fin 4).val : ℕ) : ℝ)) = ((8 : ℕ) : ℝ) by norm_num, Real.rpow_natCast]
  norm_num)
theorem log_decay3 : (Named.named Cert.KernelIdeal.κ "log_decay3" 0xBB80402B#32 : Ideal .f32) = lgR 3 :=
  (IdealRules.named_const.ideal_named_scalar _ _ _ _ rfl).trans lg3.symm
theorem chunk_decay3 : (Named.named Cert.KernelIdeal.κ "chunk_decay3" 0x3F61DD29#32 : Ideal .f32)
    = Ideal.exp (lgR 3 * Ideal.ofBits .f32 0x42000000#32) := by
  rw [chunk_real 3 _ (by norm_num) lg3]
  refine (IdealRules.named_const.ideal_named_scalar _ _ _ ((102161150204658159326162171757797299165741800222807601117528975009918212890625 / 115792089237316195423570985008687907853269984665640564039457584007913129639936 : ℝ) : EReal) rfl).trans ?_
  norm_num

end Cert.Mixers
-- ==== Proof.MixersStep.lean ====
/- How a window is read back from its stores, and one head of each mixer with its inputs named. -/
module

public import proofs.«01_k».proof.Defs
public import proofs.«01_k».proof.Proof.MixersValue
public import proofs.«01_k».proof.Proof.MixersCore
public import proofs.«01_k».proof.Proof.MixersRef
public import proofs.«01_k».proof.Proof.MixersHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Earlier stores under later ones that cover the index are not seen there. -/
theorem canon_drop {S : Shape} {e : EltTy} {Val : EltTy → Type} [∀ e, Nonempty (Val e)] (L' : List (View.Piece Val S e)) (y : S.Idx) :
    ∀ L : List (View.Piece Val S e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' y L ?_
      obtain ⟨q, hq, hy⟩ := h
      rcases List.mem_cons.mp hq with rfl | hq
      · exact absurd hy hm
      · exact ⟨q, hq, hy⟩

set_option maxHeartbeats 4000000 in
/-- The sixteen stores of one block for each sequence and head leave in the block what each of them stores. -/
theorem tiles_mat {e : EltTy} {Val : EltTy → Type} [∀ e, Nonempty (Val e)]
    (w33 w32 w31 w30 w23 w22 w21 w20 w13 w12 w11 w10 w03 w02 w01 w00 : S1x1x128x128.Idx → Val e) (L : List (View.Piece Val S4x4x128x128 e)) (G : S4x4x128x128.Idx → Val e) (i33 : ∀ a, (![3, 3, 0, 0] : Fin S4x4x128x128.rank → ℕ) a + S1x1x128x128.size a ≤ S4x4x128x128.size a) (i32 : ∀ a, (![3, 2, 0, 0] : Fin S4x4x128x128.rank → ℕ) a + S1x1x128x128.size a ≤ S4x4x128x128.size a) (i31 : ∀ a, (![3, 1, 0, 0] : Fin S4x4x128x128.rank → ℕ) a + S1x1x128x128.size a ≤ S4x4x128x128.size a) (i30 : ∀ a, (![3, 0, 0, 0] : Fin S4x4x128x128.rank → ℕ) a + S1x1x128x128.size a ≤ S4x4x128x128.size a) (i23 : ∀ a, (![2, 3, 0, 0] : Fin S4x4x128x128.rank → ℕ) a + S1x1x128x128.size a ≤ S4x4x128x128.size a) (i22 : ∀ a, (![2, 2, 0, 0] : Fin S4x4x128x128.rank → ℕ) a + S1x1x128x128.size a ≤ S4x4x128x128.size a) (i21 : ∀ a, (![2, 1, 0, 0] : Fin S4x4x128x128.rank → ℕ) a + S1x1x128x128.size a ≤ S4x4x128x128.size a) (i20 : ∀ a, (![2, 0, 0, 0] : Fin S4x4x128x128.rank → ℕ) a + S1x1x128x128.size a ≤ S4x4x128x128.size a) (i13 : ∀ a, (![1, 3, 0, 0] : Fin S4x4x128x128.rank → ℕ) a + S1x1x128x128.size a ≤ S4x4x128x128.size a) (i12 : ∀ a, (![1, 2, 0, 0] : Fin S4x4x128x128.rank → ℕ) a + S1x1x128x128.size a ≤ S4x4x128x128.size a) (i11 : ∀ a, (![1, 1, 0, 0] : Fin S4x4x128x128.rank → ℕ) a + S1x1x128x128.size a ≤ S4x4x128x128.size a) (i10 : ∀ a, (![1, 0, 0, 0] : Fin S4x4x128x128.rank → ℕ) a + S1x1x128x128.size a ≤ S4x4x128x128.size a) (i03 : ∀ a, (![0, 3, 0, 0] : Fin S4x4x128x128.rank → ℕ) a + S1x1x128x128.size a ≤ S4x4x128x128.size a) (i02 : ∀ a, (![0, 2, 0, 0] : Fin S4x4x128x128.rank → ℕ) a + S1x1x128x128.size a ≤ S4x4x128x128.size a) (i01 : ∀ a, (![0, 1, 0, 0] : Fin S4x4x128x128.rank → ℕ) a + S1x1x128x128.size a ≤ S4x4x128x128.size a) (i00 : ∀ a, (![0, 0, 0, 0] : Fin S4x4x128x128.rank → ℕ) a + S1x1x128x128.size a ≤ S4x4x128x128.size a)
    (h33 : ∀ x0 x1, w33 (ix4 0 0 x0 x1) = G (ix4 3 3 x0 x1))
    (h32 : ∀ x0 x1, w32 (ix4 0 0 x0 x1) = G (ix4 3 2 x0 x1))
    (h31 : ∀ x0 x1, w31 (ix4 0 0 x0 x1) = G (ix4 3 1 x0 x1))
    (h30 : ∀ x0 x1, w30 (ix4 0 0 x0 x1) = G (ix4 3 0 x0 x1))
    (h23 : ∀ x0 x1, w23 (ix4 0 0 x0 x1) = G (ix4 2 3 x0 x1))
    (h22 : ∀ x0 x1, w22 (ix4 0 0 x0 x1) = G (ix4 2 2 x0 x1))
    (h21 : ∀ x0 x1, w21 (ix4 0 0 x0 x1) = G (ix4 2 1 x0 x1))
    (h20 : ∀ x0 x1, w20 (ix4 0 0 x0 x1) = G (ix4 2 0 x0 x1))
    (h13 : ∀ x0 x1, w13 (ix4 0 0 x0 x1) = G (ix4 1 3 x0 x1))
    (h12 : ∀ x0 x1, w12 (ix4 0 0 x0 x1) = G (ix4 1 2 x0 x1))
    (h11 : ∀ x0 x1, w11 (ix4 0 0 x0 x1) = G (ix4 1 1 x0 x1))
    (h10 : ∀ x0 x1, w10 (ix4 0 0 x0 x1) = G (ix4 1 0 x0 x1))
    (h03 : ∀ x0 x1, w03 (ix4 0 0 x0 x1) = G (ix4 0 3 x0 x1))
    (h02 : ∀ x0 x1, w02 (ix4 0 0 x0 x1) = G (ix4 0 2 x0 x1))
    (h01 : ∀ x0 x1, w01 (ix4 0 0 x0 x1) = G (ix4 0 1 x0 x1))
    (h00 : ∀ x0 x1, w00 (ix4 0 0 x0 x1) = G (ix4 0 0 x0 x1))
    (y : S4x4x128x128.Idx) :
    View.canon (⟨Rect.unit (s := S4x4x128x128) ![3, 3, 0, 0] (no_index S1x1x128x128.size) i33, w33⟩ :: ⟨Rect.unit (s := S4x4x128x128) ![3, 2, 0, 0] (no_index S1x1x128x128.size) i32, w32⟩ :: ⟨Rect.unit (s := S4x4x128x128) ![3, 1, 0, 0] (no_index S1x1x128x128.size) i31, w31⟩ :: ⟨Rect.unit (s := S4x4x128x128) ![3, 0, 0, 0] (no_index S1x1x128x128.size) i30, w30⟩ :: ⟨Rect.unit (s := S4x4x128x128) ![2, 3, 0, 0] (no_index S1x1x128x128.size) i23, w23⟩ :: ⟨Rect.unit (s := S4x4x128x128) ![2, 2, 0, 0] (no_index S1x1x128x128.size) i22, w22⟩ :: ⟨Rect.unit (s := S4x4x128x128) ![2, 1, 0, 0] (no_index S1x1x128x128.size) i21, w21⟩ :: ⟨Rect.unit (s := S4x4x128x128) ![2, 0, 0, 0] (no_index S1x1x128x128.size) i20, w20⟩ :: ⟨Rect.unit (s := S4x4x128x128) ![1, 3, 0, 0] (no_index S1x1x128x128.size) i13, w13⟩ :: ⟨Rect.unit (s := S4x4x128x128) ![1, 2, 0, 0] (no_index S1x1x128x128.size) i12, w12⟩ :: ⟨Rect.unit (s := S4x4x128x128) ![1, 1, 0, 0] (no_index S1x1x128x128.size) i11, w11⟩ :: ⟨Rect.unit (s := S4x4x128x128) ![1, 0, 0, 0] (no_index S1x1x128x128.size) i10, w10⟩ :: ⟨Rect.unit (s := S4x4x128x128) ![0, 3, 0, 0] (no_index S1x1x128x128.size) i03, w03⟩ :: ⟨Rect.unit (s := S4x4x128x128) ![0, 2, 0, 0] (no_index S1x1x128x128.size) i02, w02⟩ :: ⟨Rect.unit (s := S4x4x128x128) ![0, 1, 0, 0] (no_index S1x1x128x128.size) i01, w01⟩ :: ⟨Rect.unit (s := S4x4x128x128) ![0, 0, 0, 0] (no_index S1x1x128x128.size) i00, w00⟩ :: L) y = G y := by
  idx_vars y
  refine (canon_drop L _ [_, _, _, _, _, _, _, _, _, _, _, _, _, _, _, _] (View.cover_of_tiled_head _ _ _ (by sl_kernel_rfl) _)).trans ?_
  canon_tiles x h using (View.cover_of_tiled_head _ _ _ (by sl_kernel_rfl) _)
  case piece0 =>
    idx_vars x
    obtain rfl : y0 = 3 := Fin.ext (by show y0.val = 3; omega)
    obtain rfl : y1 = 3 := Fin.ext (by show y1.val = 3; omega)
    obtain rfl : y2 = x2 := Fin.ext h2
    obtain rfl : y3 = x3 := Fin.ext h3
    obtain rfl : x0 = 0 := Subsingleton.elim _ _
    obtain rfl : x1 = 0 := Subsingleton.elim _ _
    exact h33 y2 y3
  case piece1 =>
    idx_vars x
    obtain rfl : y0 = 3 := Fin.ext (by show y0.val = 3; omega)
    obtain rfl : y1 = 2 := Fin.ext (by show y1.val = 2; omega)
    obtain rfl : y2 = x2 := Fin.ext h2
    obtain rfl : y3 = x3 := Fin.ext h3
    obtain rfl : x0 = 0 := Subsingleton.elim _ _
    obtain rfl : x1 = 0 := Subsingleton.elim _ _
    exact h32 y2 y3
  case piece2 =>
    idx_vars x
    obtain rfl : y0 = 3 := Fin.ext (by show y0.val = 3; omega)
    obtain rfl : y1 = 1 := Fin.ext (by show y1.val = 1; omega)
    obtain rfl : y2 = x2 := Fin.ext h2
    obtain rfl : y3 = x3 := Fin.ext h3
    obtain rfl : x0 = 0 := Subsingleton.elim _ _
    obtain rfl : x1 = 0 := Subsingleton.elim _ _
    exact h31 y2 y3
  case piece3 =>
    idx_vars x
    obtain rfl : y0 = 3 := Fin.ext (by show y0.val = 3; omega)
    obtain rfl : y1 = 0 := Fin.ext (by show y1.val = 0; omega)
    obtain rfl : y2 = x2 := Fin.ext h2
    obtain rfl : y3 = x3 := Fin.ext h3
    obtain rfl : x0 = 0 := Subsingleton.elim _ _
    obtain rfl : x1 = 0 := Subsingleton.elim _ _
    exact h30 y2 y3
  case piece4 =>
    idx_vars x
    obtain rfl : y0 = 2 := Fin.ext (by show y0.val = 2; omega)
    obtain rfl : y1 = 3 := Fin.ext (by show y1.val = 3; omega)
    obtain rfl : y2 = x2 := Fin.ext h2
    obtain rfl : y3 = x3 := Fin.ext h3
    obtain rfl : x0 = 0 := Subsingleton.elim _ _
    obtain rfl : x1 = 0 := Subsingleton.elim _ _
    exact h23 y2 y3
  case piece5 =>
    idx_vars x
    obtain rfl : y0 = 2 := Fin.ext (by show y0.val = 2; omega)
    obtain rfl : y1 = 2 := Fin.ext (by show y1.val = 2; omega)
    obtain rfl : y2 = x2 := Fin.ext h2
    obtain rfl : y3 = x3 := Fin.ext h3
    obtain rfl : x0 = 0 := Subsingleton.elim _ _
    obtain rfl : x1 = 0 := Subsingleton.elim _ _
    exact h22 y2 y3
  case piece6 =>
    idx_vars x
    obtain rfl : y0 = 2 := Fin.ext (by show y0.val = 2; omega)
    obtain rfl : y1 = 1 := Fin.ext (by show y1.val = 1; omega)
    obtain rfl : y2 = x2 := Fin.ext h2
    obtain rfl : y3 = x3 := Fin.ext h3
    obtain rfl : x0 = 0 := Subsingleton.elim _ _
    obtain rfl : x1 = 0 := Subsingleton.elim _ _
    exact h21 y2 y3
  case piece7 =>
    idx_vars x
    obtain rfl : y0 = 2 := Fin.ext (by show y0.val = 2; omega)
    obtain rfl : y1 = 0 := Fin.ext (by show y1.val = 0; omega)
    obtain rfl : y2 = x2 := Fin.ext h2
    obtain rfl : y3 = x3 := Fin.ext h3
    obtain rfl : x0 = 0 := Subsingleton.elim _ _
    obtain rfl : x1 = 0 := Subsingleton.elim _ _
    exact h20 y2 y3
  case piece8 =>
    idx_vars x
    obtain rfl : y0 = 1 := Fin.ext (by show y0.val = 1; omega)
    obtain rfl : y1 = 3 := Fin.ext (by show y1.val = 3; omega)
    obtain rfl : y2 = x2 := Fin.ext h2
    obtain rfl : y3 = x3 := Fin.ext h3
    obtain rfl : x0 = 0 := Subsingleton.elim _ _
    obtain rfl : x1 = 0 := Subsingleton.elim _ _
    exact h13 y2 y3
  case piece9 =>
    idx_vars x
    obtain rfl : y0 = 1 := Fin.ext (by show y0.val = 1; omega)
    obtain rfl : y1 = 2 := Fin.ext (by show y1.val = 2; omega)
    obtain rfl : y2 = x2 := Fin.ext h2
    obtain rfl : y3 = x3 := Fin.ext h3
    obtain rfl : x0 = 0 := Subsingleton.elim _ _
    obtain rfl : x1 = 0 := Subsingleton.elim _ _
    exact h12 y2 y3
  case piece10 =>
    idx_vars x
    obtain rfl : y0 = 1 := Fin.ext (by show y0.val = 1; omega)
    obtain rfl : y1 = 1 := Fin.ext (by show y1.val = 1; omega)
    obtain rfl : y2 = x2 := Fin.ext h2
    obtain rfl : y3 = x3 := Fin.ext h3
    obtain rfl : x0 = 0 := Subsingleton.elim _ _
    obtain rfl : x1 = 0 := Subsingleton.elim _ _
    exact h11 y2 y3
  case piece11 =>
    idx_vars x
    obtain rfl : y0 = 1 := Fin.ext (by show y0.val = 1; omega)
    obtain rfl : y1 = 0 := Fin.ext (by show y1.val = 0; omega)
    obtain rfl : y2 = x2 := Fin.ext h2
    obtain rfl : y3 = x3 := Fin.ext h3
    obtain rfl : x0 = 0 := Subsingleton.elim _ _
    obtain rfl : x1 = 0 := Subsingleton.elim _ _
    exact h10 y2 y3
  case piece12 =>
    idx_vars x
    obtain rfl : y0 = 0 := Fin.ext (by show y0.val = 0; omega)
    obtain rfl : y1 = 3 := Fin.ext (by show y1.val = 3; omega)
    obtain rfl : y2 = x2 := Fin.ext h2
    obtain rfl : y3 = x3 := Fin.ext h3
    obtain rfl : x0 = 0 := Subsingleton.elim _ _
    obtain rfl : x1 = 0 := Subsingleton.elim _ _
    exact h03 y2 y3
  case piece13 =>
    idx_vars x
    obtain rfl : y0 = 0 := Fin.ext (by show y0.val = 0; omega)
    obtain rfl : y1 = 2 := Fin.ext (by show y1.val = 2; omega)
    obtain rfl : y2 = x2 := Fin.ext h2
    obtain rfl : y3 = x3 := Fin.ext h3
    obtain rfl : x0 = 0 := Subsingleton.elim _ _
    obtain rfl : x1 = 0 := Subsingleton.elim _ _
    exact h02 y2 y3
  case piece14 =>
    idx_vars x
    obtain rfl : y0 = 0 := Fin.ext (by show y0.val = 0; omega)
    obtain rfl : y1 = 1 := Fin.ext (by show y1.val = 1; omega)
    obtain rfl : y2 = x2 := Fin.ext h2
    obtain rfl : y3 = x3 := Fin.ext h3
    obtain rfl : x0 = 0 := Subsingleton.elim _ _
    obtain rfl : x1 = 0 := Subsingleton.elim _ _
    exact h01 y2 y3
  case piece15 =>
    idx_vars x
    obtain rfl : y0 = 0 := Fin.ext (by show y0.val = 0; omega)
    obtain rfl : y1 = 0 := Fin.ext (by show y1.val = 0; omega)
    obtain rfl : y2 = x2 := Fin.ext h2
    obtain rfl : y3 = x3 := Fin.ext h3
    obtain rfl : x0 = 0 := Subsingleton.elim _ _
    obtain rfl : x1 = 0 := Subsingleton.elim _ _
    exact h00 y2 y3

set_option maxHeartbeats 4000000 in
/-- The sixteen stores of one block for each sequence and head leave in the block what each of them stores. -/
theorem tiles_vec {e : EltTy} {Val : EltTy → Type} [∀ e, Nonempty (Val e)]
    (w33 w32 w31 w30 w23 w22 w21 w20 w13 w12 w11 w10 w03 w02 w01 w00 : S1x1x128.Idx → Val e) (L : List (View.Piece Val S4x4x128 e)) (G : S4x4x128.Idx → Val e) (i33 : ∀ a, (![3, 3, 0] : Fin S4x4x128.rank → ℕ) a + S1x1x128.size a ≤ S4x4x128.size a) (i32 : ∀ a, (![3, 2, 0] : Fin S4x4x128.rank → ℕ) a + S1x1x128.size a ≤ S4x4x128.size a) (i31 : ∀ a, (![3, 1, 0] : Fin S4x4x128.rank → ℕ) a + S1x1x128.size a ≤ S4x4x128.size a) (i30 : ∀ a, (![3, 0, 0] : Fin S4x4x128.rank → ℕ) a + S1x1x128.size a ≤ S4x4x128.size a) (i23 : ∀ a, (![2, 3, 0] : Fin S4x4x128.rank → ℕ) a + S1x1x128.size a ≤ S4x4x128.size a) (i22 : ∀ a, (![2, 2, 0] : Fin S4x4x128.rank → ℕ) a + S1x1x128.size a ≤ S4x4x128.size a) (i21 : ∀ a, (![2, 1, 0] : Fin S4x4x128.rank → ℕ) a + S1x1x128.size a ≤ S4x4x128.size a) (i20 : ∀ a, (![2, 0, 0] : Fin S4x4x128.rank → ℕ) a + S1x1x128.size a ≤ S4x4x128.size a) (i13 : ∀ a, (![1, 3, 0] : Fin S4x4x128.rank → ℕ) a + S1x1x128.size a ≤ S4x4x128.size a) (i12 : ∀ a, (![1, 2, 0] : Fin S4x4x128.rank → ℕ) a + S1x1x128.size a ≤ S4x4x128.size a) (i11 : ∀ a, (![1, 1, 0] : Fin S4x4x128.rank → ℕ) a + S1x1x128.size a ≤ S4x4x128.size a) (i10 : ∀ a, (![1, 0, 0] : Fin S4x4x128.rank → ℕ) a + S1x1x128.size a ≤ S4x4x128.size a) (i03 : ∀ a, (![0, 3, 0] : Fin S4x4x128.rank → ℕ) a + S1x1x128.size a ≤ S4x4x128.size a) (i02 : ∀ a, (![0, 2, 0] : Fin S4x4x128.rank → ℕ) a + S1x1x128.size a ≤ S4x4x128.size a) (i01 : ∀ a, (![0, 1, 0] : Fin S4x4x128.rank → ℕ) a + S1x1x128.size a ≤ S4x4x128.size a) (i00 : ∀ a, (![0, 0, 0] : Fin S4x4x128.rank → ℕ) a + S1x1x128.size a ≤ S4x4x128.size a)
    (h33 : ∀ x0, w33 (ix3 0 0 x0) = G (ix3 3 3 x0))
    (h32 : ∀ x0, w32 (ix3 0 0 x0) = G (ix3 3 2 x0))
    (h31 : ∀ x0, w31 (ix3 0 0 x0) = G (ix3 3 1 x0))
    (h30 : ∀ x0, w30 (ix3 0 0 x0) = G (ix3 3 0 x0))
    (h23 : ∀ x0, w23 (ix3 0 0 x0) = G (ix3 2 3 x0))
    (h22 : ∀ x0, w22 (ix3 0 0 x0) = G (ix3 2 2 x0))
    (h21 : ∀ x0, w21 (ix3 0 0 x0) = G (ix3 2 1 x0))
    (h20 : ∀ x0, w20 (ix3 0 0 x0) = G (ix3 2 0 x0))
    (h13 : ∀ x0, w13 (ix3 0 0 x0) = G (ix3 1 3 x0))
    (h12 : ∀ x0, w12 (ix3 0 0 x0) = G (ix3 1 2 x0))
    (h11 : ∀ x0, w11 (ix3 0 0 x0) = G (ix3 1 1 x0))
    (h10 : ∀ x0, w10 (ix3 0 0 x0) = G (ix3 1 0 x0))
    (h03 : ∀ x0, w03 (ix3 0 0 x0) = G (ix3 0 3 x0))
    (h02 : ∀ x0, w02 (ix3 0 0 x0) = G (ix3 0 2 x0))
    (h01 : ∀ x0, w01 (ix3 0 0 x0) = G (ix3 0 1 x0))
    (h00 : ∀ x0, w00 (ix3 0 0 x0) = G (ix3 0 0 x0))
    (y : S4x4x128.Idx) :
    View.canon (⟨Rect.unit (s := S4x4x128) ![3, 3, 0] (no_index S1x1x128.size) i33, w33⟩ :: ⟨Rect.unit (s := S4x4x128) ![3, 2, 0] (no_index S1x1x128.size) i32, w32⟩ :: ⟨Rect.unit (s := S4x4x128) ![3, 1, 0] (no_index S1x1x128.size) i31, w31⟩ :: ⟨Rect.unit (s := S4x4x128) ![3, 0, 0] (no_index S1x1x128.size) i30, w30⟩ :: ⟨Rect.unit (s := S4x4x128) ![2, 3, 0] (no_index S1x1x128.size) i23, w23⟩ :: ⟨Rect.unit (s := S4x4x128) ![2, 2, 0] (no_index S1x1x128.size) i22, w22⟩ :: ⟨Rect.unit (s := S4x4x128) ![2, 1, 0] (no_index S1x1x128.size) i21, w21⟩ :: ⟨Rect.unit (s := S4x4x128) ![2, 0, 0] (no_index S1x1x128.size) i20, w20⟩ :: ⟨Rect.unit (s := S4x4x128) ![1, 3, 0] (no_index S1x1x128.size) i13, w13⟩ :: ⟨Rect.unit (s := S4x4x128) ![1, 2, 0] (no_index S1x1x128.size) i12, w12⟩ :: ⟨Rect.unit (s := S4x4x128) ![1, 1, 0] (no_index S1x1x128.size) i11, w11⟩ :: ⟨Rect.unit (s := S4x4x128) ![1, 0, 0] (no_index S1x1x128.size) i10, w10⟩ :: ⟨Rect.unit (s := S4x4x128) ![0, 3, 0] (no_index S1x1x128.size) i03, w03⟩ :: ⟨Rect.unit (s := S4x4x128) ![0, 2, 0] (no_index S1x1x128.size) i02, w02⟩ :: ⟨Rect.unit (s := S4x4x128) ![0, 1, 0] (no_index S1x1x128.size) i01, w01⟩ :: ⟨Rect.unit (s := S4x4x128) ![0, 0, 0] (no_index S1x1x128.size) i00, w00⟩ :: L) y = G y := by
  idx_vars y
  refine (canon_drop L _ [_, _, _, _, _, _, _, _, _, _, _, _, _, _, _, _] (View.cover_of_tiled_head _ _ _ (by sl_kernel_rfl) _)).trans ?_
  canon_tiles x h using (View.cover_of_tiled_head _ _ _ (by sl_kernel_rfl) _)
  case piece0 =>
    idx_vars x
    obtain rfl : y0 = 3 := Fin.ext (by show y0.val = 3; omega)
    obtain rfl : y1 = 3 := Fin.ext (by show y1.val = 3; omega)
    obtain rfl : y2 = x2 := Fin.ext h2
    obtain rfl : x0 = 0 := Subsingleton.elim _ _
    obtain rfl : x1 = 0 := Subsingleton.elim _ _
    exact h33 y2
  case piece1 =>
    idx_vars x
    obtain rfl : y0 = 3 := Fin.ext (by show y0.val = 3; omega)
    obtain rfl : y1 = 2 := Fin.ext (by show y1.val = 2; omega)
    obtain rfl : y2 = x2 := Fin.ext h2
    obtain rfl : x0 = 0 := Subsingleton.elim _ _
    obtain rfl : x1 = 0 := Subsingleton.elim _ _
    exact h32 y2
  case piece2 =>
    idx_vars x
    obtain rfl : y0 = 3 := Fin.ext (by show y0.val = 3; omega)
    obtain rfl : y1 = 1 := Fin.ext (by show y1.val = 1; omega)
    obtain rfl : y2 = x2 := Fin.ext h2
    obtain rfl : x0 = 0 := Subsingleton.elim _ _
    obtain rfl : x1 = 0 := Subsingleton.elim _ _
    exact h31 y2
  case piece3 =>
    idx_vars x
    obtain rfl : y0 = 3 := Fin.ext (by show y0.val = 3; omega)
    obtain rfl : y1 = 0 := Fin.ext (by show y1.val = 0; omega)
    obtain rfl : y2 = x2 := Fin.ext h2
    obtain rfl : x0 = 0 := Subsingleton.elim _ _
    obtain rfl : x1 = 0 := Subsingleton.elim _ _
    exact h30 y2
  case piece4 =>
    idx_vars x
    obtain rfl : y0 = 2 := Fin.ext (by show y0.val = 2; omega)
    obtain rfl : y1 = 3 := Fin.ext (by show y1.val = 3; omega)
    obtain rfl : y2 = x2 := Fin.ext h2
    obtain rfl : x0 = 0 := Subsingleton.elim _ _
    obtain rfl : x1 = 0 := Subsingleton.elim _ _
    exact h23 y2
  case piece5 =>
    idx_vars x
    obtain rfl : y0 = 2 := Fin.ext (by show y0.val = 2; omega)
    obtain rfl : y1 = 2 := Fin.ext (by show y1.val = 2; omega)
    obtain rfl : y2 = x2 := Fin.ext h2
    obtain rfl : x0 = 0 := Subsingleton.elim _ _
    obtain rfl : x1 = 0 := Subsingleton.elim _ _
    exact h22 y2
  case piece6 =>
    idx_vars x
    obtain rfl : y0 = 2 := Fin.ext (by show y0.val = 2; omega)
    obtain rfl : y1 = 1 := Fin.ext (by show y1.val = 1; omega)
    obtain rfl : y2 = x2 := Fin.ext h2
    obtain rfl : x0 = 0 := Subsingleton.elim _ _
    obtain rfl : x1 = 0 := Subsingleton.elim _ _
    exact h21 y2
  case piece7 =>
    idx_vars x
    obtain rfl : y0 = 2 := Fin.ext (by show y0.val = 2; omega)
    obtain rfl : y1 = 0 := Fin.ext (by show y1.val = 0; omega)
    obtain rfl : y2 = x2 := Fin.ext h2
    obtain rfl : x0 = 0 := Subsingleton.elim _ _
    obtain rfl : x1 = 0 := Subsingleton.elim _ _
    exact h20 y2
  case piece8 =>
    idx_vars x
    obtain rfl : y0 = 1 := Fin.ext (by show y0.val = 1; omega)
    obtain rfl : y1 = 3 := Fin.ext (by show y1.val = 3; omega)
    obtain rfl : y2 = x2 := Fin.ext h2
    obtain rfl : x0 = 0 := Subsingleton.elim _ _
    obtain rfl : x1 = 0 := Subsingleton.elim _ _
    exact h13 y2
  case piece9 =>
    idx_vars x
    obtain rfl : y0 = 1 := Fin.ext (by show y0.val = 1; omega)
    obtain rfl : y1 = 2 := Fin.ext (by show y1.val = 2; omega)
    obtain rfl : y2 = x2 := Fin.ext h2
    obtain rfl : x0 = 0 := Subsingleton.elim _ _
    obtain rfl : x1 = 0 := Subsingleton.elim _ _
    exact h12 y2
  case piece10 =>
    idx_vars x
    obtain rfl : y0 = 1 := Fin.ext (by show y0.val = 1; omega)
    obtain rfl : y1 = 1 := Fin.ext (by show y1.val = 1; omega)
    obtain rfl : y2 = x2 := Fin.ext h2
    obtain rfl : x0 = 0 := Subsingleton.elim _ _
    obtain rfl : x1 = 0 := Subsingleton.elim _ _
    exact h11 y2
  case piece11 =>
    idx_vars x
    obtain rfl : y0 = 1 := Fin.ext (by show y0.val = 1; omega)
    obtain rfl : y1 = 0 := Fin.ext (by show y1.val = 0; omega)
    obtain rfl : y2 = x2 := Fin.ext h2
    obtain rfl : x0 = 0 := Subsingleton.elim _ _
    obtain rfl : x1 = 0 := Subsingleton.elim _ _
    exact h10 y2
  case piece12 =>
    idx_vars x
    obtain rfl : y0 = 0 := Fin.ext (by show y0.val = 0; omega)
    obtain rfl : y1 = 3 := Fin.ext (by show y1.val = 3; omega)
    obtain rfl : y2 = x2 := Fin.ext h2
    obtain rfl : x0 = 0 := Subsingleton.elim _ _
    obtain rfl : x1 = 0 := Subsingleton.elim _ _
    exact h03 y2
  case piece13 =>
    idx_vars x
    obtain rfl : y0 = 0 := Fin.ext (by show y0.val = 0; omega)
    obtain rfl : y1 = 2 := Fin.ext (by show y1.val = 2; omega)
    obtain rfl : y2 = x2 := Fin.ext h2
    obtain rfl : x0 = 0 := Subsingleton.elim _ _
    obtain rfl : x1 = 0 := Subsingleton.elim _ _
    exact h02 y2
  case piece14 =>
    idx_vars x
    obtain rfl : y0 = 0 := Fin.ext (by show y0.val = 0; omega)
    obtain rfl : y1 = 1 := Fin.ext (by show y1.val = 1; omega)
    obtain rfl : y2 = x2 := Fin.ext h2
    obtain rfl : x0 = 0 := Subsingleton.elim _ _
    obtain rfl : x1 = 0 := Subsingleton.elim _ _
    exact h01 y2
  case piece15 =>
    idx_vars x
    obtain rfl : y0 = 0 := Fin.ext (by show y0.val = 0; omega)
    obtain rfl : y1 = 0 := Fin.ext (by show y1.val = 0; omega)
    obtain rfl : y2 = x2 := Fin.ext h2
    obtain rfl : x0 = 0 := Subsingleton.elim _ _
    obtain rfl : x1 = 0 := Subsingleton.elim _ _
    exact h00 y2

set_option maxHeartbeats 4000000 in
/-- The four stores of one block for each sequence leave in the block what each of them stores. -/
theorem tiles_rows {e : EltTy} {Val : EltTy → Type} [∀ e, Nonempty (Val e)]
    (w3 w2 w1 w0 : S1x32x512.Idx → Val e) (L : List (View.Piece Val S4x32x512 e)) (G : S4x32x512.Idx → Val e) (i3 : ∀ a, (![3, 0, 0] : Fin S4x32x512.rank → ℕ) a + S1x32x512.size a ≤ S4x32x512.size a) (i2 : ∀ a, (![2, 0, 0] : Fin S4x32x512.rank → ℕ) a + S1x32x512.size a ≤ S4x32x512.size a) (i1 : ∀ a, (![1, 0, 0] : Fin S4x32x512.rank → ℕ) a + S1x32x512.size a ≤ S4x32x512.size a) (i0 : ∀ a, (![0, 0, 0] : Fin S4x32x512.rank → ℕ) a + S1x32x512.size a ≤ S4x32x512.size a)
    (p3 : ∀ x0 x1, w3 (ix3 0 x0 x1) = G (ix3 3 x0 x1))
    (p2 : ∀ x0 x1, w2 (ix3 0 x0 x1) = G (ix3 2 x0 x1))
    (p1 : ∀ x0 x1, w1 (ix3 0 x0 x1) = G (ix3 1 x0 x1))
    (p0 : ∀ x0 x1, w0 (ix3 0 x0 x1) = G (ix3 0 x0 x1))
    (y : S4x32x512.Idx) :
    View.canon (⟨Rect.unit (s := S4x32x512) ![3, 0, 0] (no_index S1x32x512.size) i3, w3⟩ :: ⟨Rect.unit (s := S4x32x512) ![2, 0, 0] (no_index S1x32x512.size) i2, w2⟩ :: ⟨Rect.unit (s := S4x32x512) ![1, 0, 0] (no_index S1x32x512.size) i1, w1⟩ :: ⟨Rect.unit (s := S4x32x512) ![0, 0, 0] (no_index S1x32x512.size) i0, w0⟩ :: L) y = G y := by
  idx_vars y
  refine (canon_drop L _ [_, _, _, _] (View.cover_of_tiled_head _ _ _ (by sl_kernel_rfl) _)).trans ?_
  canon_tiles x h using (View.cover_of_tiled_head _ _ _ (by sl_kernel_rfl) _)
  case piece0 =>
    idx_vars x
    obtain rfl : y0 = 3 := Fin.ext (by show y0.val = 3; omega)
    obtain rfl : y1 = x1 := Fin.ext h1
    obtain rfl : y2 = x2 := Fin.ext h2
    obtain rfl : x0 = 0 := Subsingleton.elim _ _
    exact p3 y1 y2
  case piece1 =>
    idx_vars x
    obtain rfl : y0 = 2 := Fin.ext (by show y0.val = 2; omega)
    obtain rfl : y1 = x1 := Fin.ext h1
    obtain rfl : y2 = x2 := Fin.ext h2
    obtain rfl : x0 = 0 := Subsingleton.elim _ _
    exact p2 y1 y2
  case piece2 =>
    idx_vars x
    obtain rfl : y0 = 1 := Fin.ext (by show y0.val = 1; omega)
    obtain rfl : y1 = x1 := Fin.ext h1
    obtain rfl : y2 = x2 := Fin.ext h2
    obtain rfl : x0 = 0 := Subsingleton.elim _ _
    exact p1 y1 y2
  case piece3 =>
    idx_vars x
    obtain rfl : y0 = 0 := Fin.ext (by show y0.val = 0; omega)
    obtain rfl : y1 = x1 := Fin.ext h1
    obtain rfl : y2 = x2 := Fin.ext h2
    obtain rfl : x0 = 0 := Subsingleton.elim _ _
    exact p0 y1 y2

set_option maxHeartbeats 4000000 in
/-- The four stores of one block for each sequence leave in the block what each of them stores. -/
theorem tiles_tail {e : EltTy} {Val : EltTy → Type} [∀ e, Nonempty (Val e)]
    (w3 w2 w1 w0 : S1x8x512.Idx → Val e) (L : List (View.Piece Val S4x8x512 e)) (G : S4x8x512.Idx → Val e) (i3 : ∀ a, (![3, 0, 0] : Fin S4x8x512.rank → ℕ) a + S1x8x512.size a ≤ S4x8x512.size a) (i2 : ∀ a, (![2, 0, 0] : Fin S4x8x512.rank → ℕ) a + S1x8x512.size a ≤ S4x8x512.size a) (i1 : ∀ a, (![1, 0, 0] : Fin S4x8x512.rank → ℕ) a + S1x8x512.size a ≤ S4x8x512.size a) (i0 : ∀ a, (![0, 0, 0] : Fin S4x8x512.rank → ℕ) a + S1x8x512.size a ≤ S4x8x512.size a)
    (p3 : ∀ x0 x1, w3 (ix3 0 x0 x1) = G (ix3 3 x0 x1))
    (p2 : ∀ x0 x1, w2 (ix3 0 x0 x1) = G (ix3 2 x0 x1))
    (p1 : ∀ x0 x1, w1 (ix3 0 x0 x1) = G (ix3 1 x0 x1))
    (p0 : ∀ x0 x1, w0 (ix3 0 x0 x1) = G (ix3 0 x0 x1))
    (y : S4x8x512.Idx) :
    View.canon (⟨Rect.unit (s := S4x8x512) ![3, 0, 0] (no_index S1x8x512.size) i3, w3⟩ :: ⟨Rect.unit (s := S4x8x512) ![2, 0, 0] (no_index S1x8x512.size) i2, w2⟩ :: ⟨Rect.unit (s := S4x8x512) ![1, 0, 0] (no_index S1x8x512.size) i1, w1⟩ :: ⟨Rect.unit (s := S4x8x512) ![0, 0, 0] (no_index S1x8x512.size) i0, w0⟩ :: L) y = G y := by
  idx_vars y
  refine (canon_drop L _ [_, _, _, _] (View.cover_of_tiled_head _ _ _ (by sl_kernel_rfl) _)).trans ?_
  canon_tiles x h using (View.cover_of_tiled_head _ _ _ (by sl_kernel_rfl) _)
  case piece0 =>
    idx_vars x
    obtain rfl : y0 = 3 := Fin.ext (by show y0.val = 3; omega)
    obtain rfl : y1 = x1 := Fin.ext h1
    obtain rfl : y2 = x2 := Fin.ext h2
    obtain rfl : x0 = 0 := Subsingleton.elim _ _
    exact p3 y1 y2
  case piece1 =>
    idx_vars x
    obtain rfl : y0 = 2 := Fin.ext (by show y0.val = 2; omega)
    obtain rfl : y1 = x1 := Fin.ext h1
    obtain rfl : y2 = x2 := Fin.ext h2
    obtain rfl : x0 = 0 := Subsingleton.elim _ _
    exact p2 y1 y2
  case piece2 =>
    idx_vars x
    obtain rfl : y0 = 1 := Fin.ext (by show y0.val = 1; omega)
    obtain rfl : y1 = x1 := Fin.ext h1
    obtain rfl : y2 = x2 := Fin.ext h2
    obtain rfl : x0 = 0 := Subsingleton.elim _ _
    exact p1 y1 y2
  case piece3 =>
    idx_vars x
    obtain rfl : y0 = 0 := Fin.ext (by show y0.val = 0; omega)
    obtain rfl : y1 = x1 := Fin.ext h1
    obtain rfl : y2 = x2 := Fin.ext h2
    obtain rfl : x0 = 0 := Subsingleton.elim _ _
    exact p0 y1 y2

open Cert.Mixers.Ref

/-- The rotated rows are the rope of each row, when the tables hold the cosines twice and the sines with the first half negated. -/
theorem rotV_at (x cos sin : Vec Ideal S32x128 .f32) (c s : Fin 32 → Fin 64 → EReal)
    (hc : ∀ (i : Fin 32) (d : Fin 128), cos (ix2 i d) = if h : d.val < 64 then c i ⟨d.val, h⟩ else c i ⟨d.val - 64, by omega⟩)
    (hs : ∀ (i : Fin 32) (d : Fin 128), sin (ix2 i d) = if h : d.val < 64 then -(s i ⟨d.val, h⟩) else s i ⟨d.val - 64, by omega⟩)
    (j : S32x128.Idx) : rotV x cos sin j = rope (fun l => x (ix2 (j 0) l)) (c (j 0)) (s (j 0)) (j 1) := by
  idx_vars j
  pointwise [rotV]
  rw [hc, hs]
  unfold rope
  by_cases h : j1.val < 64
  · have e : (⟨(j1.val + 128 - 64) % 128, by omega⟩ : Fin 128) = ⟨64 + j1.val, by omega⟩ := Fin.ext (by show (j1.val + 128 - 64) % 128 = 64 + j1.val; omega)
    rw [dif_pos h, dif_pos h, dif_pos h, e, mul_neg, ← sub_eq_add_neg]
  · have e : (⟨(j1.val + 128 - 64) % 128, by omega⟩ : Fin 128) = ⟨j1.val - 64, by omega⟩ := Fin.ext (by show (j1.val + 128 - 64) % 128 = j1.val - 64; omega)
    have e' : (⟨64 + (j1.val - 64), by omega⟩ : Fin 128) = j1 := Fin.ext (by show 64 + (j1.val - 64) = j1.val; omega)
    rw [dif_neg h, dif_neg h, dif_neg h, e, add_comm]
    exact congrArg (fun z => x (ix2 j0 ⟨j1.val - 64, by omega⟩) * s j0 ⟨j1.val - 64, by omega⟩ + x (ix2 j0 z) * c j0 ⟨j1.val - 64, by omega⟩) e'.symm

/-- The keys are the scaled rope of each row. -/
theorem keyV_at (x cos sin : Vec Ideal S32x128 .f32) (c s : Fin 32 → Fin 64 → EReal)
    (hc : ∀ (i : Fin 32) (d : Fin 128), cos (ix2 i d) = if h : d.val < 64 then c i ⟨d.val, h⟩ else c i ⟨d.val - 64, by omega⟩)
    (hs : ∀ (i : Fin 32) (d : Fin 128), sin (ix2 i d) = if h : d.val < 64 then -(s i ⟨d.val, h⟩) else s i ⟨d.val - 64, by omega⟩)
    (j : S32x128.Idx) : keyV x cos sin j = rope (fun l => x (ix2 (j 0) l)) (c (j 0)) (s (j 0)) (j 1) * Ideal.ofBits .f32 0x3DB504F3#32 := by
  idx_vars j
  pointwise [keyV]
  rw [rotV_at x cos sin c s hc hs]
  rfl

/-! ### A block read at an index named another way -/

/-- An entry of the retention input's block, at a column named another way. -/
theorem read0 (c : Dev nD) (t : Fin cfg0.N) (b : Fin 4) (s : Fin 32) (l l' : Fin 2048) (h : l.val = l'.val) :
    iblk m c 0 t (ix3 b s l) = (m ((c : Thread nD τ).loc main_arg0)) (ix3 (sq t b) s l') := by
  obtain rfl := Fin.ext h
  exact at0 m c t b s l
/-- An entry of the mLSTM input's block, at a column named another way. -/
theorem read1 (c : Dev nD) (t : Fin cfg0.N) (b : Fin 4) (s : Fin 32) (l l' : Fin 1536) (h : l.val = l'.val) :
    iblk m c 1 t (ix3 b s l) = (m ((c : Thread nD τ).loc main_arg1)) (ix3 (sq t b) s l') := by
  obtain rfl := Fin.ext h
  exact at1 m c t b s l
/-- An entry of the gates' block, at a column named another way. -/
theorem read2 (c : Dev nD) (t : Fin cfg0.N) (b : Fin 4) (s : Fin 32) (l l' : Fin 128) (h : l.val = l'.val) :
    iblk m c 2 t (ix3 b s l) = (m ((c : Thread nD τ).loc main_arg2)) (ix3 (sq t b) s l') := by
  obtain rfl := Fin.ext h
  exact at2 m c t b s l

/-! ### One head's stored piece -/

/-- A head's retention state depends only on its inputs' entries. -/
theorem retS_congr {a a' g g' : EReal} {k k' v v' : Fin 32 → Fin 128 → EReal} {S S' : Fin 128 → Fin 128 → EReal}
    (ha : a = a') (hg : g = g') (hk : ∀ s d, k s d = k' s d) (hv : ∀ s d, v s d = v' s d) (hS : ∀ d e, S d e = S' d e) (d e : Fin 128) :
    retS a g k v S d e = retS a' g' k' v' S' d e := by
  obtain rfl := ha; obtain rfl := hg
  obtain rfl : k = k' := funext fun s => funext (hk s)
  obtain rfl : v = v' := funext fun s => funext (hv s)
  obtain rfl : S = S' := funext fun s => funext (hS s)
  rfl

/-- A head's stored retention state, entry by entry. -/
theorem retS_piece (a g : Ideal .f32) (k v : Vec Ideal S32x128 .f32) (S : Vec Ideal S128x128 .f32) (i0 i1 : Fin 1) (d e : Fin 128) :
    shapeCast S1x1x128x128 (retSV a g k v S) shapeCasts_S128x128_S1x1x128x128 (ix4 i0 i1 d e)
      = retS a g (fun s d => k (ix2 s d)) (fun s d => v (ix2 s d)) (fun d e => S (ix2 d e)) d e := by
  obtain rfl : i0 = 0 := Subsingleton.elim _ _
  obtain rfl : i1 = 0 := Subsingleton.elim _ _
  pointwise
  exact retSV_at a g k v S _

/-- A head's matrix state depends only on its inputs' entries. -/
theorem mlC_congr {k k' v v' : Fin 32 → Fin 128 → EReal} {ig ig' f f' : Fin 32 → EReal} {m m' : EReal} {C C' : Fin 128 → Fin 128 → EReal}
    (hk : ∀ s d, k s d = k' s d) (hv : ∀ s d, v s d = v' s d) (hi : ∀ s, ig s = ig' s) (hf : ∀ s, f s = f' s) (hm : m = m')
    (hC : ∀ d e, C d e = C' d e) (d e : Fin 128) : mlC k v ig f m C d e = mlC k' v' ig' f' m' C' d e := by
  obtain rfl := hm
  obtain rfl : k = k' := funext fun s => funext (hk s)
  obtain rfl : v = v' := funext fun s => funext (hv s)
  obtain rfl : C = C' := funext fun s => funext (hC s)
  obtain rfl : ig = ig' := funext hi
  obtain rfl : f = f' := funext hf
  rfl

/-- A head's stored matrix state, entry by entry. -/
theorem mlC_piece (igr fr : Vec Ideal S1x32 .f32) (igc fc : Vec Ideal S32x1 .f32) (m : Vec Ideal S1x1 .f32)
    (k v : Vec Ideal S32x128 .f32) (C : Vec Ideal S128x128 .f32) (hi : ∀ s, igc (ix2 s 0) = igr (ix2 0 s))
    (hf : ∀ s, fr (ix2 0 s) = fc (ix2 s 0)) (i0 i1 : Fin 1) (d e : Fin 128) :
    shapeCast S1x1x128x128 (mlCV igr fr igc fc m k v C) shapeCasts_S128x128_S1x1x128x128 (ix4 i0 i1 d e)
      = mlC (fun s d => k (ix2 s d)) (fun s d => v (ix2 s d)) (fun s => igr (ix2 0 s)) (fun s => fc (ix2 s 0)) (m (ix2 0 0))
        (fun d e => C (ix2 d e)) d e := by
  obtain rfl : i0 = 0 := Subsingleton.elim _ _
  obtain rfl : i1 = 0 := Subsingleton.elim _ _
  pointwise
  exact mlCV_at igr fr igc fc m k v C hi hf _

/-- A head's normaliser depends only on its inputs' entries. -/
theorem mlN_congr {k k' : Fin 32 → Fin 128 → EReal} {ig ig' f f' : Fin 32 → EReal} {m m' : EReal} {n n' : Fin 128 → EReal}
    (hk : ∀ s d, k s d = k' s d) (hi : ∀ s, ig s = ig' s) (hf : ∀ s, f s = f' s) (hm : m = m')
    (hn : ∀ d, n d = n' d) (d : Fin 128) : mlN k ig f m n d = mlN k' ig' f' m' n' d := by
  obtain rfl := hm
  obtain rfl : k = k' := funext fun s => funext (hk s)
  obtain rfl : n = n' := funext hn
  obtain rfl : ig = ig' := funext hi
  obtain rfl : f = f' := funext hf
  rfl

/-- A head's stored normaliser, entry by entry. -/
theorem mlN_piece (igr fr : Vec Ideal S1x32 .f32) (igc fc : Vec Ideal S32x1 .f32) (m : Vec Ideal S1x1 .f32)
    (k : Vec Ideal S32x128 .f32) (n : Vec Ideal S1x128 .f32) (hi : ∀ s, igc (ix2 s 0) = igr (ix2 0 s))
    (hf : ∀ s, fr (ix2 0 s) = fc (ix2 s 0)) (i0 i1 : Fin 1) (d : Fin 128) :
    shapeCast S1x1x128 (mlNV igr fr igc fc m k n) shapeCasts_S1x128_S1x1x128 (ix3 i0 i1 d)
      = mlN (fun s d => k (ix2 s d)) (fun s => igr (ix2 0 s)) (fun s => fc (ix2 s 0)) (m (ix2 0 0))
        (fun d => n (ix2 0 d)) d := by
  obtain rfl : i0 = 0 := Subsingleton.elim _ _
  obtain rfl : i1 = 0 := Subsingleton.elim _ _
  pointwise
  exact mlNV_at igr fr igc fc m k n hi hf _

/-- A head's stabiliser depends only on its inputs' entries. -/
theorem stab_congr {ig ig' f f' : Fin 32 → EReal} {m m' : EReal} (hi : ∀ s, ig s = ig' s) (hf : ∀ s, f s = f' s) (hm : m = m')
    (i : Fin 32) : stab ig f m i = stab ig' f' m' i := by
  obtain rfl := hm
  obtain rfl : ig = ig' := funext hi
  obtain rfl : f = f' := funext hf
  rfl

/-- A head's stored stabiliser: the one at the last position, on every lane. -/
theorem stab_piece (igr fr : Vec Ideal S1x32 .f32) (fc : Vec Ideal S32x1 .f32) (m : Vec Ideal S1x1 .f32)
    (hf : ∀ s, fr (ix2 0 s) = fc (ix2 s 0)) (i0 i1 : Fin 1) (d : Fin 128) :
    shapeCast S1x1x128 (broadcastTo S1x128 (shapeCast S1x1 (lastV (stabV igr fr fc m)) shapeCasts_S1x1_S1x1)
        broadcasts_S1x1_S1x128) shapeCasts_S1x128_S1x1x128 (ix3 i0 i1 d)
      = stab (fun s => igr (ix2 0 s)) (fun s => fc (ix2 s 0)) (m (ix2 0 0)) 31 := by
  obtain rfl : i0 = 0 := Subsingleton.elim _ _
  obtain rfl : i1 = 0 := Subsingleton.elim _ _
  pointwise [lastV]
  exact stabV_at igr fr fc m hf _

/-- A head's mLSTM output depends only on its inputs' entries. -/
theorem mlO_congr {q q' k k' v v' : Fin 32 → Fin 128 → EReal} {ig ig' f f' : Fin 32 → EReal} {m m' : EReal} {C C' : Fin 128 → Fin 128 → EReal}
    {n n' : Fin 128 → EReal} (hq : ∀ s d, q s d = q' s d)
    (hk : ∀ s d, k s d = k' s d) (hv : ∀ s d, v s d = v' s d) (hi : ∀ s, ig s = ig' s) (hf : ∀ s, f s = f' s) (hm : m = m')
    (hC : ∀ d e, C d e = C' d e) (hn : ∀ d, n d = n' d) (s : Fin 32) (d : Fin 128) :
    mlO q k v ig f m C n s d = mlO q' k' v' ig' f' m' C' n' s d := by
  obtain rfl := hm
  obtain rfl : q = q' := funext fun s => funext (hq s)
  obtain rfl : k = k' := funext fun s => funext (hk s)
  obtain rfl : v = v' := funext fun s => funext (hv s)
  obtain rfl : C = C' := funext fun s => funext (hC s)
  obtain rfl : n = n' := funext hn
  obtain rfl : ig = ig' := funext hi
  obtain rfl : f = f' := funext hf
  rfl

/-- A head's retention output depends only on its inputs' entries. -/
theorem retO_congr {a a' : EReal} {q q' k k' v v' : Fin 32 → Fin 128 → EReal} {S S' : Fin 128 → Fin 128 → EReal} (ha : a = a')
    (hq : ∀ s d, q s d = q' s d) (hk : ∀ s d, k s d = k' s d) (hv : ∀ s d, v s d = v' s d) (hS : ∀ d e, S d e = S' d e)
    (s : Fin 32) (d : Fin 128) : retO a q k v S s d = retO a' q' k' v' S' s d := by
  obtain rfl := ha
  obtain rfl : q = q' := funext fun s => funext (hq s)
  obtain rfl : k = k' := funext fun s => funext (hk s)
  obtain rfl : v = v' := funext fun s => funext (hv s)
  obtain rfl : S = S' := funext fun s => funext (hS s)
  rfl

end Cert.Mixers
-- ==== Proof.MixersFold.lean ====
/- Names for the stages that every head of the token mixers' body shares, and each of them entry by entry. -/
module

public import proofs.«01_k».proof.Defs
public import proofs.«01_k».proof.Proof.MixersValue
public import proofs.«01_k».proof.Proof.MixersCore
public import proofs.«01_k».proof.Proof.MixersRef
public import proofs.«01_k».proof.Proof.MixersHost
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Mixers.Ref

/-! ### The launch's own stages of the gates and the convolution -/

/-- The rows of the block before, in front of this block's. -/
def tailV (a : FVec Ideal S8x512 .f32) (x : FVec Ideal S32x512 .f32) : FVec Ideal S40x512 .f32 :=
  concatenate S40x512 0 [⟨S8x512, a⟩, ⟨S32x512, x⟩] concatenates_S8x512_S32x512_S40x512_d0

/-- The log sigmoid of every gate. -/
def lsigV (x : FVec Ideal S32x128 .f32) : FVec Ideal S32x128 .f32 :=
  subf (broadcast S32x128 (FloatOps.ofBits .f32 0#32 : Ideal .f32))
    (select (cmpf CmpFPredicate.one
        (subf (subf (broadcast S32x128 (FloatOps.ofBits .f32 0#32 : Ideal .f32)) x) (broadcast S32x128 (FloatOps.ofBits .f32 0#32 : Ideal .f32)))
        (subf (subf (broadcast S32x128 (FloatOps.ofBits .f32 0#32 : Ideal .f32)) x) (broadcast S32x128 (FloatOps.ofBits .f32 0#32 : Ideal .f32))))
      (addf (subf (broadcast S32x128 (FloatOps.ofBits .f32 0#32 : Ideal .f32)) x) (broadcast S32x128 (FloatOps.ofBits .f32 0#32 : Ideal .f32)))
      (addf (maximumf (subf (broadcast S32x128 (FloatOps.ofBits .f32 0#32 : Ideal .f32)) x) (broadcast S32x128 (FloatOps.ofBits .f32 0#32 : Ideal .f32)))
        (log1p (exp (subf (broadcast S32x128 (FloatOps.ofBits .f32 0#32 : Ideal .f32))
          (absf (subf (subf (broadcast S32x128 (FloatOps.ofBits .f32 0#32 : Ideal .f32)) x) (broadcast S32x128 (FloatOps.ofBits .f32 0#32 : Ideal .f32)))))))))

/-- The running sum down each column, as a product with a triangle of ones. -/
def cumV (x : FVec Ideal S32x128 .f32) : FVec Ideal S32x128 .f32 :=
  matmul (φ₂ := .f32) dot_S32x32_S32x128_S32x128_1_0_0_1_n_n (some ContractPrecision.fp32) (k0_pay9 (F := Ideal)) x (constant S32x128 .f32 0#32)

/-- Four heads side by side. -/
def catV (a b c d : FVec Ideal S32x128 .f32) : FVec Ideal S32x512 .f32 :=
  concatenate S32x512 1 [⟨S32x128, a⟩, ⟨S32x128, b⟩, ⟨S32x128, c⟩, ⟨S32x128, d⟩] concatenates_S32x128_S32x128_S32x128_S32x128_S32x512_d1

theorem cat_fold (a b c d : FVec Ideal S32x128 .f32) (h : Shape.Concatenates [S32x128, S32x128, S32x128, S32x128] S32x512 1) :
    concatenate S32x512 1 [⟨S32x128, a⟩, ⟨S32x128, b⟩, ⟨S32x128, c⟩, ⟨S32x128, d⟩] h = catV a b c d := rfl

theorem pad_fold (x : FVec Ideal S32x128 .f32) (h : Shape.Concatenates [S32x128, S96x128] S128x128 0) :
    concatenate S128x128 0 [⟨S32x128, x⟩, ⟨S96x128, broadcast S96x128 (FloatOps.ofBits .f32 0#32 : Ideal .f32)⟩] h = padV x := rfl

theorem tail_fold (a : FVec Ideal S8x512 .f32) (x : FVec Ideal S32x512 .f32) (h : Shape.Concatenates [S8x512, S32x512] S40x512 0) :
    concatenate S40x512 0 [⟨S8x512, a⟩, ⟨S32x512, x⟩] h = tailV a x := rfl

theorem lsig_fold (x : FVec Ideal S32x128 .f32) :
    subf (broadcast S32x128 (FloatOps.ofBits .f32 0#32 : Ideal .f32))
      (select (cmpf CmpFPredicate.one
          (subf (subf (broadcast S32x128 (FloatOps.ofBits .f32 0#32 : Ideal .f32)) x) (broadcast S32x128 (FloatOps.ofBits .f32 0#32 : Ideal .f32)))
          (subf (subf (broadcast S32x128 (FloatOps.ofBits .f32 0#32 : Ideal .f32)) x) (broadcast S32x128 (FloatOps.ofBits .f32 0#32 : Ideal .f32))))
        (addf (subf (broadcast S32x128 (FloatOps.ofBits .f32 0#32 : Ideal .f32)) x) (broadcast S32x128 (FloatOps.ofBits .f32 0#32 : Ideal .f32)))
        (addf (maximumf (subf (broadcast S32x128 (FloatOps.ofBits .f32 0#32 : Ideal .f32)) x) (broadcast S32x128 (FloatOps.ofBits .f32 0#32 : Ideal .f32)))
          (log1p (exp (subf (broadcast S32x128 (FloatOps.ofBits .f32 0#32 : Ideal .f32))
            (absf (subf (subf (broadcast S32x128 (FloatOps.ofBits .f32 0#32 : Ideal .f32)) x) (broadcast S32x128 (FloatOps.ofBits .f32 0#32 : Ideal .f32)))))))))
      = lsigV x := rfl

theorem cum_fold (x : FVec Ideal S32x128 .f32) :
    matmul (φ₂ := .f32) dot_S32x32_S32x128_S32x128_1_0_0_1_n_n (some ContractPrecision.fp32) (select (cmpi CmpIPredicate.sge (iota Kind.tc S32x32 32 [0] iota_S32x32_d0_w32) (iota Kind.tc S32x32 32 [1] iota_S32x32_d1_w32))
        (broadcast S32x32 (FloatOps.ofBits .f32 1065353216#32 : Ideal .f32)) (broadcast S32x32 (FloatOps.ofBits .f32 0#32 : Ideal .f32))) x (constant S32x128 .f32 0#32)
      = cumV x := rfl

/-- The causal convolution: a bias and four shifted rows, each scaled by its tap. -/
def convV (bias w0 w1 w2 w3 : FVec Ideal S1x512 .f32) (a : FVec Ideal S8x512 .f32) (x : FVec Ideal S32x512 .f32) : FVec Ideal S32x512 .f32 :=
  (addf (addf (addf (addf (broadcastTo S32x512 bias broadcasts_S1x512_S32x512) (mulf (extractStridedSlice S32x512 ![5, 0] (tailV a x) slices_S40x512_o5_0_S32x512) (broadcastTo S32x512 w0 broadcasts_S1x512_S32x512))) (mulf (extractStridedSlice S32x512 ![6, 0] (tailV a x) slices_S40x512_o6_0_S32x512) (broadcastTo S32x512 w1 broadcasts_S1x512_S32x512))) (mulf (extractStridedSlice S32x512 ![7, 0] (tailV a x) slices_S40x512_o7_0_S32x512) (broadcastTo S32x512 w2 broadcasts_S1x512_S32x512))) (mulf (extractStridedSlice S32x512 ![8, 0] (tailV a x) slices_S40x512_o8_0_S32x512) (broadcastTo S32x512 w3 broadcasts_S1x512_S32x512)))

/-- The convolution with its activation. -/
def actV (bias w0 w1 w2 w3 : FVec Ideal S1x512 .f32) (a : FVec Ideal S8x512 .f32) (x : FVec Ideal S32x512 .f32) : FVec Ideal S32x512 .f32 :=
  mulf (convV bias w0 w1 w2 w3 a x) (logistic (convV bias w0 w1 w2 w3 a x))

theorem conv_fold (bias w0 w1 w2 w3 : FVec Ideal S1x512 .f32) (a : FVec Ideal S8x512 .f32) (x : FVec Ideal S32x512 .f32) (hb : S1x512.Broadcasts S32x512) (h0 : S40x512.Slices ![5, 0] S32x512) (h1 : S40x512.Slices ![6, 0] S32x512)
    (h2 : S40x512.Slices ![7, 0] S32x512) (h3 : S40x512.Slices ![8, 0] S32x512) :
    (addf (addf (addf (addf (broadcastTo S32x512 bias hb) (mulf (extractStridedSlice S32x512 ![5, 0] (tailV a x) h0) (broadcastTo S32x512 w0 hb))) (mulf (extractStridedSlice S32x512 ![6, 0] (tailV a x) h1) (broadcastTo S32x512 w1 hb))) (mulf (extractStridedSlice S32x512 ![7, 0] (tailV a x) h2) (broadcastTo S32x512 w2 hb))) (mulf (extractStridedSlice S32x512 ![8, 0] (tailV a x) h3) (broadcastTo S32x512 w3 hb))) = convV bias w0 w1 w2 w3 a x := rfl

theorem act_fold (bias w0 w1 w2 w3 : FVec Ideal S1x512 .f32) (a : FVec Ideal S8x512 .f32) (x : FVec Ideal S32x512 .f32) :
    mulf (convV bias w0 w1 w2 w3 a x) (logistic (convV bias w0 w1 w2 w3 a x)) = actV bias w0 w1 w2 w3 a x := rfl

/-- A lane of four heads side by side is a place in one head. -/
theorem catV_at (a b c d : FVec Ideal S32x128 .f32) (s : Fin 32) (g : Fin 4 → Fin 128 → EReal)
    (h0 : ∀ e, a (ix2 s e) = g 0 e) (h1 : ∀ e, b (ix2 s e) = g 1 e) (h2 : ∀ e, c (ix2 s e) = g 2 e) (h3 : ∀ e, d (ix2 s e) = g 3 e)
    (l : Fin 512) : catV a b c d (ix2 s l) = g (hOf l) (dOf l) := by
  pointwise [catV]
  by_cases p0 : l.val < 128
  · rw [dif_pos p0, h0]
    exact congrArg₂ g (Fin.ext (by show 0 = l.val / 128; omega)) (Fin.ext (by show l.val = l.val % 128; omega))
  rw [dif_neg p0]
  by_cases p1 : l.val - 128 < 128
  · rw [dif_pos p1, h1]
    exact congrArg₂ g (Fin.ext (by show 1 = l.val / 128; omega)) (Fin.ext (by show l.val - 128 = l.val % 128; omega))
  rw [dif_neg p1]
  by_cases p2 : l.val - 128 - 128 < 128
  · rw [dif_pos p2, h2]
    exact congrArg₂ g (Fin.ext (by show 2 = l.val / 128; omega)) (Fin.ext (by show l.val - 128 - 128 = l.val % 128; omega))
  rw [dif_neg p2, h3]
  exact congrArg₂ g (Fin.ext (by show 3 = l.val / 128; omega)) (Fin.ext (by show l.val - 128 - 128 - 128 = l.val % 128; omega))

/-- The log sigmoid, entry by entry. -/
theorem lsigV_at (x : FVec Ideal S32x128 .f32) (j : S32x128.Idx) : lsigV x j = lsig (x j) := by
  pointwise [lsigV, lsig]
  simp only [ne_eq, not_true_eq_false, if_false, zero_sub]

/-- The running sum of the log sigmoids, entry by entry. -/
theorem cumV_at (x : FVec Ideal S32x128 .f32) (i : Fin 32) (l : Fin 128) :
    cumV (lsigV x) (ix2 i l) = fsum (fun s => x (ix2 s l)) i := by
  pointwise [cumV, k0_pay9, k0_pay7, fsum]
  refine Finset.sum_congr rfl fun s _ => ?_
  rw [select_sge, lsigV_at]

/-- A row of the extended block is a row of the reference's extended sequence. -/
theorem tailV_at (a : FVec Ideal S8x512 .f32) (x : FVec Ideal S32x512 .f32) (x1 : Vec Ideal S16x32x1536 .f32) (x7 : Vec Ideal S16x3x512 .f32)
    (b : Fin 16) (ha : ∀ (p : Fin 3) d, a (ix2 ⟨5 + p.val, by omega⟩ d) = x7 (ix3 b p d))
    (hx : ∀ s d, x (ix2 s d) = x1 (ix3 b s ⟨d.val, by omega⟩)) (p : Fin 40) (d : Fin 512) (q : ℕ) (hq : q < 35) (e : p.val = 5 + q) :
    tailV a x (ix2 p d) = xc x1 x7 b d q hq := by
  pointwise [tailV]
  unfold xc
  by_cases h : q < 3
  · rw [dif_pos (by omega), dif_pos h, ← ha ⟨q, h⟩ d]
    exact congrArg (fun z => a (ix2 z d)) (Fin.ext e)
  · rw [dif_neg (by omega), dif_neg h, hx]
    exact congrArg (fun z => x1 (ix3 b z ⟨d.val, by omega⟩)) (Fin.ext (by show p.val - 8 = q - 3; omega))

/-- The convolution with its activation is the reference's, entry by entry. -/
theorem actV_at (bias w0 w1 w2 w3 : FVec Ideal S1x512 .f32) (a : FVec Ideal S8x512 .f32) (x : FVec Ideal S32x512 .f32) (x1 : Vec Ideal S16x32x1536 .f32)
    (x7 : Vec Ideal S16x3x512 .f32) (x11 : Vec Ideal S4x512 .f32) (x12 : Vec Ideal S512 .f32) (b : Fin 16)
    (h : ∀ d, bias (ix2 0 d) = x12 (ix1 d)) (h0 : ∀ d, w0 (ix2 0 d) = x11 (ix2 0 d)) (h1 : ∀ d, w1 (ix2 0 d) = x11 (ix2 1 d))
    (h2 : ∀ d, w2 (ix2 0 d) = x11 (ix2 2 d)) (h3 : ∀ d, w3 (ix2 0 d) = x11 (ix2 3 d))
    (ha : ∀ (p : Fin 3) d, a (ix2 ⟨5 + p.val, by omega⟩ d) = x7 (ix3 b p d))
    (hx : ∀ s d, x (ix2 s d) = x1 (ix3 b s ⟨d.val, by omega⟩)) (s : Fin 32) (d : Fin 512) :
    actV bias w0 w1 w2 w3 a x (ix2 s d) = act x1 x7 x11 x12 b s d := by
  have key : convV bias w0 w1 w2 w3 a x (ix2 s d) = conv x1 x7 x11 x12 b s d := by
    pointwise [convV]
    rw [h, h0, h1, h2, h3, tailV_at a x x1 x7 b ha hx _ d s.val (by omega) (by dsimp only), tailV_at a x x1 x7 b ha hx _ d (1 + s.val) (by omega) (by dsimp only; omega),
      tailV_at a x x1 x7 b ha hx _ d (2 + s.val) (by omega) (by dsimp only; omega), tailV_at a x x1 x7 b ha hx _ d (3 + s.val) (by omega) (by dsimp only; omega)]
    unfold conv
    have q : xc x1 x7 b d (3 + s.val) (by omega) = x1 (ix3 b s ⟨d.val, by omega⟩) := by
      unfold xc
      rw [dif_neg (by omega)]
      exact congrArg (fun z => x1 (ix3 b z ⟨d.val, by omega⟩)) (Fin.ext (by show 3 + s.val - 3 = s.val; omega))
    rw [q]
  pointwise [actV]
  rw [key]
  rfl

/-- Column 0 of the gates is row 0 of their padded transpose. -/
theorem row_col0 (x : FVec Ideal S32x128 .f32) (h1 : S32x128.Slices ![0, 0] S32x1) (h2 : S128x128.Transposes [1, 0] S128x128)
    (h3 : S128x128.Slices ![0, 0] S1x32) (s : Fin 32) : extractStridedSlice S32x1 ![0, 0] x h1 (ix2 s 0)
      = extractStridedSlice S1x32 ![0, 0] (transpose S128x128 [1, 0] (padV x) h2) h3 (ix2 0 s) := by
  pointwise [padV]

/-- Column 0 of the running sums is the running sum of column 0's log sigmoids. -/
theorem col_cum0 (x : FVec Ideal S32x128 .f32) (h1 : S32x128.Slices ![0, 0] S32x1) (s : Fin 32) :
    extractStridedSlice S32x1 ![0, 0] (cumV (lsigV x)) h1 (ix2 s 0) = fsum (fun i => x (ix2 i 0)) s := by
  pointwise
  exact cumV_at x s 0

/-- Column 1 of the gates is row 1 of their padded transpose. -/
theorem row_col1 (x : FVec Ideal S32x128 .f32) (h1 : S32x128.Slices ![0, 1] S32x1) (h2 : S128x128.Transposes [1, 0] S128x128)
    (h3 : S128x128.Slices ![1, 0] S1x32) (s : Fin 32) : extractStridedSlice S32x1 ![0, 1] x h1 (ix2 s 0)
      = extractStridedSlice S1x32 ![1, 0] (transpose S128x128 [1, 0] (padV x) h2) h3 (ix2 0 s) := by
  pointwise [padV]

/-- Column 1 of the running sums is the running sum of column 1's log sigmoids. -/
theorem col_cum1 (x : FVec Ideal S32x128 .f32) (h1 : S32x128.Slices ![0, 1] S32x1) (s : Fin 32) :
    extractStridedSlice S32x1 ![0, 1] (cumV (lsigV x)) h1 (ix2 s 0) = fsum (fun i => x (ix2 i 1)) s := by
  pointwise
  exact cumV_at x s 1

/-- Column 2 of the gates is row 2 of their padded transpose. -/
theorem row_col2 (x : FVec Ideal S32x128 .f32) (h1 : S32x128.Slices ![0, 2] S32x1) (h2 : S128x128.Transposes [1, 0] S128x128)
    (h3 : S128x128.Slices ![2, 0] S1x32) (s : Fin 32) : extractStridedSlice S32x1 ![0, 2] x h1 (ix2 s 0)
      = extractStridedSlice S1x32 ![2, 0] (transpose S128x128 [1, 0] (padV x) h2) h3 (ix2 0 s) := by
  pointwise [padV]

/-- Column 2 of the running sums is the running sum of column 2's log sigmoids. -/
theorem col_cum2 (x : FVec Ideal S32x128 .f32) (h1 : S32x128.Slices ![0, 2] S32x1) (s : Fin 32) :
    extractStridedSlice S32x1 ![0, 2] (cumV (lsigV x)) h1 (ix2 s 0) = fsum (fun i => x (ix2 i 2)) s := by
  pointwise
  exact cumV_at x s 2

/-- Column 3 of the gates is row 3 of their padded transpose. -/
theorem row_col3 (x : FVec Ideal S32x128 .f32) (h1 : S32x128.Slices ![0, 3] S32x1) (h2 : S128x128.Transposes [1, 0] S128x128)
    (h3 : S128x128.Slices ![3, 0] S1x32) (s : Fin 32) : extractStridedSlice S32x1 ![0, 3] x h1 (ix2 s 0)
      = extractStridedSlice S1x32 ![3, 0] (transpose S128x128 [1, 0] (padV x) h2) h3 (ix2 0 s) := by
  pointwise [padV]

/-- Column 3 of the running sums is the running sum of column 3's log sigmoids. -/
theorem col_cum3 (x : FVec Ideal S32x128 .f32) (h1 : S32x128.Slices ![0, 3] S32x1) (s : Fin 32) :
    extractStridedSlice S32x1 ![0, 3] (cumV (lsigV x)) h1 (ix2 s 0) = fsum (fun i => x (ix2 i 3)) s := by
  pointwise
  exact cumV_at x s 3

/-- Column 4 of the gates is row 4 of their padded transpose. -/
theorem row_col4 (x : FVec Ideal S32x128 .f32) (h1 : S32x128.Slices ![0, 4] S32x1) (h2 : S128x128.Transposes [1, 0] S128x128)
    (h3 : S128x128.Slices ![4, 0] S1x32) (s : Fin 32) : extractStridedSlice S32x1 ![0, 4] x h1 (ix2 s 0)
      = extractStridedSlice S1x32 ![4, 0] (transpose S128x128 [1, 0] (padV x) h2) h3 (ix2 0 s) := by
  pointwise [padV]

/-- Column 4 of the running sums is the running sum of column 4's log sigmoids. -/
theorem col_cum4 (x : FVec Ideal S32x128 .f32) (h1 : S32x128.Slices ![0, 4] S32x1) (s : Fin 32) :
    extractStridedSlice S32x1 ![0, 4] (cumV (lsigV x)) h1 (ix2 s 0) = fsum (fun i => x (ix2 i 4)) s := by
  pointwise
  exact cumV_at x s 4

/-- Column 5 of the gates is row 5 of their padded transpose. -/
theorem row_col5 (x : FVec Ideal S32x128 .f32) (h1 : S32x128.Slices ![0, 5] S32x1) (h2 : S128x128.Transposes [1, 0] S128x128)
    (h3 : S128x128.Slices ![5, 0] S1x32) (s : Fin 32) : extractStridedSlice S32x1 ![0, 5] x h1 (ix2 s 0)
      = extractStridedSlice S1x32 ![5, 0] (transpose S128x128 [1, 0] (padV x) h2) h3 (ix2 0 s) := by
  pointwise [padV]

/-- Column 5 of the running sums is the running sum of column 5's log sigmoids. -/
theorem col_cum5 (x : FVec Ideal S32x128 .f32) (h1 : S32x128.Slices ![0, 5] S32x1) (s : Fin 32) :
    extractStridedSlice S32x1 ![0, 5] (cumV (lsigV x)) h1 (ix2 s 0) = fsum (fun i => x (ix2 i 5)) s := by
  pointwise
  exact cumV_at x s 5

/-- Column 6 of the gates is row 6 of their padded transpose. -/
theorem row_col6 (x : FVec Ideal S32x128 .f32) (h1 : S32x128.Slices ![0, 6] S32x1) (h2 : S128x128.Transposes [1, 0] S128x128)
    (h3 : S128x128.Slices ![6, 0] S1x32) (s : Fin 32) : extractStridedSlice S32x1 ![0, 6] x h1 (ix2 s 0)
      = extractStridedSlice S1x32 ![6, 0] (transpose S128x128 [1, 0] (padV x) h2) h3 (ix2 0 s) := by
  pointwise [padV]

/-- Column 6 of the running sums is the running sum of column 6's log sigmoids. -/
theorem col_cum6 (x : FVec Ideal S32x128 .f32) (h1 : S32x128.Slices ![0, 6] S32x1) (s : Fin 32) :
    extractStridedSlice S32x1 ![0, 6] (cumV (lsigV x)) h1 (ix2 s 0) = fsum (fun i => x (ix2 i 6)) s := by
  pointwise
  exact cumV_at x s 6

/-- Column 7 of the gates is row 7 of their padded transpose. -/
theorem row_col7 (x : FVec Ideal S32x128 .f32) (h1 : S32x128.Slices ![0, 7] S32x1) (h2 : S128x128.Transposes [1, 0] S128x128)
    (h3 : S128x128.Slices ![7, 0] S1x32) (s : Fin 32) : extractStridedSlice S32x1 ![0, 7] x h1 (ix2 s 0)
      = extractStridedSlice S1x32 ![7, 0] (transpose S128x128 [1, 0] (padV x) h2) h3 (ix2 0 s) := by
  pointwise [padV]

/-- Column 7 of the running sums is the running sum of column 7's log sigmoids. -/
theorem col_cum7 (x : FVec Ideal S32x128 .f32) (h1 : S32x128.Slices ![0, 7] S32x1) (s : Fin 32) :
    extractStridedSlice S32x1 ![0, 7] (cumV (lsigV x)) h1 (ix2 s 0) = fsum (fun i => x (ix2 i 7)) s := by
  pointwise
  exact cumV_at x s 7

end Cert.Mixers
-- ==== Proof.MixersLanes.lean ====
/- What the two result windows share: the lanes of a row as heads, and one head of each mixer. -/
module

public import proofs.«01_k».proof.Defs
public import proofs.«01_k».proof.Proof.MixersValue
public import proofs.«01_k».proof.Proof.MixersCore
public import proofs.«01_k».proof.Proof.MixersRef
public import proofs.«01_k».proof.Proof.MixersHost
public import proofs.«01_k».proof.Proof.MixersDecay
public import proofs.«01_k».proof.Proof.MixersStep
public import proofs.«01_k».proof.Proof.MixersFold
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Mixers.Ref

/-- A stored block of rows, its casts dropped. -/
theorem drop_cast (x : FVec Ideal S32x512 .f32) (s : Fin 32) (l : Fin 512) :
    shapeCast S1x32x512 (truncf .bf16 x bitsLt_bf16_f32) shapeCasts_S32x512_S1x32x512 (ix3 0 s l) = x (ix2 s l) := by
  pointwise

/-- A lane is its head and its place within the head. -/
theorem lane (l : Fin 512) (h : (hOf l).val * 128 + (dOf l).val < 512) : (⟨(hOf l).val * 128 + (dOf l).val, h⟩ : Fin 512) = l :=
  Fin.ext (by show l.val / 128 * 128 + l.val % 128 = l.val; omega)

theorem read10 (c : Dev nD) (t : Fin cfg0.N) (l l' : Fin 512) (h : l.val = l'.val) :
    iblk m c 10 t (ix2 0 l) = (m ((c : Thread nD τ).loc main_arg8)) (ix1 l') := by
  obtain rfl := Fin.ext h
  exact at10 m c t l

theorem read16 (c : Dev nD) (t : Fin cfg0.N) (l l' : Fin 512) (h : l.val = l'.val) :
    iblk m c 16 t (ix2 0 l) = (m ((c : Thread nD τ).loc main_arg15)) (ix1 l') := by
  obtain rfl := Fin.ext h
  exact at16 m c t l

theorem read17 (c : Dev nD) (t : Fin cfg0.N) (l l' : Fin 512) (h : l.val = l'.val) :
    iblk m c 17 t (ix2 0 l) = (m ((c : Thread nD τ).loc main_arg16)) (ix1 l') := by
  obtain rfl := Fin.ext h
  exact at17 m c t l

/-- One retention head of the result, each of its inputs named. -/
theorem retY_piece (g : FVec Ideal S32x128 .f32) (a : Ideal .f32) (q k v : FVec Ideal S32x128 .f32) (S : FVec Ideal S128x128 .f32)
    (w : FVec Ideal S1x128 .f32) (s : Fin 32) (e : Fin 128) {g' a' w' : EReal} {q' k' v' : Fin 32 → Fin 128 → EReal} {S' : Fin 128 → Fin 128 → EReal}
    (hg : g (ix2 s e) = g') (ha : a = a') (hq : ∀ s d, q (ix2 s d) = q' s d) (hk : ∀ s d, k (ix2 s d) = k' s d)
    (hv : ∀ s d, v (ix2 s d) = v' s d) (hS : ∀ d e, S (ix2 d e) = S' d e) (hw : w (ix2 0 e) = w') :
    retYV g (retOV a q k v S) w (ix2 s e) = g' * Ideal.logistic g' * (normed (retO a' q' k' v' S' s) e * w') := by
  obtain rfl := hg
  obtain rfl := hw
  refine (retYV_at _ _ _ _).trans (congrArg (fun z => _ * (z * _)) (congrArg (normed · e) (funext fun d => ?_)))
  exact (retOV_at _ _ _ _ _ _).trans (retO_congr ha hq hk hv hS s d)

/-- One mLSTM head of the result, each of its inputs named. -/
theorem mlY_piece (o : FVec Ideal S32x128 .f32) (igr fr : FVec Ideal S1x32 .f32) (fc : FVec Ideal S32x1 .f32) (m : FVec Ideal S1x1 .f32)
    (q k v : FVec Ideal S32x128 .f32) (C : FVec Ideal S128x128 .f32) (n : FVec Ideal S1x128 .f32) (w ws : FVec Ideal S1x128 .f32) (ch : FVec Ideal S32x128 .f32)
    (hf : ∀ s, fr (ix2 0 s) = fc (ix2 s 0)) (s : Fin 32) (e : Fin 128)
    {o' m' w' ws' ch' : EReal} {ig' f' : Fin 32 → EReal} {q' k' v' : Fin 32 → Fin 128 → EReal} {C' : Fin 128 → Fin 128 → EReal} {n' : Fin 128 → EReal}
    (ho : o (ix2 s e) = o') (hq : ∀ s d, q (ix2 s d) = q' s d) (hk : ∀ s d, k (ix2 s d) = k' s d) (hv : ∀ s d, v (ix2 s d) = v' s d)
    (hi : ∀ s, igr (ix2 0 s) = ig' s) (hF : ∀ s, fc (ix2 s 0) = f' s) (hm : m (ix2 0 0) = m') (hC : ∀ d e, C (ix2 d e) = C' d e)
    (hn : ∀ d, n (ix2 0 d) = n' d) (hw : w (ix2 0 e) = w') (hs : ws (ix2 0 e) = ws') (hc : ch (ix2 s e) = ch') :
    mlYV o (mlOV igr fr fc m q k v C n) w ws ch (ix2 s e)
      = Ideal.logistic o' * (normed (mlO q' k' v' ig' f' m' C' n' s) e * w' + ws' * ch') := by
  obtain rfl := ho
  obtain rfl := hw
  obtain rfl := hs
  obtain rfl := hc
  refine (mlYV_at _ _ _ _ _ _).trans (congrArg (fun z => _ * (z * _ + _)) (congrArg (normed · e) (funext fun d => ?_)))
  exact (mlOV_at _ _ _ _ _ _ _ _ _ hf _).trans (mlO_congr hq hk hv hi hF hm hC hn s d)

end Cert.Mixers
-- ==== Proof.MixersOutR.lean ====
/- The retention mixer's result window holds the layer's retention branch. -/
module

public import proofs.«01_k».proof.Defs
public import proofs.«01_k».proof.Proof.MixersValue
public import proofs.«01_k».proof.Proof.MixersCore
public import proofs.«01_k».proof.Proof.MixersRef
public import proofs.«01_k».proof.Proof.MixersHost
public import proofs.«01_k».proof.Proof.MixersDecay
public import proofs.«01_k».proof.Proof.MixersStep
public import proofs.«01_k».proof.Proof.MixersFold
public import proofs.«01_k».proof.Proof.MixersLanes
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Mixers.Ref

/-- The retention mixer's result. -/
def outR (x0 : Vec Ideal S16x32x2048 .f32) (x3 : Vec Ideal S16x4x128x128 .f32) (x8 : Vec Ideal S512 .f32) : Vec Ideal S16x32x512 .bf16 :=
  fun j => yR x0 x3 (x8 (ix1 (j 2))) (j 0) (hOf (j 2)) (j 1) (dOf (j 2))

/-- An entry of the result, by its lane. -/
theorem outR_at (x0 : Vec Ideal S16x32x2048 .f32) (x3 : Vec Ideal S16x4x128x128 .f32) (x8 : Vec Ideal S512 .f32) (b : Fin 16) (s : Fin 32) (l : Fin 512) :
    outR x0 x3 x8 (ix3 b s l) = yR x0 x3 (x8 (ix1 l)) b (hOf l) s (dOf l) := rfl

/-- An entry of the result, by its head. -/
theorem outR_head (x0 : Vec Ideal S16x32x2048 .f32) (x3 : Vec Ideal S16x4x128x128 .f32) (x8 : Vec Ideal S512 .f32) (b : Fin 16) (s : Fin 32) (l : Fin 512) :
    outR x0 x3 x8 (ix3 b s l) = (fun (h : Fin 4) (e : Fin 128) => yR x0 x3 (x8 (ix1 ⟨h.val * 128 + e.val, by omega⟩)) b h s e) (hOf l) (dOf l) := by
  rw [outR_at]
  refine congrArg (fun z => yR x0 x3 (x8 (ix1 z)) b (hOf l) s (dOf l)) (lane l _).symm

set_option maxHeartbeats 8000000 in
/-- The window after the launch is that result. -/
theorem yr_out (c : Dev nD) : (dats m 0 c).arrAt 18 cfg0.N = outR (m ((c : Thread nD τ).loc main_arg0)) (m ((c : Thread nD τ).loc main_arg3)) (m ((c : Thread nD τ).loc main_arg8)) := by
  refine (dats m 0 c).arrAt_eq_of_covers 18 _ (by decide +kernel) fun t hf (y : S4x32x512.Idx) => ?_
  blk_simp
  rw [after0_18]
  unfold outsAt0
  frame_open
  frame_out
  refine (tiles_rows _ _ _ _ _ (fun j => outR (m ((c : Thread nD τ).loc main_arg0)) (m ((c : Thread nD τ).loc main_arg3)) (m ((c : Thread nD τ).loc main_arg8)) (ix3 (sq t (j 0)) (j 1) (j 2))) _ _ _ _
    (fun s l => ?p3) (fun s l => ?p2) (fun s l => ?p1) (fun s l => ?p0) y).trans ?last
  case p3 | p2 | p1 | p0 =>
    refine Eq.trans ?_ (outR_head _ _ _ _ _ _).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    refine (drop_cast _ s l).trans ?_
    refine catV_at _ _ _ _ s (fun (h : Fin 4) (e : Fin 128) => yR (m ((c : Thread nD τ).loc main_arg0)) (m ((c : Thread nD τ).loc main_arg3)) ((m ((c : Thread nD τ).loc main_arg8)) (ix1 ⟨h.val * 128 + e.val, by omega⟩)) (sq t _) h s e)
      (fun e => ?_) (fun e => ?_) (fun e => ?_) (fun e => ?_) l
    · refine (retY_piece _ _ _ _ _ _ _ s e ?_ log_decay0 (fun s d => ?_) (fun s d => ?_) (fun s d => ?_) (fun d e => ?_) ?_)
      · pointwise [gR]
        exact read0 m c t _ _ _ _ (by first | rfl | (dsimp only; omega) | (simp; omega))
      · refine (rotV_at _ _ _ cosT sinT (fun i d => ?_) (fun i d => ?_) (ix2 s d)).trans ?_
        · pointwise; exact at3 m c t i d
        · pointwise; exact at4 m c t i d
        · refine congrArg (rope · _ _ _) (funext fun l => ?_)
          pointwise
          exact read0 m c t _ _ _ _ (by first | rfl | (dsimp only; omega) | (simp; omega))
      · refine (keyV_at _ _ _ cosT sinT (fun i d => ?_) (fun i d => ?_) (ix2 s d)).trans ?_
        · pointwise; exact at3 m c t i d
        · pointwise; exact at4 m c t i d
        · refine congrArg (· * _) (congrArg (rope · _ _ _) (funext fun l => ?_))
          pointwise
          exact read0 m c t _ _ _ _ (by first | rfl | (dsimp only; omega) | (simp; omega))
      · pointwise [vR]
        exact read0 m c t _ _ _ _ (by first | rfl | (dsimp only; omega) | (simp; omega))
      · pointwise; exact at5 m c t _ _ _ _
      · pointwise; exact read10 m c t _ _ (by first | rfl | (dsimp only; omega) | (simp; omega))
    · refine (retY_piece _ _ _ _ _ _ _ s e ?_ log_decay1 (fun s d => ?_) (fun s d => ?_) (fun s d => ?_) (fun d e => ?_) ?_)
      · pointwise [gR]
        exact read0 m c t _ _ _ _ (by first | rfl | (dsimp only; omega) | (simp; omega))
      · refine (rotV_at _ _ _ cosT sinT (fun i d => ?_) (fun i d => ?_) (ix2 s d)).trans ?_
        · pointwise; exact at3 m c t i d
        · pointwise; exact at4 m c t i d
        · refine congrArg (rope · _ _ _) (funext fun l => ?_)
          pointwise
          exact read0 m c t _ _ _ _ (by first | rfl | (dsimp only; omega) | (simp; omega))
      · refine (keyV_at _ _ _ cosT sinT (fun i d => ?_) (fun i d => ?_) (ix2 s d)).trans ?_
        · pointwise; exact at3 m c t i d
        · pointwise; exact at4 m c t i d
        · refine congrArg (· * _) (congrArg (rope · _ _ _) (funext fun l => ?_))
          pointwise
          exact read0 m c t _ _ _ _ (by first | rfl | (dsimp only; omega) | (simp; omega))
      · pointwise [vR]
        exact read0 m c t _ _ _ _ (by first | rfl | (dsimp only; omega) | (simp; omega))
      · pointwise; exact at5 m c t _ _ _ _
      · pointwise; exact read10 m c t _ _ (by first | rfl | (dsimp only; omega) | (simp; omega))
    · refine (retY_piece _ _ _ _ _ _ _ s e ?_ log_decay2 (fun s d => ?_) (fun s d => ?_) (fun s d => ?_) (fun d e => ?_) ?_)
      · pointwise [gR]
        exact read0 m c t _ _ _ _ (by first | rfl | (dsimp only; omega) | (simp; omega))
      · refine (rotV_at _ _ _ cosT sinT (fun i d => ?_) (fun i d => ?_) (ix2 s d)).trans ?_
        · pointwise; exact at3 m c t i d
        · pointwise; exact at4 m c t i d
        · refine congrArg (rope · _ _ _) (funext fun l => ?_)
          pointwise
          exact read0 m c t _ _ _ _ (by first | rfl | (dsimp only; omega) | (simp; omega))
      · refine (keyV_at _ _ _ cosT sinT (fun i d => ?_) (fun i d => ?_) (ix2 s d)).trans ?_
        · pointwise; exact at3 m c t i d
        · pointwise; exact at4 m c t i d
        · refine congrArg (· * _) (congrArg (rope · _ _ _) (funext fun l => ?_))
          pointwise
          exact read0 m c t _ _ _ _ (by first | rfl | (dsimp only; omega) | (simp; omega))
      · pointwise [vR]
        exact read0 m c t _ _ _ _ (by first | rfl | (dsimp only; omega) | (simp; omega))
      · pointwise; exact at5 m c t _ _ _ _
      · pointwise; exact read10 m c t _ _ (by first | rfl | (dsimp only; omega) | (simp; omega))
    · refine (retY_piece _ _ _ _ _ _ _ s e ?_ log_decay3 (fun s d => ?_) (fun s d => ?_) (fun s d => ?_) (fun d e => ?_) ?_)
      · pointwise [gR]
        exact read0 m c t _ _ _ _ (by first | rfl | (dsimp only; omega) | (simp; omega))
      · refine (rotV_at _ _ _ cosT sinT (fun i d => ?_) (fun i d => ?_) (ix2 s d)).trans ?_
        · pointwise; exact at3 m c t i d
        · pointwise; exact at4 m c t i d
        · refine congrArg (rope · _ _ _) (funext fun l => ?_)
          pointwise
          exact read0 m c t _ _ _ _ (by first | rfl | (dsimp only; omega) | (simp; omega))
      · refine (keyV_at _ _ _ cosT sinT (fun i d => ?_) (fun i d => ?_) (ix2 s d)).trans ?_
        · pointwise; exact at3 m c t i d
        · pointwise; exact at4 m c t i d
        · refine congrArg (· * _) (congrArg (rope · _ _ _) (funext fun l => ?_))
          pointwise
          exact read0 m c t _ _ _ _ (by first | rfl | (dsimp only; omega) | (simp; omega))
      · pointwise [vR]
        exact read0 m c t _ _ _ _ (by first | rfl | (dsimp only; omega) | (simp; omega))
      · pointwise; exact at5 m c t _ _ _ _
      · pointwise; exact read10 m c t _ _ (by first | rfl | (dsimp only; omega) | (simp; omega))
  case last =>
    idx_vars y
    exact (congrArg (outR _ _ _ ) (emb18 t y0 y1 y2)).symm

end Cert.Mixers
-- ==== Proof.MixersOutL.lean ====
/- The mLSTM mixer's result window holds the layer's mLSTM branch. -/
module

public import proofs.«01_k».proof.Defs
public import proofs.«01_k».proof.Proof.MixersValue
public import proofs.«01_k».proof.Proof.MixersCore
public import proofs.«01_k».proof.Proof.MixersRef
public import proofs.«01_k».proof.Proof.MixersHost
public import proofs.«01_k».proof.Proof.MixersDecay
public import proofs.«01_k».proof.Proof.MixersStep
public import proofs.«01_k».proof.Proof.MixersFold
public import proofs.«01_k».proof.Proof.MixersLanes
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Mixers.Ref

/-- The mLSTM mixer's result. -/
def outL (x1 : Vec Ideal S16x32x1536 .f32) (x2 : Vec Ideal S16x32x128 .f32) (x4 : Vec Ideal S16x4x128x128 .f32) (x5 : Vec Ideal S16x4x128 .f32) (x6 : Vec Ideal S16x4 .f32) (x7 : Vec Ideal S16x3x512 .f32) (x9 : Vec Ideal S4x128x128 .f32) (x10 : Vec Ideal S4x128x128 .f32) (x11 : Vec Ideal S4x512 .f32) (x12 : Vec Ideal S512 .f32) (x13 : Vec Ideal S4 .f32) (x14 : Vec Ideal S4 .f32) (x15 x16 : Vec Ideal S512 .f32) : Vec Ideal S16x32x512 .bf16 :=
  fun j => yM x1 x2 x4 x5 x6 x7 x9 x10 x11 x12 x13 x14 (x15 (ix1 (j 2))) (x16 (ix1 (j 2))) (j 0) (hOf (j 2)) (j 1) (dOf (j 2))

/-- An entry of the result, by its lane. -/
theorem outL_at (x1 : Vec Ideal S16x32x1536 .f32) (x2 : Vec Ideal S16x32x128 .f32) (x4 : Vec Ideal S16x4x128x128 .f32) (x5 : Vec Ideal S16x4x128 .f32) (x6 : Vec Ideal S16x4 .f32) (x7 : Vec Ideal S16x3x512 .f32) (x9 : Vec Ideal S4x128x128 .f32) (x10 : Vec Ideal S4x128x128 .f32) (x11 : Vec Ideal S4x512 .f32) (x12 : Vec Ideal S512 .f32) (x13 : Vec Ideal S4 .f32) (x14 : Vec Ideal S4 .f32) (x15 x16 : Vec Ideal S512 .f32) (b : Fin 16) (s : Fin 32) (l : Fin 512) :
    outL x1 x2 x4 x5 x6 x7 x9 x10 x11 x12 x13 x14 x15 x16 (ix3 b s l) = yM x1 x2 x4 x5 x6 x7 x9 x10 x11 x12 x13 x14 (x15 (ix1 l)) (x16 (ix1 l)) b (hOf l) s (dOf l) := rfl

/-- An entry of the result, by its head. -/
theorem outL_head (x1 : Vec Ideal S16x32x1536 .f32) (x2 : Vec Ideal S16x32x128 .f32) (x4 : Vec Ideal S16x4x128x128 .f32) (x5 : Vec Ideal S16x4x128 .f32) (x6 : Vec Ideal S16x4 .f32) (x7 : Vec Ideal S16x3x512 .f32) (x9 : Vec Ideal S4x128x128 .f32) (x10 : Vec Ideal S4x128x128 .f32) (x11 : Vec Ideal S4x512 .f32) (x12 : Vec Ideal S512 .f32) (x13 : Vec Ideal S4 .f32) (x14 : Vec Ideal S4 .f32) (x15 x16 : Vec Ideal S512 .f32) (b : Fin 16) (s : Fin 32) (l : Fin 512) :
    outL x1 x2 x4 x5 x6 x7 x9 x10 x11 x12 x13 x14 x15 x16 (ix3 b s l) = (fun (h : Fin 4) (e : Fin 128) => yM x1 x2 x4 x5 x6 x7 x9 x10 x11 x12 x13 x14 (x15 (ix1 ⟨h.val * 128 + e.val, by omega⟩)) (x16 (ix1 ⟨h.val * 128 + e.val, by omega⟩)) b h s e) (hOf l) (dOf l) := by
  rw [outL_at]
  refine congrArg (fun z => yM x1 x2 x4 x5 x6 x7 x9 x10 x11 x12 x13 x14 (x15 (ix1 z)) (x16 (ix1 z)) b (hOf l) s (dOf l)) (lane l _).symm

set_option maxHeartbeats 8000000 in
/-- The window after the launch is that result. -/
theorem ym_out (c : Dev nD) : (dats m 0 c).arrAt 19 cfg0.N = outL (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 19 _ (by decide +kernel) fun t hf (y : S4x32x512.Idx) => ?_
  blk_simp
  rw [after0_19]
  unfold outsAt0
  frame_open
  frame_out
  refine (tiles_rows _ _ _ _ _ (fun j => outL (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix3 (sq t (j 0)) (j 1) (j 2))) _ _ _ _
    (fun s l => ?p3) (fun s l => ?p2) (fun s l => ?p1) (fun s l => ?p0) y).trans ?last
  case p3 | p2 | p1 | p0 =>
    refine Eq.trans ?_ (outL_head _ _ _ _ _ _ _ _ _ _ _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    simp only [conv_fold]
    simp only [act_fold]
    refine (drop_cast _ s l).trans ?_
    refine catV_at _ _ _ _ s (fun (h : Fin 4) (e : Fin 128) => yM (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ((m ((c : Thread nD τ).loc main_arg15)) (ix1 ⟨h.val * 128 + e.val, by omega⟩)) ((m ((c : Thread nD τ).loc main_arg16)) (ix1 ⟨h.val * 128 + e.val, by omega⟩)) (sq t _) h s e)
      (fun e => ?_) (fun e => ?_) (fun e => ?_) (fun e => ?_) l
    · refine (mlY_piece _ _ _ _ _ _ _ _ _ _ _ _ _  (fun s => (row_col4 _ _ _ _ s).symm) s e ?_ (fun s d => ?_) (fun s d => ?_) (fun s d => ?_) (fun s => ?_) (fun s => ?_) ?_ (fun d e => ?_) (fun d => ?_) ?_ ?_ ?_)
      · pointwise [oM]
        exact read1 m c t _ _ _ _ (by first | rfl | (dsimp only; omega) | (simp; omega))
      · pointwise [qM]
        refine Finset.sum_congr rfl fun l _ => congrArg₂ (· * ·) ?_ ?_
        · refine actV_at _ _ _ _ _ _ _ _ _ _ _ _ (fun d => ?_) (fun d => ?_) (fun d => ?_) (fun d => ?_) (fun d => ?_) (fun p d => ?_) (fun s d => ?_) _ _
          · pointwise; exact at14 m c t _
          · pointwise; exact at13 m c t _ _
          · pointwise; exact at13 m c t _ _
          · pointwise; exact at13 m c t _ _
          · pointwise; exact at13 m c t _ _
          · pointwise; exact at9 m c t _ p _
          · pointwise; exact read1 m c t _ _ _ _ (by first | rfl | (dsimp only; omega) | (simp; omega))
        · exact at11 m c t _ _ _
      · pointwise [kM]
        refine congrArg (· * _) (Finset.sum_congr rfl fun l _ => congrArg₂ (· * ·) ?_ ?_)
        · refine actV_at _ _ _ _ _ _ _ _ _ _ _ _ (fun d => ?_) (fun d => ?_) (fun d => ?_) (fun d => ?_) (fun d => ?_) (fun p d => ?_) (fun s d => ?_) _ _
          · pointwise; exact at14 m c t _
          · pointwise; exact at13 m c t _ _
          · pointwise; exact at13 m c t _ _
          · pointwise; exact at13 m c t _ _
          · pointwise; exact at13 m c t _ _
          · pointwise; exact at9 m c t _ p _
          · pointwise; exact read1 m c t _ _ _ _ (by first | rfl | (dsimp only; omega) | (simp; omega))
        · exact at12 m c t _ _ _
      · pointwise [vM]
        exact read1 m c t _ _ _ _ (by first | rfl | (dsimp only; omega) | (simp; omega))
      · pointwise [padV, igM]
        exact congrArg₂ (· + ·) (read2 m c t _ _ _ _ (by first | rfl | (dsimp only; omega) | (simp; omega))) (at15i m c t 0)
      · refine (col_cum4 _ _ s).trans (congrArg (fsum · s) (funext fun i => ?_))
        pointwise
        exact congrArg₂ (· + ·) (read2 m c t _ _ _ _ (by first | rfl | (dsimp only; omega) | (simp; omega))) (at15f m c t 0)
      · pointwise; exact at8 m c t _ _ _
      · pointwise; exact at6 m c t _ _ _ _
      · pointwise; exact at7 m c t _ _ _
      · pointwise; exact read16 m c t _ _ (by first | rfl | (dsimp only; omega) | (simp; omega))
      · pointwise; exact read17 m c t _ _ (by first | rfl | (dsimp only; omega) | (simp; omega))
      · pointwise
        refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
    · refine (mlY_piece _ _ _ _ _ _ _ _ _ _ _ _ _  (fun s => (row_col5 _ _ _ _ s).symm) s e ?_ (fun s d => ?_) (fun s d => ?_) (fun s d => ?_) (fun s => ?_) (fun s => ?_) ?_ (fun d e => ?_) (fun d => ?_) ?_ ?_ ?_)
      · pointwise [oM]
        exact read1 m c t _ _ _ _ (by first | rfl | (dsimp only; omega) | (simp; omega))
      · pointwise [qM]
        refine Finset.sum_congr rfl fun l _ => congrArg₂ (· * ·) ?_ ?_
        · refine actV_at _ _ _ _ _ _ _ _ _ _ _ _ (fun d => ?_) (fun d => ?_) (fun d => ?_) (fun d => ?_) (fun d => ?_) (fun p d => ?_) (fun s d => ?_) _ _
          · pointwise; exact at14 m c t _
          · pointwise; exact at13 m c t _ _
          · pointwise; exact at13 m c t _ _
          · pointwise; exact at13 m c t _ _
          · pointwise; exact at13 m c t _ _
          · pointwise; exact at9 m c t _ p _
          · pointwise; exact read1 m c t _ _ _ _ (by first | rfl | (dsimp only; omega) | (simp; omega))
        · exact at11 m c t _ _ _
      · pointwise [kM]
        refine congrArg (· * _) (Finset.sum_congr rfl fun l _ => congrArg₂ (· * ·) ?_ ?_)
        · refine actV_at _ _ _ _ _ _ _ _ _ _ _ _ (fun d => ?_) (fun d => ?_) (fun d => ?_) (fun d => ?_) (fun d => ?_) (fun p d => ?_) (fun s d => ?_) _ _
          · pointwise; exact at14 m c t _
          · pointwise; exact at13 m c t _ _
          · pointwise; exact at13 m c t _ _
          · pointwise; exact at13 m c t _ _
          · pointwise; exact at13 m c t _ _
          · pointwise; exact at9 m c t _ p _
          · pointwise; exact read1 m c t _ _ _ _ (by first | rfl | (dsimp only; omega) | (simp; omega))
        · exact at12 m c t _ _ _
      · pointwise [vM]
        exact read1 m c t _ _ _ _ (by first | rfl | (dsimp only; omega) | (simp; omega))
      · pointwise [padV, igM]
        exact congrArg₂ (· + ·) (read2 m c t _ _ _ _ (by first | rfl | (dsimp only; omega) | (simp; omega))) (at15i m c t 1)
      · refine (col_cum5 _ _ s).trans (congrArg (fsum · s) (funext fun i => ?_))
        pointwise
        exact congrArg₂ (· + ·) (read2 m c t _ _ _ _ (by first | rfl | (dsimp only; omega) | (simp; omega))) (at15f m c t 1)
      · pointwise; exact at8 m c t _ _ _
      · pointwise; exact at6 m c t _ _ _ _
      · pointwise; exact at7 m c t _ _ _
      · pointwise; exact read16 m c t _ _ (by first | rfl | (dsimp only; omega) | (simp; omega))
      · pointwise; exact read17 m c t _ _ (by first | rfl | (dsimp only; omega) | (simp; omega))
      · pointwise
        refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
    · refine (mlY_piece _ _ _ _ _ _ _ _ _ _ _ _ _  (fun s => (row_col6 _ _ _ _ s).symm) s e ?_ (fun s d => ?_) (fun s d => ?_) (fun s d => ?_) (fun s => ?_) (fun s => ?_) ?_ (fun d e => ?_) (fun d => ?_) ?_ ?_ ?_)
      · pointwise [oM]
        exact read1 m c t _ _ _ _ (by first | rfl | (dsimp only; omega) | (simp; omega))
      · pointwise [qM]
        refine Finset.sum_congr rfl fun l _ => congrArg₂ (· * ·) ?_ ?_
        · refine actV_at _ _ _ _ _ _ _ _ _ _ _ _ (fun d => ?_) (fun d => ?_) (fun d => ?_) (fun d => ?_) (fun d => ?_) (fun p d => ?_) (fun s d => ?_) _ _
          · pointwise; exact at14 m c t _
          · pointwise; exact at13 m c t _ _
          · pointwise; exact at13 m c t _ _
          · pointwise; exact at13 m c t _ _
          · pointwise; exact at13 m c t _ _
          · pointwise; exact at9 m c t _ p _
          · pointwise; exact read1 m c t _ _ _ _ (by first | rfl | (dsimp only; omega) | (simp; omega))
        · exact at11 m c t _ _ _
      · pointwise [kM]
        refine congrArg (· * _) (Finset.sum_congr rfl fun l _ => congrArg₂ (· * ·) ?_ ?_)
        · refine actV_at _ _ _ _ _ _ _ _ _ _ _ _ (fun d => ?_) (fun d => ?_) (fun d => ?_) (fun d => ?_) (fun d => ?_) (fun p d => ?_) (fun s d => ?_) _ _
          · pointwise; exact at14 m c t _
          · pointwise; exact at13 m c t _ _
          · pointwise; exact at13 m c t _ _
          · pointwise; exact at13 m c t _ _
          · pointwise; exact at13 m c t _ _
          · pointwise; exact at9 m c t _ p _
          · pointwise; exact read1 m c t _ _ _ _ (by first | rfl | (dsimp only; omega) | (simp; omega))
        · exact at12 m c t _ _ _
      · pointwise [vM]
        exact read1 m c t _ _ _ _ (by first | rfl | (dsimp only; omega) | (simp; omega))
      · pointwise [padV, igM]
        exact congrArg₂ (· + ·) (read2 m c t _ _ _ _ (by first | rfl | (dsimp only; omega) | (simp; omega))) (at15i m c t 2)
      · refine (col_cum6 _ _ s).trans (congrArg (fsum · s) (funext fun i => ?_))
        pointwise
        exact congrArg₂ (· + ·) (read2 m c t _ _ _ _ (by first | rfl | (dsimp only; omega) | (simp; omega))) (at15f m c t 2)
      · pointwise; exact at8 m c t _ _ _
      · pointwise; exact at6 m c t _ _ _ _
      · pointwise; exact at7 m c t _ _ _
      · pointwise; exact read16 m c t _ _ (by first | rfl | (dsimp only; omega) | (simp; omega))
      · pointwise; exact read17 m c t _ _ (by first | rfl | (dsimp only; omega) | (simp; omega))
      · pointwise
        refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
    · refine (mlY_piece _ _ _ _ _ _ _ _ _ _ _ _ _  (fun s => (row_col7 _ _ _ _ s).symm) s e ?_ (fun s d => ?_) (fun s d => ?_) (fun s d => ?_) (fun s => ?_) (fun s => ?_) ?_ (fun d e => ?_) (fun d => ?_) ?_ ?_ ?_)
      · pointwise [oM]
        exact read1 m c t _ _ _ _ (by first | rfl | (dsimp only; omega) | (simp; omega))
      · pointwise [qM]
        refine Finset.sum_congr rfl fun l _ => congrArg₂ (· * ·) ?_ ?_
        · refine actV_at _ _ _ _ _ _ _ _ _ _ _ _ (fun d => ?_) (fun d => ?_) (fun d => ?_) (fun d => ?_) (fun d => ?_) (fun p d => ?_) (fun s d => ?_) _ _
          · pointwise; exact at14 m c t _
          · pointwise; exact at13 m c t _ _
          · pointwise; exact at13 m c t _ _
          · pointwise; exact at13 m c t _ _
          · pointwise; exact at13 m c t _ _
          · pointwise; exact at9 m c t _ p _
          · pointwise; exact read1 m c t _ _ _ _ (by first | rfl | (dsimp only; omega) | (simp; omega))
        · exact at11 m c t _ _ _
      · pointwise [kM]
        refine congrArg (· * _) (Finset.sum_congr rfl fun l _ => congrArg₂ (· * ·) ?_ ?_)
        · refine actV_at _ _ _ _ _ _ _ _ _ _ _ _ (fun d => ?_) (fun d => ?_) (fun d => ?_) (fun d => ?_) (fun d => ?_) (fun p d => ?_) (fun s d => ?_) _ _
          · pointwise; exact at14 m c t _
          · pointwise; exact at13 m c t _ _
          · pointwise; exact at13 m c t _ _
          · pointwise; exact at13 m c t _ _
          · pointwise; exact at13 m c t _ _
          · pointwise; exact at9 m c t _ p _
          · pointwise; exact read1 m c t _ _ _ _ (by first | rfl | (dsimp only; omega) | (simp; omega))
        · exact at12 m c t _ _ _
      · pointwise [vM]
        exact read1 m c t _ _ _ _ (by first | rfl | (dsimp only; omega) | (simp; omega))
      · pointwise [padV, igM]
        exact congrArg₂ (· + ·) (read2 m c t _ _ _ _ (by first | rfl | (dsimp only; omega) | (simp; omega))) (at15i m c t 3)
      · refine (col_cum7 _ _ s).trans (congrArg (fsum · s) (funext fun i => ?_))
        pointwise
        exact congrArg₂ (· + ·) (read2 m c t _ _ _ _ (by first | rfl | (dsimp only; omega) | (simp; omega))) (at15f m c t 3)
      · pointwise; exact at8 m c t _ _ _
      · pointwise; exact at6 m c t _ _ _ _
      · pointwise; exact at7 m c t _ _ _
      · pointwise; exact read16 m c t _ _ (by first | rfl | (dsimp only; omega) | (simp; omega))
      · pointwise; exact read17 m c t _ _ (by first | rfl | (dsimp only; omega) | (simp; omega))
      · pointwise
        refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
  case last =>
    idx_vars y
    exact (congrArg (outL _ _ _ _ _ _ _ _ _ _ _ _ _ _ ) (emb19 t y0 y1 y2)).symm

end Cert.Mixers
-- ==== Proof.MixersOutS.lean ====
/- The retention state window holds the states after the block. -/
module

public import proofs.«01_k».proof.Defs
public import proofs.«01_k».proof.Proof.MixersValue
public import proofs.«01_k».proof.Proof.MixersCore
public import proofs.«01_k».proof.Proof.MixersRef
public import proofs.«01_k».proof.Proof.MixersHost
public import proofs.«01_k».proof.Proof.MixersDecay
public import proofs.«01_k».proof.Proof.MixersStep
public import proofs.«01_k».proof.Proof.MixersFold
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Mixers.Ref

/-- The retention states the launch leaves. -/
def stateR (x0 : Vec Ideal S16x32x2048 .f32) (x3 : Vec Ideal S16x4x128x128 .f32) : Vec Ideal S16x4x128x128 .f32 := fun j => sR x0 x3 (j 0) (j 1) (j 2) (j 3)

/-- One of their entries. -/
theorem stateR_at (x0 : Vec Ideal S16x32x2048 .f32) (x3 : Vec Ideal S16x4x128x128 .f32) (b : Fin 16) (h : Fin 4) (d e : Fin 128) :
    stateR x0 x3 (ix4 b h d e) = retS (lgR h) (Ideal.exp (lgR h * Ideal.ofBits .f32 0x42000000#32)) (kR x0 b h) (vR x0 b h) (fun d e => x3 (ix4 b h d e)) d e := rfl

set_option maxHeartbeats 8000000 in
/-- The window after the launch holds these states. -/
theorem S_out (c : Dev nD) : (dats m 0 c).arrAt 20 cfg0.N = stateR (m ((c : Thread nD τ).loc main_arg0)) (m ((c : Thread nD τ).loc main_arg3)) := by
  refine (dats m 0 c).arrAt_eq_of_covers 20 _ (by decide +kernel) fun t hf (y : S4x4x128x128.Idx) => ?_
  blk_simp
  rw [after0_20]
  unfold outsAt0
  frame_open
  frame_out
  refine (readCov_whole (s := S4x4x128x128) _ _ _ (by decide) y).trans ?_
  refine (tiles_mat _ _ _ _ _ _ _ _ _ _ _ _ _ _ _ _  _ (fun j => stateR (m ((c : Thread nD τ).loc main_arg0)) (m ((c : Thread nD τ).loc main_arg3)) (ix4 (sq t (j 0)) (j 1) (j 2) (j 3))) _ _ _ _ _ _ _ _ _ _ _ _ _ _ _ _
    (fun d e => ?p33) (fun d e => ?p32) (fun d e => ?p31) (fun d e => ?p30) (fun d e => ?p23) (fun d e => ?p22) (fun d e => ?p21) (fun d e => ?p20) (fun d e => ?p13) (fun d e => ?p12) (fun d e => ?p11) (fun d e => ?p10) (fun d e => ?p03) (fun d e => ?p02) (fun d e => ?p01) (fun d e => ?p00) y).trans ?last
  case p33 | p23 | p13 | p03 =>
    refine Eq.trans ?_ (stateR_at _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    refine (retS_piece _ _ _ _ _ _ _ _ _).trans (retS_congr log_decay3 chunk_decay3 (fun s d => ?_) (fun s d => ?_) (fun d e => ?_) _ _)
    · refine (keyV_at _ _ _ cosT sinT (fun i d => ?_) (fun i d => ?_) (ix2 s d)).trans ?_
      · pointwise; exact at3 m c t i d
      · pointwise; exact at4 m c t i d
      · refine congrArg (· * _) (congrArg (rope · _ _ _) (funext fun l => ?_))
        pointwise
        exact read0 m c t _ _ _ _ (by first | rfl | (dsimp only; omega) | (simp; omega))
    · pointwise [vR]
      exact read0 m c t _ _ _ _ (by first | rfl | (dsimp only; omega) | (simp; omega))
    · pointwise; exact at5 m c t _ _ _ _
  case p32 | p22 | p12 | p02 =>
    refine Eq.trans ?_ (stateR_at _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    refine (retS_piece _ _ _ _ _ _ _ _ _).trans (retS_congr log_decay2 chunk_decay2 (fun s d => ?_) (fun s d => ?_) (fun d e => ?_) _ _)
    · refine (keyV_at _ _ _ cosT sinT (fun i d => ?_) (fun i d => ?_) (ix2 s d)).trans ?_
      · pointwise; exact at3 m c t i d
      · pointwise; exact at4 m c t i d
      · refine congrArg (· * _) (congrArg (rope · _ _ _) (funext fun l => ?_))
        pointwise
        exact read0 m c t _ _ _ _ (by first | rfl | (dsimp only; omega) | (simp; omega))
    · pointwise [vR]
      exact read0 m c t _ _ _ _ (by first | rfl | (dsimp only; omega) | (simp; omega))
    · pointwise; exact at5 m c t _ _ _ _
  case p31 | p21 | p11 | p01 =>
    refine Eq.trans ?_ (stateR_at _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    refine (retS_piece _ _ _ _ _ _ _ _ _).trans (retS_congr log_decay1 chunk_decay1 (fun s d => ?_) (fun s d => ?_) (fun d e => ?_) _ _)
    · refine (keyV_at _ _ _ cosT sinT (fun i d => ?_) (fun i d => ?_) (ix2 s d)).trans ?_
      · pointwise; exact at3 m c t i d
      · pointwise; exact at4 m c t i d
      · refine congrArg (· * _) (congrArg (rope · _ _ _) (funext fun l => ?_))
        pointwise
        exact read0 m c t _ _ _ _ (by first | rfl | (dsimp only; omega) | (simp; omega))
    · pointwise [vR]
      exact read0 m c t _ _ _ _ (by first | rfl | (dsimp only; omega) | (simp; omega))
    · pointwise; exact at5 m c t _ _ _ _
  case p30 | p20 | p10 | p00 =>
    refine Eq.trans ?_ (stateR_at _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    refine (retS_piece _ _ _ _ _ _ _ _ _).trans (retS_congr log_decay0 chunk_decay0 (fun s d => ?_) (fun s d => ?_) (fun d e => ?_) _ _)
    · refine (keyV_at _ _ _ cosT sinT (fun i d => ?_) (fun i d => ?_) (ix2 s d)).trans ?_
      · pointwise; exact at3 m c t i d
      · pointwise; exact at4 m c t i d
      · refine congrArg (· * _) (congrArg (rope · _ _ _) (funext fun l => ?_))
        pointwise
        exact read0 m c t _ _ _ _ (by first | rfl | (dsimp only; omega) | (simp; omega))
    · pointwise [vR]
      exact read0 m c t _ _ _ _ (by first | rfl | (dsimp only; omega) | (simp; omega))
    · pointwise; exact at5 m c t _ _ _ _
  case last =>
    idx_vars y
    exact (congrArg (stateR _ _) (emb20 t y0 y1 y2 y3)).symm

end Cert.Mixers
-- ==== Proof.MixersOutC.lean ====
/- The matrix state window of the mLSTM mixer holds the states after the block. -/
module

public import proofs.«01_k».proof.Defs
public import proofs.«01_k».proof.Proof.MixersValue
public import proofs.«01_k».proof.Proof.MixersCore
public import proofs.«01_k».proof.Proof.MixersRef
public import proofs.«01_k».proof.Proof.MixersHost
public import proofs.«01_k».proof.Proof.MixersDecay
public import proofs.«01_k».proof.Proof.MixersStep
public import proofs.«01_k».proof.Proof.MixersFold
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Mixers.Ref

/-- The matrix states the launch leaves. -/
def stateC (x1 : Vec Ideal S16x32x1536 .f32) (x2 : Vec Ideal S16x32x128 .f32) (x4 : Vec Ideal S16x4x128x128 .f32) (x6 : Vec Ideal S16x4 .f32) (x7 : Vec Ideal S16x3x512 .f32) (x10 : Vec Ideal S4x128x128 .f32) (x11 : Vec Ideal S4x512 .f32) (x12 : Vec Ideal S512 .f32) (x13 : Vec Ideal S4 .f32) (x14 : Vec Ideal S4 .f32) : Vec Ideal S16x4x128x128 .f32 :=
  fun j => cM x1 x2 x4 x6 x7 x10 x11 x12 x13 x14 (j 0) (j 1) (j 2) (j 3)

/-- One of their entries. -/
theorem stateC_at (x1 : Vec Ideal S16x32x1536 .f32) (x2 : Vec Ideal S16x32x128 .f32) (x4 : Vec Ideal S16x4x128x128 .f32) (x6 : Vec Ideal S16x4 .f32) (x7 : Vec Ideal S16x3x512 .f32) (x10 : Vec Ideal S4x128x128 .f32) (x11 : Vec Ideal S4x512 .f32) (x12 : Vec Ideal S512 .f32) (x13 : Vec Ideal S4 .f32) (x14 : Vec Ideal S4 .f32) (b : Fin 16) (h : Fin 4) (d e : Fin 128) :
    stateC x1 x2 x4 x6 x7 x10 x11 x12 x13 x14 (ix4 b h d e) = mlC (kM x1 x7 x10 x11 x12 b h) (vM x1 b h) (igM x2 x13 b h) (fM x2 x14 b h) (x6 (ix2 b h))
      (fun d e => x4 (ix4 b h d e)) d e := rfl

set_option maxHeartbeats 8000000 in
/-- The window after the launch holds these states. -/
theorem C_out (c : Dev nD) : (dats m 0 c).arrAt 21 cfg0.N = stateC (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 21 _ (by decide +kernel) fun t hf (y : S4x4x128x128.Idx) => ?_
  blk_simp
  rw [after0_21]
  unfold outsAt0
  frame_open
  frame_out
  refine (readCov_whole (s := S4x4x128x128) _ _ _ (by decide) y).trans ?_
  refine (tiles_mat _ _ _ _ _ _ _ _ _ _ _ _ _ _ _ _  _ (fun j => stateC (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) (ix4 (sq t (j 0)) (j 1) (j 2) (j 3))) _ _ _ _ _ _ _ _ _ _ _ _ _ _ _ _
    (fun d e => ?p33) (fun d e => ?p32) (fun d e => ?p31) (fun d e => ?p30) (fun d e => ?p23) (fun d e => ?p22) (fun d e => ?p21) (fun d e => ?p20) (fun d e => ?p13) (fun d e => ?p12) (fun d e => ?p11) (fun d e => ?p10) (fun d e => ?p03) (fun d e => ?p02) (fun d e => ?p01) (fun d e => ?p00) y).trans ?last
  case p33 | p23 | p13 | p03 =>
    refine Eq.trans ?_ (stateC_at _ _ _ _ _ _ _ _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    simp only [conv_fold]
    simp only [act_fold]
    refine (mlC_piece _ _ _ _ _ _ _ _ (fun s => row_col3 _ _ _ _ s) (fun s => (row_col7 _ _ _ _ s).symm) _ _ _ _).trans
      (mlC_congr (fun s d => ?_) (fun s d => ?_) (fun s => ?_) (fun s => ?_) ?_ (fun d e => ?_) d e)
    · pointwise [kM]
      refine congrArg (· * _) (Finset.sum_congr rfl fun l _ => congrArg₂ (· * ·) ?_ ?_)
      · refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
      · exact at12 m c t _ _ _
    · pointwise [vM]
      exact read1 m c t _ _ _ _ (by first | rfl | (dsimp only; omega) | (simp; omega))
    · pointwise [padV, igM]
      exact congrArg₂ (· + ·) (read2 m c t _ _ _ _ (by first | rfl | (dsimp only; omega) | (simp; omega))) (at15i m c t 3)
    · refine (col_cum7 _ _ s).trans (congrArg (fsum · s) (funext fun i => ?_))
      pointwise
      exact congrArg₂ (· + ·) (read2 m c t _ _ _ _ (by first | rfl | (dsimp only; omega) | (simp; omega))) (at15f m c t 3)
    · pointwise; exact at8 m c t _ _ _
    · pointwise; exact at6 m c t _ _ _ _
  case p32 | p22 | p12 | p02 =>
    refine Eq.trans ?_ (stateC_at _ _ _ _ _ _ _ _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    simp only [conv_fold]
    simp only [act_fold]
    refine (mlC_piece _ _ _ _ _ _ _ _ (fun s => row_col2 _ _ _ _ s) (fun s => (row_col6 _ _ _ _ s).symm) _ _ _ _).trans
      (mlC_congr (fun s d => ?_) (fun s d => ?_) (fun s => ?_) (fun s => ?_) ?_ (fun d e => ?_) d e)
    · pointwise [kM]
      refine congrArg (· * _) (Finset.sum_congr rfl fun l _ => congrArg₂ (· * ·) ?_ ?_)
      · refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
      · exact at12 m c t _ _ _
    · pointwise [vM]
      exact read1 m c t _ _ _ _ (by first | rfl | (dsimp only; omega) | (simp; omega))
    · pointwise [padV, igM]
      exact congrArg₂ (· + ·) (read2 m c t _ _ _ _ (by first | rfl | (dsimp only; omega) | (simp; omega))) (at15i m c t 2)
    · refine (col_cum6 _ _ s).trans (congrArg (fsum · s) (funext fun i => ?_))
      pointwise
      exact congrArg₂ (· + ·) (read2 m c t _ _ _ _ (by first | rfl | (dsimp only; omega) | (simp; omega))) (at15f m c t 2)
    · pointwise; exact at8 m c t _ _ _
    · pointwise; exact at6 m c t _ _ _ _
  case p31 | p21 | p11 | p01 =>
    refine Eq.trans ?_ (stateC_at _ _ _ _ _ _ _ _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    simp only [conv_fold]
    simp only [act_fold]
    refine (mlC_piece _ _ _ _ _ _ _ _ (fun s => row_col1 _ _ _ _ s) (fun s => (row_col5 _ _ _ _ s).symm) _ _ _ _).trans
      (mlC_congr (fun s d => ?_) (fun s d => ?_) (fun s => ?_) (fun s => ?_) ?_ (fun d e => ?_) d e)
    · pointwise [kM]
      refine congrArg (· * _) (Finset.sum_congr rfl fun l _ => congrArg₂ (· * ·) ?_ ?_)
      · refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
      · exact at12 m c t _ _ _
    · pointwise [vM]
      exact read1 m c t _ _ _ _ (by first | rfl | (dsimp only; omega) | (simp; omega))
    · pointwise [padV, igM]
      exact congrArg₂ (· + ·) (read2 m c t _ _ _ _ (by first | rfl | (dsimp only; omega) | (simp; omega))) (at15i m c t 1)
    · refine (col_cum5 _ _ s).trans (congrArg (fsum · s) (funext fun i => ?_))
      pointwise
      exact congrArg₂ (· + ·) (read2 m c t _ _ _ _ (by first | rfl | (dsimp only; omega) | (simp; omega))) (at15f m c t 1)
    · pointwise; exact at8 m c t _ _ _
    · pointwise; exact at6 m c t _ _ _ _
  case p30 | p20 | p10 | p00 =>
    refine Eq.trans ?_ (stateC_at _ _ _ _ _ _ _ _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    simp only [conv_fold]
    simp only [act_fold]
    refine (mlC_piece _ _ _ _ _ _ _ _ (fun s => row_col0 _ _ _ _ s) (fun s => (row_col4 _ _ _ _ s).symm) _ _ _ _).trans
      (mlC_congr (fun s d => ?_) (fun s d => ?_) (fun s => ?_) (fun s => ?_) ?_ (fun d e => ?_) d e)
    · pointwise [kM]
      refine congrArg (· * _) (Finset.sum_congr rfl fun l _ => congrArg₂ (· * ·) ?_ ?_)
      · refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
      · exact at12 m c t _ _ _
    · pointwise [vM]
      exact read1 m c t _ _ _ _ (by first | rfl | (dsimp only; omega) | (simp; omega))
    · pointwise [padV, igM]
      exact congrArg₂ (· + ·) (read2 m c t _ _ _ _ (by first | rfl | (dsimp only; omega) | (simp; omega))) (at15i m c t 0)
    · refine (col_cum4 _ _ s).trans (congrArg (fsum · s) (funext fun i => ?_))
      pointwise
      exact congrArg₂ (· + ·) (read2 m c t _ _ _ _ (by first | rfl | (dsimp only; omega) | (simp; omega))) (at15f m c t 0)
    · pointwise; exact at8 m c t _ _ _
    · pointwise; exact at6 m c t _ _ _ _
  case last =>
    idx_vars y
    exact (congrArg (stateC _ _ _ _ _ _ _ _ _ _) (emb21 t y0 y1 y2 y3)).symm

end Cert.Mixers
-- ==== Proof.MixersOutN.lean ====
/- The normaliser window of the mLSTM mixer holds the states after the block. -/
module

public import proofs.«01_k».proof.Defs
public import proofs.«01_k».proof.Proof.MixersValue
public import proofs.«01_k».proof.Proof.MixersCore
public import proofs.«01_k».proof.Proof.MixersRef
public import proofs.«01_k».proof.Proof.MixersHost
public import proofs.«01_k».proof.Proof.MixersDecay
public import proofs.«01_k».proof.Proof.MixersStep
public import proofs.«01_k».proof.Proof.MixersFold
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Mixers.Ref

/-- The normaliser states the launch leaves. -/
def stateN (x1 : Vec Ideal S16x32x1536 .f32) (x2 : Vec Ideal S16x32x128 .f32) (x5 : Vec Ideal S16x4x128 .f32) (x6 : Vec Ideal S16x4 .f32) (x7 : Vec Ideal S16x3x512 .f32) (x10 : Vec Ideal S4x128x128 .f32) (x11 : Vec Ideal S4x512 .f32) (x12 : Vec Ideal S512 .f32) (x13 : Vec Ideal S4 .f32) (x14 : Vec Ideal S4 .f32) : Vec Ideal S16x4x128 .f32 :=
  fun j => nM x1 x2 x5 x6 x7 x10 x11 x12 x13 x14 (j 0) (j 1) (j 2)

/-- One of their entries. -/
theorem stateN_at (x1 : Vec Ideal S16x32x1536 .f32) (x2 : Vec Ideal S16x32x128 .f32) (x5 : Vec Ideal S16x4x128 .f32) (x6 : Vec Ideal S16x4 .f32) (x7 : Vec Ideal S16x3x512 .f32) (x10 : Vec Ideal S4x128x128 .f32) (x11 : Vec Ideal S4x512 .f32) (x12 : Vec Ideal S512 .f32) (x13 : Vec Ideal S4 .f32) (x14 : Vec Ideal S4 .f32) (b : Fin 16) (h : Fin 4) (d : Fin 128) :
    stateN x1 x2 x5 x6 x7 x10 x11 x12 x13 x14 (ix3 b h d) = mlN (kM x1 x7 x10 x11 x12 b h) (igM x2 x13 b h) (fM x2 x14 b h) (x6 (ix2 b h))
      (fun d => x5 (ix3 b h d)) d := rfl

set_option maxHeartbeats 8000000 in
/-- The window after the launch holds these states. -/
theorem n_out (c : Dev nD) : (dats m 0 c).arrAt 22 cfg0.N = stateN (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 22 _ (by decide +kernel) fun t hf (y : S4x4x128.Idx) => ?_
  blk_simp
  rw [after0_22]
  unfold outsAt0
  frame_open
  frame_out
  refine (readCov_whole (s := S4x4x128) _ _ _ (by decide) y).trans ?_
  refine (tiles_vec _ _ _ _ _ _ _ _ _ _ _ _ _ _ _ _  _ (fun j => stateN (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) (ix3 (sq t (j 0)) (j 1) (j 2))) _ _ _ _ _ _ _ _ _ _ _ _ _ _ _ _
    (fun d => ?p33) (fun d => ?p32) (fun d => ?p31) (fun d => ?p30) (fun d => ?p23) (fun d => ?p22) (fun d => ?p21) (fun d => ?p20) (fun d => ?p13) (fun d => ?p12) (fun d => ?p11) (fun d => ?p10) (fun d => ?p03) (fun d => ?p02) (fun d => ?p01) (fun d => ?p00) y).trans ?last
  case p33 | p23 | p13 | p03 =>
    refine Eq.trans ?_ (stateN_at _ _ _ _ _ _ _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    simp only [conv_fold]
    simp only [act_fold]
    refine (mlN_piece _ _ _ _ _ _ _ (fun s => row_col3 _ _ _ _ s) (fun s => (row_col7 _ _ _ _ s).symm) _ _ _).trans
      (mlN_congr (fun s d => ?_) (fun s => ?_) (fun s => ?_) ?_ (fun d => ?_) d)
    · pointwise [kM]
      refine congrArg (· * _) (Finset.sum_congr rfl fun l _ => congrArg₂ (· * ·) ?_ ?_)
      · refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
      · exact at12 m c t _ _ _
    · pointwise [padV, igM]
      exact congrArg₂ (· + ·) (read2 m c t _ _ _ _ (by first | rfl | (dsimp only; omega) | (simp; omega))) (at15i m c t 3)
    · refine (col_cum7 _ _ s).trans (congrArg (fsum · s) (funext fun i => ?_))
      pointwise
      exact congrArg₂ (· + ·) (read2 m c t _ _ _ _ (by first | rfl | (dsimp only; omega) | (simp; omega))) (at15f m c t 3)
    · pointwise; exact at8 m c t _ _ _
    · pointwise; exact at7 m c t _ _ _
  case p32 | p22 | p12 | p02 =>
    refine Eq.trans ?_ (stateN_at _ _ _ _ _ _ _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    simp only [conv_fold]
    simp only [act_fold]
    refine (mlN_piece _ _ _ _ _ _ _ (fun s => row_col2 _ _ _ _ s) (fun s => (row_col6 _ _ _ _ s).symm) _ _ _).trans
      (mlN_congr (fun s d => ?_) (fun s => ?_) (fun s => ?_) ?_ (fun d => ?_) d)
    · pointwise [kM]
      refine congrArg (· * _) (Finset.sum_congr rfl fun l _ => congrArg₂ (· * ·) ?_ ?_)
      · refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
      · exact at12 m c t _ _ _
    · pointwise [padV, igM]
      exact congrArg₂ (· + ·) (read2 m c t _ _ _ _ (by first | rfl | (dsimp only; omega) | (simp; omega))) (at15i m c t 2)
    · refine (col_cum6 _ _ s).trans (congrArg (fsum · s) (funext fun i => ?_))
      pointwise
      exact congrArg₂ (· + ·) (read2 m c t _ _ _ _ (by first | rfl | (dsimp only; omega) | (simp; omega))) (at15f m c t 2)
    · pointwise; exact at8 m c t _ _ _
    · pointwise; exact at7 m c t _ _ _
  case p31 | p21 | p11 | p01 =>
    refine Eq.trans ?_ (stateN_at _ _ _ _ _ _ _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    simp only [conv_fold]
    simp only [act_fold]
    refine (mlN_piece _ _ _ _ _ _ _ (fun s => row_col1 _ _ _ _ s) (fun s => (row_col5 _ _ _ _ s).symm) _ _ _).trans
      (mlN_congr (fun s d => ?_) (fun s => ?_) (fun s => ?_) ?_ (fun d => ?_) d)
    · pointwise [kM]
      refine congrArg (· * _) (Finset.sum_congr rfl fun l _ => congrArg₂ (· * ·) ?_ ?_)
      · refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
      · exact at12 m c t _ _ _
    · pointwise [padV, igM]
      exact congrArg₂ (· + ·) (read2 m c t _ _ _ _ (by first | rfl | (dsimp only; omega) | (simp; omega))) (at15i m c t 1)
    · refine (col_cum5 _ _ s).trans (congrArg (fsum · s) (funext fun i => ?_))
      pointwise
      exact congrArg₂ (· + ·) (read2 m c t _ _ _ _ (by first | rfl | (dsimp only; omega) | (simp; omega))) (at15f m c t 1)
    · pointwise; exact at8 m c t _ _ _
    · pointwise; exact at7 m c t _ _ _
  case p30 | p20 | p10 | p00 =>
    refine Eq.trans ?_ (stateN_at _ _ _ _ _ _ _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    simp only [conv_fold]
    simp only [act_fold]
    refine (mlN_piece _ _ _ _ _ _ _ (fun s => row_col0 _ _ _ _ s) (fun s => (row_col4 _ _ _ _ s).symm) _ _ _).trans
      (mlN_congr (fun s d => ?_) (fun s => ?_) (fun s => ?_) ?_ (fun d => ?_) d)
    · pointwise [kM]
      refine congrArg (· * _) (Finset.sum_congr rfl fun l _ => congrArg₂ (· * ·) ?_ ?_)
      · refine actV_at _ _ _ _ _ _ _ _ _ _ _ _ (fun d => ?_) (fun d => ?_) (fun d => ?_) (fun d => ?_) (fun d => ?_) (fun p d => ?_) (fun s d => ?_) _ _
        · pointwise; exact at14 m c t _
        · pointwise; exact at13 m c t _ _
        · pointwise; exact at13 m c t _ _
        · pointwise; exact at13 m c t _ _
        · pointwise; exact at13 m c t _ _
        · pointwise; exact at9 m c t _ p _
        · pointwise; exact read1 m c t _ _ _ _ (by first | rfl | (dsimp only; omega) | (simp; omega))
      · exact at12 m c t _ _ _
    · pointwise [padV, igM]
      exact congrArg₂ (· + ·) (read2 m c t _ _ _ _ (by first | rfl | (dsimp only; omega) | (simp; omega))) (at15i m c t 0)
    · refine (col_cum4 _ _ s).trans (congrArg (fsum · s) (funext fun i => ?_))
      pointwise
      exact congrArg₂ (· + ·) (read2 m c t _ _ _ _ (by first | rfl | (dsimp only; omega) | (simp; omega))) (at15f m c t 0)
    · pointwise; exact at8 m c t _ _ _
    · pointwise; exact at7 m c t _ _ _
  case last =>
    idx_vars y
    exact (congrArg (stateN _ _ _ _ _ _ _ _ _ _ ) (emb22 t y0 y1 y2)).symm

end Cert.Mixers
-- ==== Proof.MixersOutM.lean ====
/- The stabiliser window of the mLSTM mixer holds the states after the block. -/
module

public import proofs.«01_k».proof.Defs
public import proofs.«01_k».proof.Proof.MixersValue
public import proofs.«01_k».proof.Proof.MixersCore
public import proofs.«01_k».proof.Proof.MixersRef
public import proofs.«01_k».proof.Proof.MixersHost
public import proofs.«01_k».proof.Proof.MixersDecay
public import proofs.«01_k».proof.Proof.MixersStep
public import proofs.«01_k».proof.Proof.MixersFold
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Mixers.Ref

/-- The stabiliser states the launch leaves, each of them on every lane. -/
def stateM (x2 : Vec Ideal S16x32x128 .f32) (x6 : Vec Ideal S16x4 .f32) (x13 : Vec Ideal S4 .f32) (x14 : Vec Ideal S4 .f32) : Vec Ideal S16x4x128 .f32 :=
  fun j => mM x2 x6 x13 x14 (j 0) (j 1)

/-- One of their entries. -/
theorem stateM_at (x2 : Vec Ideal S16x32x128 .f32) (x6 : Vec Ideal S16x4 .f32) (x13 : Vec Ideal S4 .f32) (x14 : Vec Ideal S4 .f32) (b : Fin 16) (h : Fin 4) (d : Fin 128) :
    stateM x2 x6 x13 x14 (ix3 b h d) = stab (igM x2 x13 b h) (fM x2 x14 b h) (x6 (ix2 b h)) 31 := rfl

set_option maxHeartbeats 8000000 in
/-- The window after the launch holds these states. -/
theorem m_out (c : Dev nD) : (dats m 0 c).arrAt 23 cfg0.N = stateM (m ((c : Thread nD τ).loc main_arg2)) (m ((c : Thread nD τ).loc main_arg6)) (m ((c : Thread nD τ).loc main_arg13)) (m ((c : Thread nD τ).loc main_arg14)) := by
  refine (dats m 0 c).arrAt_eq_of_covers 23 _ (by decide +kernel) fun t hf (y : S4x4x128.Idx) => ?_
  blk_simp
  rw [after0_23]
  unfold outsAt0
  frame_open
  frame_out
  refine (readCov_whole (s := S4x4x128) _ _ _ (by decide) y).trans ?_
  refine (tiles_vec _ _ _ _ _ _ _ _ _ _ _ _ _ _ _ _  _ (fun j => stateM (m ((c : Thread nD τ).loc main_arg2)) (m ((c : Thread nD τ).loc main_arg6)) (m ((c : Thread nD τ).loc main_arg13)) (m ((c : Thread nD τ).loc main_arg14)) (ix3 (sq t (j 0)) (j 1) (j 2))) _ _ _ _ _ _ _ _ _ _ _ _ _ _ _ _
    (fun d => ?p33) (fun d => ?p32) (fun d => ?p31) (fun d => ?p30) (fun d => ?p23) (fun d => ?p22) (fun d => ?p21) (fun d => ?p20) (fun d => ?p13) (fun d => ?p12) (fun d => ?p11) (fun d => ?p10) (fun d => ?p03) (fun d => ?p02) (fun d => ?p01) (fun d => ?p00) y).trans ?last
  case p33 | p23 | p13 | p03 =>
    refine Eq.trans ?_ (stateM_at _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    refine (stab_piece _ _ _ _ (fun s => (row_col7 _ _ _ _ s).symm) _ _ _).trans
      (stab_congr (fun s => ?_) (fun s => ?_) ?_ 31)
    · pointwise [padV, igM]
      exact congrArg₂ (· + ·) (read2 m c t _ _ _ _ (by first | rfl | (dsimp only; omega) | (simp; omega))) (at15i m c t 3)
    · refine (col_cum7 _ _ s).trans (congrArg (fsum · s) (funext fun i => ?_))
      pointwise
      exact congrArg₂ (· + ·) (read2 m c t _ _ _ _ (by first | rfl | (dsimp only; omega) | (simp; omega))) (at15f m c t 3)
    · pointwise; exact at8 m c t _ _ _
  case p32 | p22 | p12 | p02 =>
    refine Eq.trans ?_ (stateM_at _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    refine (stab_piece _ _ _ _ (fun s => (row_col6 _ _ _ _ s).symm) _ _ _).trans
      (stab_congr (fun s => ?_) (fun s => ?_) ?_ 31)
    · pointwise [padV, igM]
      exact congrArg₂ (· + ·) (read2 m c t _ _ _ _ (by first | rfl | (dsimp only; omega) | (simp; omega))) (at15i m c t 2)
    · refine (col_cum6 _ _ s).trans (congrArg (fsum · s) (funext fun i => ?_))
      pointwise
      exact congrArg₂ (· + ·) (read2 m c t _ _ _ _ (by first | rfl | (dsimp only; omega) | (simp; omega))) (at15f m c t 2)
    · pointwise; exact at8 m c t _ _ _
  case p31 | p21 | p11 | p01 =>
    refine Eq.trans ?_ (stateM_at _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    refine (stab_piece _ _ _ _ (fun s => (row_col5 _ _ _ _ s).symm) _ _ _).trans
      (stab_congr (fun s => ?_) (fun s => ?_) ?_ 31)
    · pointwise [padV, igM]
      exact congrArg₂ (· + ·) (read2 m c t _ _ _ _ (by first | rfl | (dsimp only; omega) | (simp; omega))) (at15i m c t 1)
    · refine (col_cum5 _ _ s).trans (congrArg (fsum · s) (funext fun i => ?_))
      pointwise
      exact congrArg₂ (· + ·) (read2 m c t _ _ _ _ (by first | rfl | (dsimp only; omega) | (simp; omega))) (at15f m c t 1)
    · pointwise; exact at8 m c t _ _ _
  case p30 | p20 | p10 | p00 =>
    refine Eq.trans ?_ (stateM_at _ _ _ _ _ _ _ ).symm
    open_payloads
    simp (disch := decide) only [↓ cat_fold, ↓ pad_fold, ↓ tail_fold, ↓ lsig_fold, ↓ cum_fold, ↓ View.readCov_skip,
      ↓ View.readCov_cons_toLoadRect, ↓ View.readCov_fill, View.ld_unit_lit', View.readAt_eq_ld, Memref.IsWhole.read_unread]
    refine (stab_piece _ _ _ _ (fun s => (row_col4 _ _ _ _ s).symm) _ _ _).trans
      (stab_congr (fun s => ?_) (fun s => ?_) ?_ 31)
    · pointwise [padV, igM]
      exact congrArg₂ (· + ·) (read2 m c t _ _ _ _ (by first | rfl | (dsimp only; omega) | (simp; omega))) (at15i m c t 0)
    · refine (col_cum4 _ _ s).trans (congrArg (fsum · s) (funext fun i => ?_))
      pointwise
      exact congrArg₂ (· + ·) (read2 m c t _ _ _ _ (by first | rfl | (dsimp only; omega) | (simp; omega))) (at15f m c t 0)
    · pointwise; exact at8 m c t _ _ _
  case last =>
    idx_vars y
    exact (congrArg (stateM _ _ _ _ ) (emb23 t y0 y1 y2)).symm

end Cert.Mixers
-- ==== Proof.MixersOutT.lean ====
/- The tail window holds the last eight rows of each block of the mLSTM mixer's input. -/
module

public import proofs.«01_k».proof.Defs
public import proofs.«01_k».proof.Proof.MixersValue
public import proofs.«01_k».proof.Proof.MixersCore
public import proofs.«01_k».proof.Proof.MixersRef
public import proofs.«01_k».proof.Proof.MixersHost
public import proofs.«01_k».proof.Proof.MixersDecay
public import proofs.«01_k».proof.Proof.MixersStep
public import proofs.«01_k».proof.Proof.MixersFold
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Mixers

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Cert.Mixers.Ref

/-- The last eight rows of a block. -/
def tails (x : Vec Ideal S16x32x1536 .f32) : Vec Ideal S16x8x512 .f32 := fun j =>
  x (ix3 (j 0) ⟨24 + (j 1).val, by have := (j 1).isLt; change (j 1).val < 8 at this; omega⟩ ⟨(j 2).val, by have := (j 2).isLt; change (j 2).val < 512 at this; omega⟩)

/-- One of their entries. -/
theorem tails_at (x : Vec Ideal S16x32x1536 .f32) (b : Fin 16) (s : Fin 8) (l : Fin 512) :
    tails x (ix3 b s l) = x (ix3 b ⟨24 + s.val, by omega⟩ ⟨l.val, by omega⟩) := rfl

set_option maxHeartbeats 8000000 in
/-- The window after the launch holds these rows. -/
theorem tails_out (c : Dev nD) : (dats m 0 c).arrAt 24 cfg0.N = tails (m ((c : Thread nD τ).loc main_arg1)) := by
  refine (dats m 0 c).arrAt_eq_of_covers 24 _ (by decide +kernel) fun t hf (y : S4x8x512.Idx) => ?_
  blk_simp
  rw [after0_24]
  unfold outsAt0
  frame_open
  frame_out
  refine (readCov_whole (s := S4x8x512) _ _ _ (by decide) y).trans ?_
  refine (tiles_tail _ _ _ _ _ (fun j => tails (m ((c : Thread nD τ).loc main_arg1)) (ix3 (sq t (j 0)) (j 1) (j 2))) _ _ _ _
    (fun s l => ?p3) (fun s l => ?p2) (fun s l => ?p1) (fun s l => ?p0) y).trans ?last
  case p3 | p2 | p1 | p0 =>
    refine Eq.trans ?_ (tails_at _ _ _ _).symm
    open_payloads
    pointwise
    exact read1 m c t _ _ _ _ (by first | rfl | (dsimp only; omega) | (simp; omega))
  case last =>
    idx_vars y
    exact (congrArg (tails _) (emb24 t y0 y1 y2)).symm

end Cert.Mixers
-- ==== Proof.Mixers.lean ====
/- The token mixers' launch and the reference: each of the seven results is one function of the arguments, which both
   programs compute. -/
module

public import proofs.«01_k».proof.Defs
public import proofs.«01_k».proof.Proof.MixersOutR
public import proofs.«01_k».proof.Proof.MixersOutL
public import proofs.«01_k».proof.Proof.MixersOutS
public import proofs.«01_k».proof.Proof.MixersOutC
public import proofs.«01_k».proof.Proof.MixersOutN
public import proofs.«01_k».proof.Proof.MixersOutM
public import proofs.«01_k».proof.Proof.MixersOutT
public import proofs.«01_k».proof.Proof.MixersValue
public import proofs.«01_k».proof.Proof.MixersRef
public import proofs.«01_k».proof.Proof.Gen.ReferenceIdeal.Read

@[expose] public section

set_option maxRecDepth 16384

noncomputable section

namespace Cert.Mixers

open Cert.KernelIdeal Cert.KernelIdeal.Gen Idealize.ShloMosaic Idealize.ShloMosaic.TcCoe Idealize.SL.Sem Cert.Mixers.Ref

/-- The reference's retention output is that function. -/
theorem ref_yr (x0 : Vec Ideal S16x32x2048 .f32) (x3 : Vec Ideal S16x4x128x128 .f32) (x8 : Vec Ideal S512 .f32) : Cert.ReferenceIdeal.Read.val_main_v341 (F := Ideal) x0 x3 x8 = outR x0 x3 x8 := by
  funext (y : S16x32x512.Idx)
  idx_vars y
  exact yr_at _ _ _ _ _ _

theorem outR_congr {x0 : Vec Ideal S16x32x2048 .f32} {x3 : Vec Ideal S16x4x128x128 .f32} {x8 : Vec Ideal S512 .f32} {z0 : Vec Ideal S16x32x2048 .f32} {z3 : Vec Ideal S16x4x128x128 .f32} {z8 : Vec Ideal S512 .f32}
    (h0 : x0 = z0) (h3 : x3 = z3) (h8 : x8 = z8) : outR x0 x3 x8 = outR z0 z3 z8 := by
  subst h0 h3 h8
  rfl

/-- The reference's mLSTM output is that function. -/
theorem ref_ym (x1 : Vec Ideal S16x32x1536 .f32) (x2 : Vec Ideal S16x32x128 .f32) (x4 : Vec Ideal S16x4x128x128 .f32) (x5 : Vec Ideal S16x4x128 .f32) (x6 : Vec Ideal S16x4 .f32) (x7 : Vec Ideal S16x3x512 .f32) (x9 : Vec Ideal S4x128x128 .f32) (x10 : Vec Ideal S4x128x128 .f32) (x11 : Vec Ideal S4x512 .f32) (x12 : Vec Ideal S512 .f32) (x13 : Vec Ideal S4 .f32) (x14 : Vec Ideal S4 .f32) (x15 : Vec Ideal S512 .f32) (x16 : Vec Ideal S512 .f32) : Cert.ReferenceIdeal.Read.val_main_v342 (F := Ideal) x1 x2 x4 x5 x6 x7 x9 x10 x11 x12 x13 x14 x15 x16 = outL x1 x2 x4 x5 x6 x7 x9 x10 x11 x12 x13 x14 x15 x16 := by
  funext (y : S16x32x512.Idx)
  idx_vars y
  exact ym_at _ _ _ _ _ _ _ _ _ _ _ _ _ _ _ _ _

theorem outL_congr {x1 : Vec Ideal S16x32x1536 .f32} {x2 : Vec Ideal S16x32x128 .f32} {x4 : Vec Ideal S16x4x128x128 .f32} {x5 : Vec Ideal S16x4x128 .f32} {x6 : Vec Ideal S16x4 .f32} {x7 : Vec Ideal S16x3x512 .f32} {x9 : Vec Ideal S4x128x128 .f32} {x10 : Vec Ideal S4x128x128 .f32} {x11 : Vec Ideal S4x512 .f32} {x12 : Vec Ideal S512 .f32} {x13 : Vec Ideal S4 .f32} {x14 : Vec Ideal S4 .f32} {x15 : Vec Ideal S512 .f32} {x16 : Vec Ideal S512 .f32} {z1 : Vec Ideal S16x32x1536 .f32} {z2 : Vec Ideal S16x32x128 .f32} {z4 : Vec Ideal S16x4x128x128 .f32} {z5 : Vec Ideal S16x4x128 .f32} {z6 : Vec Ideal S16x4 .f32} {z7 : Vec Ideal S16x3x512 .f32} {z9 : Vec Ideal S4x128x128 .f32} {z10 : Vec Ideal S4x128x128 .f32} {z11 : Vec Ideal S4x512 .f32} {z12 : Vec Ideal S512 .f32} {z13 : Vec Ideal S4 .f32} {z14 : Vec Ideal S4 .f32} {z15 : Vec Ideal S512 .f32} {z16 : Vec Ideal S512 .f32}
    (h1 : x1 = z1) (h2 : x2 = z2) (h4 : x4 = z4) (h5 : x5 = z5) (h6 : x6 = z6) (h7 : x7 = z7) (h9 : x9 = z9) (h10 : x10 = z10) (h11 : x11 = z11) (h12 : x12 = z12) (h13 : x13 = z13) (h14 : x14 = z14) (h15 : x15 = z15) (h16 : x16 = z16) : outL x1 x2 x4 x5 x6 x7 x9 x10 x11 x12 x13 x14 x15 x16 = outL z1 z2 z4 z5 z6 z7 z9 z10 z11 z12 z13 z14 z15 z16 := by
  subst h1 h2 h4 h5 h6 h7 h9 h10 h11 h12 h13 h14 h15 h16
  rfl

/-- The reference's retention states are that function. -/
theorem ref_S (x0 : Vec Ideal S16x32x2048 .f32) (x3 : Vec Ideal S16x4x128x128 .f32) : Cert.ReferenceIdeal.Read.val_main_v219 (F := Ideal) x0 x3 = stateR x0 x3 := by
  funext (y : S16x4x128x128.Idx)
  idx_vars y
  exact S_at _ _ _ _ _ _

theorem stateR_congr {x0 : Vec Ideal S16x32x2048 .f32} {x3 : Vec Ideal S16x4x128x128 .f32} {z0 : Vec Ideal S16x32x2048 .f32} {z3 : Vec Ideal S16x4x128x128 .f32}
    (h0 : x0 = z0) (h3 : x3 = z3) : stateR x0 x3 = stateR z0 z3 := by
  subst h0 h3
  rfl

/-- The reference's matrix states are that function. -/
theorem ref_C (x1 : Vec Ideal S16x32x1536 .f32) (x2 : Vec Ideal S16x32x128 .f32) (x4 : Vec Ideal S16x4x128x128 .f32) (x6 : Vec Ideal S16x4 .f32) (x7 : Vec Ideal S16x3x512 .f32) (x10 : Vec Ideal S4x128x128 .f32) (x11 : Vec Ideal S4x512 .f32) (x12 : Vec Ideal S512 .f32) (x13 : Vec Ideal S4 .f32) (x14 : Vec Ideal S4 .f32) : Cert.ReferenceIdeal.Read.val_main_v282 (F := Ideal) x1 x2 x4 x6 x7 x10 x11 x12 x13 x14 = stateC x1 x2 x4 x6 x7 x10 x11 x12 x13 x14 := by
  funext (y : S16x4x128x128.Idx)
  idx_vars y
  exact C_at _ _ _ _ _ _ _ _ _ _ _ _ _ _

theorem stateC_congr {x1 : Vec Ideal S16x32x1536 .f32} {x2 : Vec Ideal S16x32x128 .f32} {x4 : Vec Ideal S16x4x128x128 .f32} {x6 : Vec Ideal S16x4 .f32} {x7 : Vec Ideal S16x3x512 .f32} {x10 : Vec Ideal S4x128x128 .f32} {x11 : Vec Ideal S4x512 .f32} {x12 : Vec Ideal S512 .f32} {x13 : Vec Ideal S4 .f32} {x14 : Vec Ideal S4 .f32} {z1 : Vec Ideal S16x32x1536 .f32} {z2 : Vec Ideal S16x32x128 .f32} {z4 : Vec Ideal S16x4x128x128 .f32} {z6 : Vec Ideal S16x4 .f32} {z7 : Vec Ideal S16x3x512 .f32} {z10 : Vec Ideal S4x128x128 .f32} {z11 : Vec Ideal S4x512 .f32} {z12 : Vec Ideal S512 .f32} {z13 : Vec Ideal S4 .f32} {z14 : Vec Ideal S4 .f32}
    (h1 : x1 = z1) (h2 : x2 = z2) (h4 : x4 = z4) (h6 : x6 = z6) (h7 : x7 = z7) (h10 : x10 = z10) (h11 : x11 = z11) (h12 : x12 = z12) (h13 : x13 = z13) (h14 : x14 = z14) : stateC x1 x2 x4 x6 x7 x10 x11 x12 x13 x14 = stateC z1 z2 z4 z6 z7 z10 z11 z12 z13 z14 := by
  subst h1 h2 h4 h6 h7 h10 h11 h12 h13 h14
  rfl

/-- The reference's normalisers are that function. -/
theorem ref_n (x1 : Vec Ideal S16x32x1536 .f32) (x2 : Vec Ideal S16x32x128 .f32) (x5 : Vec Ideal S16x4x128 .f32) (x6 : Vec Ideal S16x4 .f32) (x7 : Vec Ideal S16x3x512 .f32) (x10 : Vec Ideal S4x128x128 .f32) (x11 : Vec Ideal S4x512 .f32) (x12 : Vec Ideal S512 .f32) (x13 : Vec Ideal S4 .f32) (x14 : Vec Ideal S4 .f32) : Cert.ReferenceIdeal.Read.val_main_v287 (F := Ideal) x1 x2 x5 x6 x7 x10 x11 x12 x13 x14 = stateN x1 x2 x5 x6 x7 x10 x11 x12 x13 x14 := by
  funext (y : S16x4x128.Idx)
  idx_vars y
  exact n_at _ _ _ _ _ _ _ _ _ _ _ _ _

theorem stateN_congr {x1 : Vec Ideal S16x32x1536 .f32} {x2 : Vec Ideal S16x32x128 .f32} {x5 : Vec Ideal S16x4x128 .f32} {x6 : Vec Ideal S16x4 .f32} {x7 : Vec Ideal S16x3x512 .f32} {x10 : Vec Ideal S4x128x128 .f32} {x11 : Vec Ideal S4x512 .f32} {x12 : Vec Ideal S512 .f32} {x13 : Vec Ideal S4 .f32} {x14 : Vec Ideal S4 .f32} {z1 : Vec Ideal S16x32x1536 .f32} {z2 : Vec Ideal S16x32x128 .f32} {z5 : Vec Ideal S16x4x128 .f32} {z6 : Vec Ideal S16x4 .f32} {z7 : Vec Ideal S16x3x512 .f32} {z10 : Vec Ideal S4x128x128 .f32} {z11 : Vec Ideal S4x512 .f32} {z12 : Vec Ideal S512 .f32} {z13 : Vec Ideal S4 .f32} {z14 : Vec Ideal S4 .f32}
    (h1 : x1 = z1) (h2 : x2 = z2) (h5 : x5 = z5) (h6 : x6 = z6) (h7 : x7 = z7) (h10 : x10 = z10) (h11 : x11 = z11) (h12 : x12 = z12) (h13 : x13 = z13) (h14 : x14 = z14) : stateN x1 x2 x5 x6 x7 x10 x11 x12 x13 x14 = stateN z1 z2 z5 z6 z7 z10 z11 z12 z13 z14 := by
  subst h1 h2 h5 h6 h7 h10 h11 h12 h13 h14
  rfl

/-- The reference's stabilisers are that function. -/
theorem ref_m (x2 : Vec Ideal S16x32x128 .f32) (x6 : Vec Ideal S16x4 .f32) (x13 : Vec Ideal S4 .f32) (x14 : Vec Ideal S4 .f32) : Cert.ReferenceIdeal.Read.val_main_v337 (F := Ideal) x2 x6 x13 x14 = stateM x2 x6 x13 x14 := by
  funext (y : S16x4x128.Idx)
  idx_vars y
  exact m_at _ _ _ _ _ _ _

theorem stateM_congr {x2 : Vec Ideal S16x32x128 .f32} {x6 : Vec Ideal S16x4 .f32} {x13 : Vec Ideal S4 .f32} {x14 : Vec Ideal S4 .f32} {z2 : Vec Ideal S16x32x128 .f32} {z6 : Vec Ideal S16x4 .f32} {z13 : Vec Ideal S4 .f32} {z14 : Vec Ideal S4 .f32}
    (h2 : x2 = z2) (h6 : x6 = z6) (h13 : x13 = z13) (h14 : x14 = z14) : stateM x2 x6 x13 x14 = stateM z2 z6 z13 z14 := by
  subst h2 h6 h13 h14
  rfl

/-- The reference's tail is that function. -/
theorem ref_ct (x1 : Vec Ideal S16x32x1536 .f32) (x7 : Vec Ideal S16x3x512 .f32) : Cert.ReferenceIdeal.Read.val_main_v340 (F := Ideal) x1 x7 = tails x1 := by
  funext (y : S16x8x512.Idx)
  idx_vars y
  exact ct_at _ _ _ _ _

variable (m : (ℓ : Loc nD τ sig) → Buf (Elt Ideal) ℓ) (ρ : Dev nD → PrngReg)

/-- The launch's run, its seven result arrays read. -/
theorem run : θ_run defs (onTc (τ := τ) (main (F := Ideal))) ⟨m, fun _ => 0, ρ⟩ fun r => ∀ c : Dev nD,
      r.2.mem ((c : Thread nD τ).loc main_v32_0) = outR (m ((c : Thread nD τ).loc main_arg0)) (m ((c : Thread nD τ).loc main_arg3)) (m ((c : Thread nD τ).loc main_arg8))
      ∧ r.2.mem ((c : Thread nD τ).loc main_v32_1) = outL (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v32_2) = stateR (m ((c : Thread nD τ).loc main_arg0)) (m ((c : Thread nD τ).loc main_arg3))
      ∧ r.2.mem ((c : Thread nD τ).loc main_v32_3) = stateC (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v32_4) = stateN (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v32_5) = stateM (m ((c : Thread nD τ).loc main_arg2)) (m ((c : Thread nD τ).loc main_arg6)) (m ((c : Thread nD τ).loc main_arg13)) (m ((c : Thread nD τ).loc main_arg14))
      ∧ r.2.mem ((c : Thread nD τ).loc main_v32_6) = tails (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun _ h c => ⟨(h c).1.trans (yr_out m c), (h c).2.1.trans (ym_out m c), (h c).2.2.1.trans (S_out m c), (h c).2.2.2.1.trans (C_out m c), (h c).2.2.2.2.1.trans (n_out m c), (h c).2.2.2.2.2.1.trans (m_out m c), (h c).2.2.2.2.2.2.1.trans (tails_out m c), (h c).2.2.2.2.2.2.2⟩)
    (Cert.KernelIdeal.Value.run_blocks m ρ)

/-- Both programs' seven results are the same functions of arguments that agree. -/
theorem algebraic : Cert.algebraic_KernelIdeal_ReferenceIdeal := by
  intro m ρ m' ρ' _ hagree
  refine ⟨_, _, _, _, _, _, _, run m ρ, ?_⟩
  refine (θ_run Cert.ReferenceIdeal.defs _ _).mono
    (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Cert.ReferenceIdeal.Value.run (F := Ideal) m' ρ')
  all_goals
    obtain ⟨h0, h1, h2, h3, h4, h5, h6, h7, h8, h9, h10, h11, h12, h13, h14, h15, h16⟩ := hagree c
  · exact (Cert.ReferenceIdeal.Read.val_main_v341_eq _).trans ((ref_yr _ _ _ ).trans (outR_congr h0 h3 h8))
  · exact (Cert.ReferenceIdeal.Read.val_main_v342_eq _).trans ((ref_ym _ _ _ _ _ _ _ _ _ _ _ _ _ _ ).trans (outL_congr h1 h2 h4 h5 h6 h7 h9 h10 h11 h12 h13 h14 h15 h16))
  · exact (Cert.ReferenceIdeal.Read.val_main_v219_eq _).trans ((ref_S _ _ ).trans (stateR_congr h0 h3))
  · exact (Cert.ReferenceIdeal.Read.val_main_v282_eq _).trans ((ref_C _ _ _ _ _ _ _ _ _ _ ).trans (stateC_congr h1 h2 h4 h6 h7 h10 h11 h12 h13 h14))
  · exact (Cert.ReferenceIdeal.Read.val_main_v287_eq _).trans ((ref_n _ _ _ _ _ _ _ _ _ _ ).trans (stateN_congr h1 h2 h5 h6 h7 h10 h11 h12 h13 h14))
  · exact (Cert.ReferenceIdeal.Read.val_main_v337_eq _).trans ((ref_m _ _ _ _ ).trans (stateM_congr h2 h6 h13 h14))
  · exact (Cert.ReferenceIdeal.Read.val_main_v340_eq _).trans ((ref_ct _ _ ).trans (congrArg tails h1))

end Cert.Mixers
-- ==== Proof.lean ====
/- The claims of the certificate, each from its own module: the frames from the generated runs, the value
   claims of the input projection, the merge of the branches and the last norm from InProj, Merge and Embed, and that
   of the token mixers from Mixers. -/
module

public import proofs.«01_k».proof.Defs
public import proofs.«01_k».proof.Proof.MixersLaunch
public import proofs.«01_k».proof.Proof.MixersFrame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Names
public import proofs.«01_k».proof.Proof.InProj
public import proofs.«01_k».proof.Proof.Merge
public import proofs.«01_k».proof.Proof.Embed
public import proofs.«01_k».proof.Proof.Mixers
public import Idealize.ShloMosaic.Lib.Quiescent
public import Idealize.ShloMosaic.Adequacy
public import Idealize.ShloMosaic.Init

@[expose] public section

noncomputable section

namespace Cert.Proof

open Idealize.ShloMosaic Idealize.SL.Sem

theorem frame_k : Cert.quiescent_Kernel := fun m ρ _ => Cert.Kernel.Gen.frame m ρ
theorem frame_ki : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

theorem frame_k2 : Cert.quiescent_Kernel2 := fun m ρ _ => Cert.Kernel2.Gen.frame m ρ
theorem frame_ki2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem frame_k3 : Cert.quiescent_Kernel3 := fun m ρ _ => Cert.Kernel3.Gen.frame m ρ
theorem frame_ki3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_k4 : Cert.quiescent_Kernel4 := fun m ρ _ => Cert.Kernel4.Gen.frame m ρ
theorem frame_ki4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    frame_k, frame_ki, frame_ri, frame_k2, frame_ki2, frame_ri2, frame_k3, frame_ki3, frame_ri3, frame_k4, frame_ki4, frame_ri4,
    Cert.Names.preserves, Cert.Mixers.algebraic, trivial, Cert.InProj.algebraic, trivial, Cert.Merge.algebraic, trivial, Cert.Embed.algebraic⟩

end Cert.Proof

end
